-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_name_experts_KernelIdeal [hPre_routes_name_experts_KernelIdeal : Cert.Pre_routes_name_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_name_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_name_experts_ReferenceIdeal [hPre_routes_name_experts_ReferenceIdeal : Cert.Pre_routes_name_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_name_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_name_experts_KernelIdeal [hKernelIdeal : Cert.KernelIdeal.Facts] [hPre_routes_name_experts_KernelIdeal : Cert.Pre_routes_name_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_name_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_name_experts_ReferenceIdeal [hReferenceIdeal : Cert.ReferenceIdeal.Facts] [hPre_routes_name_experts_ReferenceIdeal : Cert.Pre_routes_name_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_name_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_name_experts_KernelIdeal [hKernelIdeal : Cert.KernelIdeal.Facts] [hReferenceIdeal : Cert.ReferenceIdeal.Facts] [hPre_routes_name_experts_KernelIdeal : Cert.Pre_routes_name_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_name_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_name_experts_KernelIdeal : Cert.Pre_routes_name_experts_KernelIdeal.Facts) (hPre_routes_name_experts_ReferenceIdeal : Cert.Pre_routes_name_experts_ReferenceIdeal.Facts),
    quiescent_Kernel (hKernel := hKernel)
    ∧ quiescent_KernelIdeal (hKernelIdeal := hKernelIdeal)
    ∧ quiescent_KernelIdeal_pre_routes_name_experts_KernelIdeal (hKernelIdeal := hKernelIdeal) (hPre_routes_name_experts_KernelIdeal := hPre_routes_name_experts_KernelIdeal)
    ∧ quiescent_ReferenceIdeal (hReferenceIdeal := hReferenceIdeal)
    ∧ quiescent_ReferenceIdeal_pre_routes_name_experts_ReferenceIdeal (hReferenceIdeal := hReferenceIdeal) (hPre_routes_name_experts_ReferenceIdeal := hPre_routes_name_experts_ReferenceIdeal)
    ∧ preserves_Kernel_KernelIdeal
    ∧ algebraic_KernelIdeal_ReferenceIdeal_pre_routes_name_experts_KernelIdeal (hKernelIdeal := hKernelIdeal) (hReferenceIdeal := hReferenceIdeal) (hPre_routes_name_experts_KernelIdeal := hPre_routes_name_experts_KernelIdeal)
-- ==== Pre_routes_name_experts_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .f32) (main_arg1 : FVec F S1024x32 .f32) (main_arg2 : IVec S2048x1 32) (main_arg3 : FVec F S8x1024x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Pre_routes_name_experts_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .f32) (main_arg1 : FVec F S1024x32 .f32) (main_arg2 : IVec S2048x1 32) (main_arg3 : FVec F S32x1024x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S_ : Shape := ⟨0, ![]⟩
abbrev S2048 : Shape := ⟨1, ![2048]⟩
abbrev S32 : Shape := ⟨1, ![32]⟩
abbrev S1x32 : Shape := ⟨2, ![1, 32]⟩
abbrev S2048x32 : Shape := ⟨2, ![2048, 32]⟩
abbrev S64x32x32 : Shape := ⟨3, ![64, 32, 32]⟩
abbrev S32x32 : Shape := ⟨2, ![32, 32]⟩
abbrev S1x32x32x1 : Shape := ⟨4, ![1, 32, 32, 1]⟩
abbrev S64x1x32x32 : Shape := ⟨4, ![64, 1, 32, 32]⟩
abbrev S64x32x32x32 : Shape := ⟨4, ![64, 32, 32, 32]⟩
abbrev S64x64 : Shape := ⟨2, ![64, 64]⟩
abbrev S64x64x1 : Shape := ⟨3, ![64, 64, 1]⟩
abbrev S64x32 : Shape := ⟨2, ![64, 32]⟩
abbrev S1x64x32 : Shape := ⟨3, ![1, 64, 32]⟩
abbrev S64x64x32 : Shape := ⟨3, ![64, 64, 32]⟩
abbrev S64x1x32 : Shape := ⟨3, ![64, 1, 32]⟩
abbrev S512 : Shape := ⟨1, ![512]⟩
abbrev S1x2048 : Shape := ⟨2, ![1, 2048]⟩
abbrev S512x1 : Shape := ⟨2, ![512, 1]⟩
abbrev S512x2048 : Shape := ⟨2, ![512, 2048]⟩
abbrev S1 : Shape := ⟨1, ![1]⟩
abbrev S4 : Shape := ⟨1, ![4]⟩
abbrev S4x1 : Shape := ⟨2, ![4, 1]⟩
abbrev S1x512 : Shape := ⟨2, ![1, 512]⟩
abbrev S4x512 : Shape := ⟨2, ![4, 512]⟩
abbrev S2048x2048 : Shape := ⟨2, ![2048, 2048]⟩
abbrev S512x1024 : Shape := ⟨2, ![512, 1024]⟩
abbrev S2x1024x1024 : Shape := ⟨3, ![2, 1024, 1024]⟩
abbrev S2 : Shape := ⟨1, ![2]⟩
abbrev S8 : Shape := ⟨1, ![8]⟩
abbrev S1x1024x1024 : Shape := ⟨3, ![1, 1024, 1024]⟩
abbrev S1024x1024 : Shape := ⟨2, ![1024, 1024]⟩
abbrev S64x1024 : Shape := ⟨2, ![64, 1024]⟩
abbrev S2048x512 : Shape := ⟨2, ![2048, 512]⟩
abbrev S256x1024 : Shape := ⟨2, ![256, 1024]⟩

abbrev nBuf : Space → Nat
  | .hbm => 178
  | .vmem => 8
  | .smem => 0
  | _ => 0

abbrev hbmTy0_0 (i : Nat) : BufTy := match i % 128 with
  | 0 => ⟨S2048x1024, .f32⟩
  | 1 => ⟨S1024x32, .f32⟩
  | 2 => ⟨S2048x1, .i32⟩
  | 3 => ⟨S8x1024x1024, .f32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S2048, .i32⟩
  | 11 => ⟨S2048x1, .i32⟩
  | 12 => ⟨S32, .i32⟩
  | 13 => ⟨S1x32, .i32⟩
  | 14 => ⟨S2048x32, .i32⟩
  | 15 => ⟨S2048x32, .i32⟩
  | 16 => ⟨S2048x32, .i1⟩
  | 17 => ⟨S2048x32, .f32⟩
  | 18 => ⟨S64x32x32, .f32⟩
  | 19 => ⟨S_, .f32⟩
  | 20 => ⟨S32x32, .f32⟩
  | 21 => ⟨S32x32, .i32⟩
  | 22 => ⟨S_, .i32⟩
  | 23 => ⟨S32x32, .i32⟩
  | 24 => ⟨S32x32, .i32⟩
  | 25 => ⟨S32x32, .i32⟩
  | 26 => ⟨S32x32, .i1⟩
  | 27 => ⟨S_, .f32⟩
  | 28 => ⟨S32x32, .f32⟩
  | 29 => ⟨S32x32, .f32⟩
  | 30 => ⟨S1x32x32x1, .f32⟩
  | 31 => ⟨S64x1x32x32, .f32⟩
  | 32 => ⟨S64x32x32x32, .f32⟩
  | 33 => ⟨S64x32x32x32, .f32⟩
  | 34 => ⟨S64x32x32x32, .f32⟩
  | 35 => ⟨S_, .f32⟩
  | 36 => ⟨S64x32x32, .f32⟩
  | 37 => ⟨S_, .f32⟩
  | 38 => ⟨S64x64, .f32⟩
  | 39 => ⟨S64x64, .i32⟩
  | 40 => ⟨S_, .i32⟩
  | 41 => ⟨S64x64, .i32⟩
  | 42 => ⟨S64x64, .i32⟩
  | 43 => ⟨S64x64, .i32⟩
  | 44 => ⟨S64x64, .i1⟩
  | 45 => ⟨S_, .f32⟩
  | 46 => ⟨S64x64, .f32⟩
  | 47 => ⟨S64x64, .f32⟩
  | 48 => ⟨S64x64x1, .f32⟩
  | 49 => ⟨S_, .f32⟩
  | 50 => ⟨S64x32, .f32⟩
  | 51 => ⟨S1x64x32, .f32⟩
  | 52 => ⟨S64x64x32, .f32⟩
  | 53 => ⟨S64x64x32, .f32⟩
  | 54 => ⟨S64x64x32, .f32⟩
  | 55 => ⟨S_, .f32⟩
  | 56 => ⟨S64x32, .f32⟩
  | 57 => ⟨S64x1x32, .f32⟩
  | 58 => ⟨S64x32x32, .f32⟩
  | 59 => ⟨S64x32x32, .f32⟩
  | 60 => ⟨S64x32x32, .f32⟩
  | 61 => ⟨S_, .f32⟩
  | 62 => ⟨S64x32, .f32⟩
  | 63 => ⟨S2048, .f32⟩
  | 64 => ⟨S2048, .i32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S_, .i32⟩
  | 73 => ⟨S_, .i32⟩
  | 74 => ⟨S512, .i32⟩
  | 75 => ⟨S512, .i32⟩
  | 76 => ⟨S512, .i32⟩
  | 77 => ⟨S1x2048, .i32⟩
  | 78 => ⟨S512x1, .i32⟩
  | 79 => ⟨S512x2048, .i32⟩
  | 80 => ⟨S512x2048, .i32⟩
  | 81 => ⟨S512x2048, .i1⟩
  | 82 => ⟨S1x2048, .i1⟩
  | 83 => ⟨S512x2048, .i1⟩
  | 84 => ⟨S512x2048, .i1⟩
  | 85 => ⟨S_, .f32⟩
  | 86 => ⟨S_, .f32⟩
  | 87 => ⟨S512x2048, .f32⟩
  | 88 => ⟨S512x2048, .f32⟩
  | 89 => ⟨S512x2048, .f32⟩
  | 90 => ⟨S512x2048, .bf16⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i1⟩
  | 104 => ⟨S_, .i32⟩
  | 105 => ⟨S_, .i1⟩
  | 106 => ⟨S_, .i1⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i1⟩
  | 123 => ⟨S_, .i32⟩
  | 124 => ⟨S_, .i1⟩
  | 125 => ⟨S_, .i1⟩
  | 126 => ⟨S_, .i1⟩
  | 127 => ⟨S_, .i32⟩
  | _ => ⟨S2048x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i1⟩
  | 14 => ⟨S_, .i32⟩
  | 15 => ⟨S_, .i1⟩
  | 16 => ⟨S_, .i1⟩
  | 17 => ⟨S_, .i1⟩
  | 18 => ⟨S_, .i32⟩
  | 19 => ⟨S_, .i32⟩
  | 20 => ⟨S1, .i32⟩
  | 21 => ⟨S1, .i32⟩
  | 22 => ⟨S1, .i32⟩
  | 23 => ⟨S1, .i32⟩
  | 24 => ⟨S4, .i32⟩
  | 25 => ⟨S4x1, .i32⟩
  | 26 => ⟨S_, .i32⟩
  | 27 => ⟨S4x1, .i32⟩
  | 28 => ⟨S4x1, .i32⟩
  | 29 => ⟨S512, .i32⟩
  | 30 => ⟨S1x512, .i32⟩
  | 31 => ⟨S4x512, .i32⟩
  | 32 => ⟨S4x512, .i32⟩
  | 33 => ⟨S4x512, .i32⟩
  | 34 => ⟨S2048, .i32⟩
  | 35 => ⟨S2048x1, .i32⟩
  | 36 => ⟨S1x2048, .i32⟩
  | 37 => ⟨S2048x2048, .i32⟩
  | 38 => ⟨S2048x2048, .i32⟩
  | 39 => ⟨S2048x2048, .i1⟩
  | 40 => ⟨S2048x1, .i1⟩
  | 41 => ⟨S2048x2048, .i1⟩
  | 42 => ⟨S2048x2048, .i1⟩
  | 43 => ⟨S_, .f32⟩
  | 44 => ⟨S_, .f32⟩
  | 45 => ⟨S2048x2048, .f32⟩
  | 46 => ⟨S2048x2048, .f32⟩
  | 47 => ⟨S2048x2048, .f32⟩
  | 48 => ⟨S2048x2048, .bf16⟩
  | 49 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S512x2048, .bf16⟩
  | .local _ .vmem, ⟨2, _⟩ => ⟨S2048x2048, .bf16⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S2x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_cst : Ref sig .tc := ⟨.hbm, 45, rfl⟩
abbrev main_call1_v5 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_cst_10 : Ref sig .tc := ⟨.hbm, 86, rfl⟩
abbrev main_call2_v0 : Ref sig .tc := ⟨.hbm, 87, rfl⟩
abbrev main_call2_v1 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_c_12 : Ref sig .tc := ⟨.hbm, 93, rfl⟩
abbrev main_call3_v0 : Ref sig .tc := ⟨.hbm, 94, rfl⟩
abbrev main_call3_c : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_c_1 : Ref sig .tc := ⟨.hbm, 100, rfl⟩
abbrev main_call3_v4 : Ref sig .tc := ⟨.hbm, 101, rfl⟩
abbrev main_call3_c_2 : Ref sig .tc := ⟨.hbm, 102, rfl⟩
abbrev main_call3_v5 : Ref sig .tc := ⟨.hbm, 103, rfl⟩
abbrev main_call3_c_3 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_v58 : Ref sig .tc := ⟨.hbm, 109, rfl⟩
abbrev main_c_13 : Ref sig .tc := ⟨.hbm, 110, rfl⟩
abbrev main_v59 : Ref sig .tc := ⟨.hbm, 111, rfl⟩
abbrev main_c_14 : Ref sig .tc := ⟨.hbm, 112, rfl⟩
abbrev main_call4_v0 : Ref sig .tc := ⟨.hbm, 113, rfl⟩
abbrev main_call4_c : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_c_1 : Ref sig .tc := ⟨.hbm, 119, rfl⟩
abbrev main_call4_v4 : Ref sig .tc := ⟨.hbm, 120, rfl⟩
abbrev main_call4_c_2 : Ref sig .tc := ⟨.hbm, 121, rfl⟩
abbrev main_call4_v5 : Ref sig .tc := ⟨.hbm, 122, rfl⟩
abbrev main_call4_c_3 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_v60 : Ref sig .tc := ⟨.hbm, 128, rfl⟩
abbrev main_c_15 : Ref sig .tc := ⟨.hbm, 129, rfl⟩
abbrev main_v61 : Ref sig .tc := ⟨.hbm, 130, rfl⟩
abbrev main_c_16 : Ref sig .tc := ⟨.hbm, 131, rfl⟩
abbrev main_call5_v0 : Ref sig .tc := ⟨.hbm, 132, rfl⟩
abbrev main_call5_c : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_c_1 : Ref sig .tc := ⟨.hbm, 138, rfl⟩
abbrev main_call5_v4 : Ref sig .tc := ⟨.hbm, 139, rfl⟩
abbrev main_call5_c_2 : Ref sig .tc := ⟨.hbm, 140, rfl⟩
abbrev main_call5_v5 : Ref sig .tc := ⟨.hbm, 141, rfl⟩
abbrev main_call5_c_3 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_c_17 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_cst_18 : Ref sig .tc := ⟨.hbm, 171, rfl⟩
abbrev main_cst_19 : Ref sig .tc := ⟨.hbm, 172, rfl⟩
abbrev main_call6_v0 : Ref sig .tc := ⟨.hbm, 173, rfl⟩
abbrev main_call6_v1 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_59 : BitVec 32 := 1#32
  let v71 : BitVec 32 := Scalar.muli v24 c1_i32_59
  let v72 : BitVec 32 := Scalar.addi c0_i32_60 v71
  v72.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_66 : BitVec 32 := 1#32
  let v79 : BitVec 32 := Scalar.muli v13 c1_i32_66
  let v80 : BitVec 32 := Scalar.addi c0_i32_67 v79
  v80.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v108 : BitVec 32 := Scalar.muli v24 c1_i32_93
  let v109 : BitVec 32 := Scalar.addi c0_i32_94 v108
  v109.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_99 : BitVec 32 := 1#32
  let v116 : BitVec 32 := Scalar.muli v13 c1_i32_99
  let v117 : BitVec 32 := Scalar.addi c0_i32_100 v116
  v117.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_126 : BitVec 32 := 1#32
  let v145 : BitVec 32 := Scalar.muli v24 c1_i32_126
  let v146 : BitVec 32 := Scalar.addi c0_i32_127 v145
  v146.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_132 : BitVec 32 := 1#32
  let v153 : BitVec 32 := Scalar.muli v13 c1_i32_132
  let v154 : BitVec 32 := Scalar.addi c0_i32_133 v153
  v154.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_160 : BitVec 32 := 1#32
  let v182 : BitVec 32 := Scalar.muli v24 c1_i32_160
  let v183 : BitVec 32 := Scalar.addi c0_i32_161 v182
  v183.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_166 : BitVec 32 := 1#32
  let v190 : BitVec 32 := Scalar.muli v13 c1_i32_166
  let v191 : BitVec 32 := Scalar.addi c0_i32_167 v190
  v191.toNat
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_193 : BitVec 32 := 1#32
  let v219 : BitVec 32 := Scalar.muli v24 c1_i32_193
  let v220 : BitVec 32 := Scalar.addi c0_i32_194 v219
  v220.toNat
def k0_dev12 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v227 : BitVec 32 := Scalar.muli v13 c1_i32_199
  let v228 : BitVec 32 := Scalar.addi c0_i32_200 v227
  v228.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_226 : BitVec 32 := 1#32
  let v256 : BitVec 32 := Scalar.muli v24 c1_i32_226
  let v257 : BitVec 32 := Scalar.addi c0_i32_227 v256
  v257.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_232 : BitVec 32 := 1#32
  let v264 : BitVec 32 := Scalar.muli v13 c1_i32_232
  let v265 : BitVec 32 := Scalar.addi c0_i32_233 v264
  v265.toNat
def k0_dev15 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_259 : BitVec 32 := 1#32
  let v293 : BitVec 32 := Scalar.muli v24 c1_i32_259
  let v294 : BitVec 32 := Scalar.addi c0_i32_260 v293
  v294.toNat
def k0_dev16 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_265 : BitVec 32 := 1#32
  let v301 : BitVec 32 := Scalar.muli v13 c1_i32_265
  let v302 : BitVec 32 := Scalar.addi c0_i32_266 v301
  v302.toNat
def k0_dev17 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_286 : BitVec 32 := 1#32
  let v324 : BitVec 32 := Scalar.muli v24 c1_i32_286
  let v325 : BitVec 32 := Scalar.addi c0_i32_287 v324
  v325.toNat
def k0_dev18 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_292 : BitVec 32 := 1#32
  let v332 : BitVec 32 := Scalar.muli v13 c1_i32_292
  let v333 : BitVec 32 := Scalar.addi c0_i32_293 v332
  v333.toNat
def k0_dev19 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_370 : BitVec 32 := 1#32
  let v393 : BitVec 32 := Scalar.muli v24 c1_i32_370
  let v394 : BitVec 32 := Scalar.addi c0_i32_371 v393
  v394.toNat
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_449 : BitVec 32 := 1#32
  let v457 : BitVec 32 := Scalar.muli v13 c1_i32_449
  let v458 : BitVec 32 := Scalar.addi c0_i32_450 v457
  v458.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S32 : Shape := ⟨1, ![32]⟩
abbrev S1x32 : Shape := ⟨2, ![1, 32]⟩
abbrev S2048x32 : Shape := ⟨2, ![2048, 32]⟩
abbrev S2048x32x1024 : Shape := ⟨3, ![2048, 32, 1024]⟩
abbrev S2048x32x1 : Shape := ⟨3, ![2048, 32, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S2048, .i32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S2048x1, .i32⟩
  | .hbm, ⟨21, _⟩ => ⟨S32, .i32⟩
  | .hbm, ⟨22, _⟩ => ⟨S1x32, .i32⟩
  | .hbm, ⟨23, _⟩ => ⟨S2048x32, .i32⟩
  | .hbm, ⟨24, _⟩ => ⟨S2048x32, .i32⟩
  | .hbm, ⟨25, _⟩ => ⟨S2048x32, .i1⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048x1, .i1⟩
  | .hbm, ⟨30, _⟩ => ⟨S2048x32, .i1⟩
  | .hbm, ⟨31, _⟩ => ⟨S2048x32, .i1⟩
  | .hbm, ⟨32, _⟩ => ⟨S2048x32x1024, .f32⟩
  | .hbm, ⟨33, _⟩ => ⟨S2048x32x1, .i1⟩
  | .hbm, ⟨34, _⟩ => ⟨S_, .f32⟩
  | .hbm, ⟨35, _⟩ => ⟨S_, .f32⟩
  | .hbm, ⟨36, _⟩ => ⟨S2048x32x1024, .i1⟩
  | .hbm, ⟨37, _⟩ => ⟨S2048x32x1024, .f32⟩
  | .hbm, ⟨38, _⟩ => ⟨S2048x32x1024, .f32⟩
  | .hbm, ⟨39, _⟩ => ⟨S_, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.KI.Vals.lean ====
/- The values that the kernel's region computes, the element sets its transfers name, and how a transfer's write reads
   at those sets. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Moe

open Cert.KernelIdeal Cert.KernelIdeal.Gen
open Idealize.ShloMosaic Idealize.ShloMosaic.TcCoe Idealize.SL.Sem

variable {F : FTy → Type} [FloatOps F]

/-! ## The two neighbours on the ring of four devices -/

/-- The device one place further round the ring. -/
def nxt (c : Dev nD) : Dev nD := ⟨(c.val + 1) % 4, Nat.mod_lt _ (by decide)⟩
/-- The device one place back round the ring. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- Two places back is two places on. -/
theorem prv_prv (c : Dev nD) : prv (prv c) = nxt (nxt c) := by revert c; decide
/-- One place round the ring, as a bijection of the devices. -/
def ring : Dev nD ≃ Dev nD := ⟨nxt, prv, prv_nxt, nxt_prv⟩

/-! ## What the region is given, and what it computes -/

/-- What each device holds when it enters the region: the tokens, the table that gathers its own experts' rows, the
    table that puts every expert's rows back, and its own experts' weights. -/
structure Ins (F : FTy → Type) where
  x : Dev nD → Vec F S2048x1024 .f32
  d : Dev nD → Vec F S512x2048 .bf16
  u : Dev nD → Vec F S2048x2048 .bf16
  w : Dev nD → Vec F S8x1024x1024 .f32

/-- A row and a column as an index of a matrix. -/
abbrev ix2 {a b : ℕ} (r : ℕ) (hr : r < a) (k : Fin b) : (⟨2, ![a, b]⟩ : Shape).Idx := Shape.pair (d := ![a, b]) ⟨r, hr⟩ k

/-- Three coordinates as an index. -/
def ix3 {a b c : ℕ} (r : ℕ) (hr : r < a) (k : Fin b) (l : Fin c) : (⟨3, ![a, b, c]⟩ : Shape).Idx := fun j =>
  ⟨if j.val = 0 then r else if j.val = 1 then k.val else l.val, by
    rcases j with ⟨_ | _ | _ | n, hj⟩
    · exact hr
    · exact k.isLt
    · exact l.isLt
    · exact absurd hj (by simp)⟩

variable (I : Ins F)

/-- The tokens, narrowed. -/
def xb (c : Dev nD) : Vec F S2048x1024 .bf16 := k0_pay1 (I.x c)
/-- The gathered rows of device `c`'s eight experts, 64 rows each. -/
def xg (c : Dev nD) : Vec F S512x1024 .bf16 := k0_pay2 (I.d c) (xb I c)
/-- The rows of its expert `e`. -/
def xgRows (c : Dev nD) (e : Fin 8) : Vec F S64x1024 .bf16 := fun i => xg I c (ix2 (64 * e.val + (i 0).val) (by have h : (i 0).val < 64 := (i 0).isLt; have := e.isLt; omega) (i 1))
/-- The weights of its expert `e`. -/
def wv (c : Dev nD) (e : Fin 8) : Vec F S1x1024x1024 .f32 := fun i => I.w c (ix3 e.val e.isLt (i 1) (i 2))
/-- What device `c` computes for its expert `e`. -/
def Yc (c : Dev nD) (e : Fin 8) : Vec F S64x1024 .bf16 := k0_pay3 (xgRows I c e) (wv I c e)

/-- The device whose rows the `k`-th quarter of device `c`'s gathered buffer holds. -/
def dv (c : Dev nD) (k : ℕ) : Dev nD := if k = 0 then c else if k = 1 then prv c else if k = 2 then nxt c else nxt (nxt c)

/-- The gathered buffer at the end: a quarter per device, 64 rows per expert. -/
def G (c : Dev nD) : Vec F S2048x1024 .bf16 := fun i =>
  Yc I (dv c ((i 0).val / 512)) ⟨((i 0).val % 512) / 64, by omega⟩ (ix2 ((i 0).val % 64) (Nat.mod_lt _ (by decide)) (i 1))

/-- Quarter `k` of the gathered buffer. -/
def yb (c : Dev nD) (k : Fin 4) : Vec F S512x1024 .bf16 := fun i =>
  G I c (ix2 (512 * k.val + (i 0).val) (by have h : (i 0).val < 512 := (i 0).isLt; have := k.isLt; omega) (i 1))
/-- The columns of the second table that go with quarter `k`. -/
def ub (c : Dev nD) (k : Fin 4) : Vec F S2048x512 .bf16 := fun i =>
  I.u c (Shape.pair (d := ![2048, 2048]) (i 0) ⟨512 * k.val + (i 1).val, by have h : (i 1).val < 512 := (i 1).isLt; have := k.isLt; show 512 * k.val + (i 1).val < 2048; omega⟩)

/-- The running sum of the four quarters' products. -/
def o0 (c : Dev nD) : Vec F S2048x1024 .f32 := k0_pay13 (ub I c 0) (yb I c 0)
def o1 (c : Dev nD) : Vec F S2048x1024 .f32 := k0_pay14 (ub I c 1) (yb I c 1) (o0 I c)
def o2 (c : Dev nD) : Vec F S2048x1024 .f32 := k0_pay15 (ub I c 2) (yb I c 2) (o1 I c)
/-- What device `c` leaves as its result. -/
def o3 (c : Dev nD) : Vec F S2048x1024 .f32 := k0_pay16 (ub I c 3) (yb I c 3) (o2 I c)

/-- The weight buffer with every slot holding expert `e`'s weights. -/
def WB (c : Dev nD) (e : Fin 8) : Vec F S2x1024x1024 .f32 := fun i => I.w c (ix3 e.val e.isLt (i 1) (i 2))

/-! ## The buffers and their pieces -/

abbrev xM : Memref sig .tc .vmem S2048x1024 .f32 := Memref.whole cc0_stg0_0
abbrev dM : Memref sig .tc .vmem S512x2048 .bf16 := Memref.whole cc0_stg1_0
abbrev uM : Memref sig .tc .vmem S2048x2048 .bf16 := Memref.whole cc0_stg2_0
abbrev oM : Memref sig .tc .vmem S2048x1024 .f32 := Memref.whole cc0_stg3_0
abbrev wM : Memref sig .tc .hbm S8x1024x1024 .f32 := Memref.whole main_arg3
abbrev yM : Memref sig .tc .vmem S2048x1024 .bf16 := Memref.whole cc0_scratch0
abbrev bM : Memref sig .tc .vmem S2048x1024 .bf16 := Memref.whole cc0_scratch1
abbrev gM : Memref sig .tc .vmem S512x1024 .bf16 := Memref.whole cc0_scratch2
abbrev kM : Memref sig .tc .vmem S2x1024x1024 .f32 := Memref.whole cc0_scratch3

/-- Rows `o` to `o + n` of the gathered buffer. -/
def rows (o n : ℕ) : Finset S2048x1024.Idx := Finset.univ.filter fun i => o ≤ (i 0).val ∧ (i 0).val < o + n
/-- Slot `s` of the weight buffer. -/
def wslot (s : ℕ) : Finset S2x1024x1024.Idx := Finset.univ.filter fun i => (i 0).val = s
/-- Expert `e`'s weights. -/
def wset (e : ℕ) : Finset S8x1024x1024.Idx := Finset.univ.filter fun i => (i 0).val = e

theorem mem_rows {o n : ℕ} {i : S2048x1024.Idx} : i ∈ rows o n ↔ o ≤ (i 0).val ∧ (i 0).val < o + n := by
  unfold rows; rw [Finset.mem_filter]; exact ⟨fun h => h.2, fun h => ⟨Finset.mem_univ _, h⟩⟩
theorem mem_wslot {s : ℕ} {i : S2x1024x1024.Idx} : i ∈ wslot s ↔ (i 0).val = s := by
  unfold wslot; rw [Finset.mem_filter]; exact ⟨fun h => h.2, fun h => ⟨Finset.mem_univ _, h⟩⟩
theorem mem_wset {s : ℕ} {i : S8x1024x1024.Idx} : i ∈ wset s ↔ (i 0).val = s := by
  unfold wset; rw [Finset.mem_filter]; exact ⟨fun h => h.2, fun h => ⟨Finset.mem_univ _, h⟩⟩

theorem rows_univ : rows 0 2048 = Finset.univ := by
  ext i; rw [mem_rows]; have h : (i 0).val < 2048 := (i 0).isLt
  exact ⟨fun _ => Finset.mem_univ _, fun _ => ⟨Nat.zero_le _, by omega⟩⟩

theorem rows_union (o n k : ℕ) : rows o (n + k) = rows o n ∪ rows (o + n) k := by
  ext i; rw [Finset.mem_union, mem_rows, mem_rows, mem_rows]; omega
theorem rows_disj {o n o' n' : ℕ} (h : o + n ≤ o' ∨ o' + n' ≤ o) : Disjoint (rows o n) (rows o' n') :=
  Finset.disjoint_left.mpr fun i hi hj => by rw [mem_rows] at hi hj; omega
theorem rows_sub {o n o' n' : ℕ} (h : o' ≤ o) (h' : o + n ≤ o' + n') : rows o n ⊆ rows o' n' := fun i hi => by
  rw [mem_rows] at hi ⊢; omega

/-- A block of rows sliced off the gathered buffer is those rows. -/
theorem set_rows {o n : ℕ} (h : ∀ a, (![o, 0] : Fin 2 → ℕ) a + (![n, 1024] : Fin 2 → ℕ) a ≤ S2048x1024.size a) :
    (Rect.unit (s := S2048x1024) ![o, 0] ![n, 1024] h).set = rows o n := by
  ext i
  rw [Rect.mem_set_unit, mem_rows]
  constructor
  · intro H; exact H 0
  · intro H a
    have h1 : (i 1).val < 1024 := (i 1).isLt
    match a with
    | ⟨0, _⟩ => exact H
    | ⟨1, _⟩ => exact ⟨Nat.zero_le _, by show (i 1).val < 0 + 1024; omega⟩

theorem set_wslot {s : ℕ} (h : ∀ a, (![s, 0, 0] : Fin 3 → ℕ) a + S1x1024x1024.size a ≤ S2x1024x1024.size a) :
    (Rect.unit (s := S2x1024x1024) ![s, 0, 0] S1x1024x1024.size h).set = wslot s := by
  ext i
  rw [Rect.mem_set_unit, mem_wslot]
  have h1 : (i 1).val < 1024 := (i 1).isLt
  have h2 : (i 2).val < 1024 := (i 2).isLt
  constructor
  · intro H; have := H 0; show (i 0).val = s; have a1 : s ≤ (i 0).val := this.1; have a2 : (i 0).val < s + 1 := this.2; omega
  · intro H a
    match a with
    | ⟨0, _⟩ => exact ⟨by show s ≤ (i 0).val; omega, by show (i 0).val < s + 1; omega⟩
    | ⟨1, _⟩ => exact ⟨Nat.zero_le _, by show (i 1).val < 0 + 1024; omega⟩
    | ⟨2, _⟩ => exact ⟨Nat.zero_le _, by show (i 2).val < 0 + 1024; omega⟩

theorem set_wset {s : ℕ} (h : ∀ a, (![s, 0, 0] : Fin 3 → ℕ) a + S1x1024x1024.size a ≤ S8x1024x1024.size a) :
    (Rect.unit (s := S8x1024x1024) ![s, 0, 0] S1x1024x1024.size h).set = wset s := by
  ext i
  rw [Rect.mem_set_unit, mem_wset]
  have h1 : (i 1).val < 1024 := (i 1).isLt
  have h2 : (i 2).val < 1024 := (i 2).isLt
  constructor
  · intro H; have := H 0; show (i 0).val = s; have a1 : s ≤ (i 0).val := this.1; have a2 : (i 0).val < s + 1 := this.2; omega
  · intro H a
    match a with
    | ⟨0, _⟩ => exact ⟨by show s ≤ (i 0).val; omega, by show (i 0).val < s + 1; omega⟩
    | ⟨1, _⟩ => exact ⟨Nat.zero_le _, by show (i 1).val < 0 + 1024; omega⟩
    | ⟨2, _⟩ => exact ⟨Nat.zero_le _, by show (i 2).val < 0 + 1024; omega⟩

/-! ## The contents of the gathered buffer, piece by piece -/

/-- On its own quarter, chunk `e`: what the device computes for its expert `e`. -/
theorem G_own (c : Dev nD) (e : Fin 8) (i : S64x1024.Idx) :
    G I c (ix2 (64 * e.val + (i 0).val) (by have h : (i 0).val < 64 := (i 0).isLt; have := e.isLt; omega) (i 1)) = Yc I c e i := by
  have h0 : (i 0).val < 64 := (i 0).isLt
  have he := e.isLt
  unfold G
  have e1 : (64 * e.val + (i 0).val) / 512 = 0 := by omega
  have e2 : ((64 * e.val + (i 0).val) % 512) / 64 = e.val := by omega
  have e3 : (64 * e.val + (i 0).val) % 64 = (i 0).val := by omega
  have e4 : (⟨((64 * e.val + (i 0).val) % 512) / 64, by omega⟩ : Fin 8) = e := Fin.ext e2
  show Yc I (dv c ((64 * e.val + (i 0).val) / 512)) ⟨((64 * e.val + (i 0).val) % 512) / 64, by omega⟩ (ix2 ((64 * e.val + (i 0).val) % 64) _ (i 1)) = _
  rw [e4, e1]
  show Yc I c e _ = _
  congr 1
  rw [← Shape.pair_eta i]
  funext a
  match a with
  | ⟨0, _⟩ => exact Fin.ext e3
  | ⟨1, _⟩ => rfl

/-- Rows of one device's buffer that another device's buffer repeats, `k` rows further on: the quarters agree in which
    device they hold. -/
theorem G_shift (c p : Dev nD) (o k n q q' : ℕ) (hq : 512 * q ≤ o) (hq' : o + n ≤ 512 * q + 512) (hk : o + k = 512 * q' + (o - 512 * q))
    (hd : dv c q = dv p q') (r : ℕ) (hr : o ≤ r) (hr' : r < o + n) (h1 : r < 2048) (h2 : r + k < 2048) (j : Fin 1024) :
    G I p (ix2 (r + k) h2 j) = G I c (ix2 r h1 j) := by
  unfold G
  show Yc I (dv p ((r + k) / 512)) ⟨((r + k) % 512) / 64, by omega⟩ (ix2 ((r + k) % 64) (Nat.mod_lt _ (by decide)) j)
    = Yc I (dv c (r / 512)) ⟨(r % 512) / 64, by omega⟩ (ix2 (r % 64) (Nat.mod_lt _ (by decide)) j)
  have a1 : r / 512 = q := by omega
  have a2 : (r + k) / 512 = q' := by omega
  have a3 : (r + k) % 512 = r % 512 := by omega
  have a4 : (r + k) % 64 = r % 64 := by omega
  have b1 : (⟨((r + k) % 512) / 64, by omega⟩ : Fin 8) = ⟨(r % 512) / 64, by omega⟩ := Fin.ext (by show ((r + k) % 512) / 64 = (r % 512) / 64; rw [a3])
  rw [b1, a1, a2, hd]
  congr 1
  funext a
  match a with
  | ⟨0, _⟩ => exact Fin.ext a4
  | ⟨1, _⟩ => rfl

end Cert.KernelIdeal.Moe

end
-- ==== Proof.KI.Sched.lean ====
/- The schedule of the region's semaphore cells: who pays each round and what the payment delivers; what each device
   owes, in the order in which it pays; and the levels that order the waits. -/
module

public import proofs.«01_k».proof.Proof.KI.Vals
public import Idealize.ShloMosaic.Lib.Pipeline.Launch
public import Idealize.ShloMosaic.Lib.Rounds.Family
public import Idealize.ShloMosaic.Lib.Tactic

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

abbrev UB := URounds (GSem nD τ sig) Bool
abbrev UU := UR sig nD τ × UB
local notation "𝕄" => MT nD τ sig Unit (Elt F) ℕ UU ℕ
abbrev EP : Emb (UR sig nD τ) 𝕄 := embL
abbrev ER : Emb UB 𝕄 := embR

variable (I : Ins F)

/-! ## Points-to facts at sets of rows -/

/-- Device `c`'s gathered buffer, at a set of its elements. -/
def yPts (c : Dev nD) (S : Finset S2048x1024.Idx) (q : PosShare TreeShare) (f : Vec F S2048x1024 .bf16) : sProp 𝕄 :=
  (yM.view.loc (c : Thread nD τ)) ↦[S]{q} f
/-- Device `c`'s weight buffer, at a set of its elements. -/
def kPts (c : Dev nD) (S : Finset S2x1024x1024.Idx) (q : PosShare TreeShare) (f : Vec F S2x1024x1024 .f32) : sProp 𝕄 :=
  (kM.view.loc (c : Thread nD τ)) ↦[S]{q} f
/-- Device `c`'s expert weights, at a set of their elements. -/
def wPts (c : Dev nD) (S : Finset S8x1024x1024.Idx) (q : PosShare TreeShare) (f : Vec F S8x1024x1024 .f32) : sProp 𝕄 :=
  (wM.view.loc (c : Thread nD τ)) ↦[S]{q} f

omit [FloatOps F] in
instance yPts_storable (c : Dev nD) (S q f) : BI.Storable (upEmb : UEmb _ 𝕄) (yPts (F := F) c S q f) := by unfold yPts; infer_instance
omit [FloatOps F] in
instance kPts_storable (c : Dev nD) (S q f) : BI.Storable (upEmb : UEmb _ 𝕄) (kPts (F := F) c S q f) := by unfold kPts; infer_instance
omit [FloatOps F] in
instance wPts_storable (c : Dev nD) (S q f) : BI.Storable (upEmb : UEmb _ 𝕄) (wPts (F := F) c S q f) := by unfold wPts; infer_instance

/-! ## The cells -/

/-- The counter of the `n`-th transfer semaphore of device `c`. -/
abbrev dcell (c : Dev nD) (q : DmaSem sig) : GSem nD τ sig := ((c : Thread nD τ), .dma q)
/-- The barrier's counter on device `c`. -/
abbrev bcell (c : Dev nD) : GSem nD τ sig := ((c : Thread nD τ), .reg barrier0)

/-- The region's transfer semaphores, behind the four that stage its windows: two for the weights' copies, eight
    for each direction's sends, eight for each direction's arrivals, two for the forwards and two for their arrivals. -/
def osm (k : Fin 38) : DmaSem sig := ⟨4 + k.val, by have := k.isLt; show 4 + k.val < 42; omega⟩
theorem osm_inj : Function.Injective osm := fun a b h => Fin.ext (by have := congrArg Fin.val h; simp only [osm] at this; omega)

/-- Credit of one copy of an expert's weights, of one 64-row chunk, and of one 256-row forward. -/
@[irreducible] def NW : ℕ := sig.dmaCredit .tc (Kind.tc.table .vmem) kM.view.buf S1024x1024 .f32
@[irreducible] def N64 : ℕ := sig.dmaCredit .tc (Kind.tc.table .vmem) yM.view.buf S64x1024 .bf16
@[irreducible] def N256 : ℕ := sig.dmaCredit .tc (Kind.tc.table .vmem) yM.view.buf S256x1024 .bf16
theorem NW_pos : 0 < NW := by unfold NW; exact sig.dmaCredit_pos _ _ _ _ _ (by decide)
theorem N64_pos : 0 < N64 := by unfold N64; exact sig.dmaCredit_pos _ _ _ _ _ (by decide)
theorem N256_pos : 0 < N256 := by unfold N256; exact sig.dmaCredit_pos _ _ _ _ _ (by decide)

/-- Which rows the transfer on semaphore `q` accounts for, on the device that waits for it: its own chunk for a send,
    the arriving chunk for an arrival, the forwarded rows for a forward. -/
def roff (q : ℕ) : ℕ :=
  if q < 14 then 64 * (q - 6) else if q < 22 then 64 * (q - 14) else if q < 30 then 512 + 64 * (q - 22)
  else if q < 38 then 1024 + 64 * (q - 30) else if q = 38 then 512 else if q = 39 then 1280 else if q = 40 then 1536 else 1792
def rlen (q : ℕ) : ℕ := if q < 38 then 64 else 256
/-- At which share: a send returns the share that was lent to it; what arrives is owned outright. -/
def rsh (q : ℕ) : PosShare TreeShare :=
  if q < 14 then fullShare.left else if q < 22 then fullShare.right.left else if q < 38 then fullShare
  else if q < 40 then fullShare.left else fullShare

/-- What a device gives its predecessor with its barrier signal: the rows into which the predecessor will send, and that
    its transfer cells are open. -/
def payT (d : Dev nD) : sProp 𝕄 :=
  iprop((∃ f, yPts (nxt d) (rows 512 512) fullShare f) ∗ (∃ f, yPts (nxt d) (rows 1536 256) fullShare f)
    ∗ bigSep Finset.univ fun k : Fin 38 => reached ER (dcell (nxt d) (osm k)) 0)
/-- What it gives its successor. -/
def payF (d : Dev nD) : sProp 𝕄 :=
  iprop((∃ f, yPts (prv d) (rows 1024 512) fullShare f) ∗ (∃ f, yPts (prv d) (rows 1792 256) fullShare f)
    ∗ bigSep Finset.univ fun k : Fin 38 => reached ER (dcell (prv d) (osm k)) 0)
/-- What the copy of expert `e`'s weights delivers: the slot holding them, and the weights' own elements back. -/
def payW (c : Dev nD) (e : Fin 8) (s : ℕ) : sProp 𝕄 := iprop(kPts c (wslot s) fullShare (WB I c e) ∗ wPts c (wset e.val) fullShare (I.w c))
/-- What the transfer on semaphore `q` delivers. -/
def payY (c : Dev nD) (q : ℕ) : sProp 𝕄 := yPts c (rows (roff q) (rlen q)) (rsh q) (G I c)

/-- Which rounds a semaphore has. -/
def nrounds : SemLoc sig → ℕ
  | .reg _ => 1
  | .dma q => if q.val < 4 then 0 else if q.val < 6 then 4 else 1

/-- The schedule. -/
def moeRd : Rounds.Schedule (GSem nD τ sig) Bool 𝕄 where
  duties g r := if r < nrounds g.2 then (match g.2 with | .reg _ => Finset.univ | .dma _ => {false}) else ∅
  unitless _ := False
  amount g _ _ := match g.2 with
    | .reg _ => 1
    | .dma q => if q.val < 6 then NW else if q.val < 38 then N64 else N256
  payload g r d := match g.2 with
    | .reg _ => if d then payT g.1.1 else payF g.1.1
    | .dma q => if q.val < 6 then payW I g.1.1 ⟨(2 * r + (q.val - 4)) % 8, Nat.mod_lt _ (by decide)⟩ (q.val - 4) else payY I g.1.1 q.val
  amount_pos g _ _ _ := by
    rcases g with ⟨t, s⟩
    cases s with
    | reg _ => exact Nat.one_pos
    | dma q =>
      show 0 < if q.val < 6 then NW else if q.val < 38 then N64 else N256
      split
      · exact NW_pos
      · split
        · exact N64_pos
        · exact N256_pos

omit [FloatOps F] in
instance payT_storable (d : Dev nD) : BI.Storable (upEmb : UEmb _ 𝕄) (payT (F := F) d) := by unfold payT; infer_instance
omit [FloatOps F] in
instance payF_storable (d : Dev nD) : BI.Storable (upEmb : UEmb _ 𝕄) (payF (F := F) d) := by unfold payF; infer_instance
instance payW_storable (d : Dev nD) (e s) : BI.Storable (upEmb : UEmb _ 𝕄) (payW I d e s) := by unfold payW; infer_instance
instance payY_storable (d : Dev nD) (q) : BI.Storable (upEmb : UEmb _ 𝕄) (payY I d q) := by unfold payY; infer_instance

instance moeRd_storable (g : GSem nD τ sig) (r : ℕ) (d : Bool) : BI.Storable (upEmb : UEmb _ 𝕄) ((moeRd I).payload g r d) := by
  rcases g with ⟨t, s⟩
  cases s with
  | reg _ =>
    show BI.Storable upEmb (if d then payT t.1 else payF t.1)
    split <;> infer_instance
  | dma q =>
    show BI.Storable upEmb (if q.val < 6 then payW I t.1 ⟨(2 * r + (q.val - 4)) % 8, _⟩ (q.val - 4) else payY I t.1 q.val)
    split <;> infer_instance

section
variable (c : Dev nD)

theorem duties_bar : (moeRd I).duties (bcell c) 0 = Finset.univ := rfl
theorem duties_dma (q : DmaSem sig) (r : ℕ) (h : r < nrounds (.dma q)) : (moeRd I).duties (dcell c q) r = {false} := if_pos h
theorem duties_later (g : GSem nD τ sig) (r : ℕ) (h : nrounds g.2 ≤ r) : (moeRd I).duties g r = ∅ := if_neg (by omega)
theorem nrounds_y (q : DmaSem sig) (h : 6 ≤ q.val) : nrounds (.dma q) = 1 := by
  show (if q.val < 4 then 0 else if q.val < 6 then 4 else 1) = 1
  rw [if_neg (by omega), if_neg (by omega)]
theorem nrounds_w (q : DmaSem sig) (h : 4 ≤ q.val) (h' : q.val < 6) : nrounds (.dma q) = 4 := by
  show (if q.val < 4 then 0 else if q.val < 6 then 4 else 1) = 4
  rw [if_neg (by omega), if_pos h']

theorem amount_bar (r : ℕ) (d : Bool) : (moeRd I).amount (bcell c) r d = 1 := rfl
theorem amount_w (q : DmaSem sig) (r : ℕ) (d : Bool) (h : q.val < 6) : (moeRd I).amount (dcell c q) r d = NW := if_pos h
theorem amount_64 (q : DmaSem sig) (r : ℕ) (d : Bool) (h : 6 ≤ q.val) (h' : q.val < 38) : (moeRd I).amount (dcell c q) r d = N64 :=
  (if_neg (by omega)).trans (if_pos h')
theorem amount_256 (q : DmaSem sig) (r : ℕ) (d : Bool) (h : 38 ≤ q.val) : (moeRd I).amount (dcell c q) r d = N256 :=
  (if_neg (by omega)).trans (if_neg (by omega))

theorem expect_bar : (moeRd I).expect (bcell c) 0 = 2 := by
  unfold Schedule.expect Schedule.amountOf
  rw [duties_bar, Finset.sum_congr rfl fun d _ => amount_bar I c 0 d, Finset.sum_const, Finset.card_univ, Fintype.card_bool, smul_eq_mul]
theorem expect_dma (q : DmaSem sig) (r : ℕ) (h : r < nrounds (.dma q)) (n : ℕ) (hn : (moeRd I).amount (dcell c q) r false = n) :
    (moeRd I).expect (dcell c q) r = n := by
  unfold Schedule.expect Schedule.amountOf; rw [duties_dma I c q r h, Finset.sum_singleton, hn]

theorem payload_bar_true : (moeRd I).payload (bcell c) 0 true = payT c := rfl
theorem payload_bar_false : (moeRd I).payload (bcell c) 0 false = payF c := rfl
theorem payload_y (q : DmaSem sig) (d : Bool) (h : 6 ≤ q.val) : (moeRd I).payload (dcell c q) 0 d = payY I c q.val := if_neg (by omega)
theorem payload_w (q : DmaSem sig) (r : ℕ) (d : Bool) (h : q.val < 6) :
    (moeRd I).payload (dcell c q) r d = payW I c ⟨(2 * r + (q.val - 4)) % 8, Nat.mod_lt _ (by decide)⟩ (q.val - 4) := if_pos h

theorem rest_bar : bigSep ((moeRd I).duties (bcell c) 0 \ ∅) (fun d => (moeRd I).payload (bcell c) 0 d) = iprop(payF c ∗ payT c) := by
  rw [Finset.sdiff_empty, duties_bar, bigSep_univ_eq_bigSepL [false, true] (by decide) (by decide), bigSepL_cons_cons, bigSepL_singleton,
    payload_bar_true, payload_bar_false]
  rfl
theorem rest_dma (q : DmaSem sig) (r : ℕ) (h : r < nrounds (.dma q)) :
    bigSep ((moeRd I).duties (dcell c q) r \ ∅) (fun d => (moeRd I).payload (dcell c q) r d) = (moeRd I).payload (dcell c q) r false := by
  rw [Finset.sdiff_empty, duties_dma I c q r h, bigSep_singleton]
end

/-! ## What each device owes -/

/-- One payment: to the successor (`true`) or to the predecessor, on which semaphore, how much. -/
abbrev Pay := Bool × SemLoc sig × ℕ
/-- The device a payment goes to. -/
def tgt (c : Dev nD) (b : Bool) : Dev nD := if b then nxt c else prv c
abbrev pcell (c : Dev nD) (p : Pay) : GSem nD τ sig := ((tgt c p.1 : Thread nD τ), p.2.1)
/-- What is owed while the payments of a list are outstanding; the head is paid first. -/
def OL (c : Dev nD) : List Pay → CellTallies nD τ sig Unit
  | [] => 0
  | p :: l => OL c l + tallyAt (pcell c p) () p.2.2

theorem OL_cons (c : Dev nD) (p : Pay) (l : List Pay) : OL c (p :: l) = OL c l + tallyAt (pcell c p) () p.2.2 := rfl
theorem OL_pos {c : Dev nD} {l : List Pay} {g : GSem nD τ sig} {u : Unit} (h : 0 < OL c l g u) : ∃ p ∈ l, g = pcell c p := by
  induction l with
  | nil => exact absurd h (lt_irrefl 0)
  | cons p l ih =>
    rw [OL_cons, Pi.add_apply, Finsupp.add_apply, tallyAt_apply] at h
    by_cases hg : g = pcell c p
    · exact ⟨p, List.mem_cons_self, hg⟩
    · rw [if_neg (fun h' => hg h'.1)] at h
      obtain ⟨p', hp', e⟩ := ih h
      exact ⟨p', List.mem_cons_of_mem _ hp', e⟩

/-- The two chunk sends for expert `e`. -/
def pE (e : Fin 8) : List Pay := [(true, .dma ⟨22 + e.val, by have := e.isLt; show 22 + e.val < 42; omega⟩, N64), (false, .dma ⟨30 + e.val, by have := e.isLt; show 30 + e.val < 42; omega⟩, N64)]
/-- The two forwards. -/
def pF0 : Pay := (true, .dma ⟨40, by decide⟩, N256)
def pF1 : Pay := (false, .dma ⟨41, by decide⟩, N256)
/-- The payments from expert `e`'s sends on. -/
def pS (e : ℕ) : List Pay := (((List.finRange 8).drop e).flatMap pE) ++ [pF0, pF1]
def pB0 : Pay := (false, .reg barrier0, 1)
def pB1 : Pay := (true, .reg barrier0, 1)
/-- All of them. -/
def pAll : List Pay := pB0 :: pB1 :: pS 0

theorem pS_step (e : Fin 8) : pS e.val = (true, .dma ⟨22 + e.val, by have := e.isLt; show 22 + e.val < 42; omega⟩, N64)
    :: (false, .dma ⟨30 + e.val, by have := e.isLt; show 30 + e.val < 42; omega⟩, N64) :: pS (e.val + 1) := by
  match e with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
theorem pS_8 : pS 8 = [pF0, pF1] := rfl

/-! ## Levels -/

def slv : SemLoc sig → ℕ
  | .reg _ => 1
  | .dma q => if q.val < 22 then 0 else if q.val < 38 then 2 else if q.val < 40 then 0 else 3

def L (g : GSem nD τ sig) : Finset Unit := if g.1.2 = .tc then {()} else ∅
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

/-- A wait at a level below everything still owed is allowed. -/
theorem mayWait (c : Dev nD) (s : SemLoc sig) (l : List Pay) (h : ∀ p ∈ l, slv s < slv p.2.1) :
    (levAts L lv : sProp 𝕄) ⊢ MayWait (c : Thread nD τ) s () (OL c l) :=
  MayOwe.of_cut (L := L) (lev := lv) (slv s) (fun p hp => by rw [Finset.mem_singleton.mp hp, L_tc]; exact Finset.mem_singleton_self _)
    (fun g u hg => by obtain ⟨p, -, rfl⟩ := OL_pos hg; rw [L_tc]; exact Finset.mem_singleton_self _)
    (fun p hp => by rw [Finset.mem_singleton.mp hp]; exact le_refl _)
    (fun g u hg => by obtain ⟨p, hp, rfl⟩ := OL_pos hg; exact h p hp)

theorem lv_pE (e : Fin 8) : ∀ p ∈ pE e, slv p.2.1 = 2 := by
  intro p hp
  have := e.isLt
  simp only [pE, List.mem_cons, List.mem_nil_iff, or_false] at hp
  rcases hp with rfl | rfl <;> (simp only [slv]; rw [if_neg (by omega), if_pos (by omega)])
theorem lv_pS (e : ℕ) : ∀ p ∈ pS e, 2 ≤ slv p.2.1 := by
  intro p hp
  unfold pS at hp
  rcases List.mem_append.mp hp with h | h
  · obtain ⟨e', -, h'⟩ := List.mem_flatMap.mp h
    exact (lv_pE e' p h').ge
  · simp only [List.mem_cons, List.mem_nil_iff, or_false] at h
    rcases h with rfl | rfl <;> decide
theorem lv_pAll : ∀ p ∈ pAll, 1 ≤ slv p.2.1 := by
  intro p hp
  simp only [pAll, List.mem_cons] at hp
  rcases hp with rfl | rfl | h
  · decide
  · decide
  · exact le_trans (by decide) (lv_pS 0 p h)

end Cert.KernelIdeal.Moe

end
-- ==== Proof.KI.Ops.lean ====
/- The rules of the region's operations, each at the buffers and cells of the schedule: the copies, the waits, the loads
   and the stores. -/
module

public import proofs.«01_k».proof.Proof.KI.Sched

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- No variants: nothing loops. -/
abbrev 𝒱₀ : Variants := Variants.none
/-- The weakest precondition of a program on device `c`. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- A device's cells: its barrier counter and the region's transfer counters. -/
def gc (p : Dev nD × Option (Fin 38)) : GSem nD τ sig := match p.2 with
  | none => bcell p.1
  | some k => dcell p.1 (osm k)

/-- Every cell's invariant, and the levels. -/
def Ctx : sProp 𝕄 :=
  iprop((bigSep Finset.univ fun p : Dev nD × Option (Fin 38) => cellInv ER (moeRd I) (κ (gc p)) (gc p)) ∗ levAts L lv)
instance : BI.Persistent (Ctx I κ) := by unfold Ctx; infer_instance

/-- A device's transfer cells are open. -/
def Rch (c : Dev nD) : sProp 𝕄 := bigSep Finset.univ fun k : Fin 38 => reached ER (dcell c (osm k)) 0
omit [FloatOps F] in
instance (c : Dev nD) : BI.Persistent (Rch (F := F) c) := by unfold Rch; infer_instance

theorem osm_sub (q : DmaSem sig) (h : 4 ≤ q.val) : osm ⟨q.val - 4, by have h' : q.val < 42 := q.isLt; omega⟩ = q := Fin.ext (by show 4 + (q.val - 4) = q.val; omega)

theorem ctx_inv (c : Dev nD) (q : DmaSem sig) (h : 4 ≤ q.val) : Ctx I κ ⊢ cellInv ER (moeRd I) (κ (dcell c q)) (dcell c q) := by
  have e : gc (c, some ⟨q.val - 4, by have h' : q.val < 42 := q.isLt; omega⟩) = dcell c q := by show dcell c (osm _) = _; rw [osm_sub q h]
  rw [← e]
  unfold Ctx
  exact sep_elim_left.trans (bigSep_elim (Φ := fun p => cellInv ER (moeRd I) (κ (gc p)) (gc p)) (Finset.mem_univ _))
theorem ctx_bar (c : Dev nD) : Ctx I κ ⊢ cellInv ER (moeRd I) (κ (bcell c)) (bcell c) := by
  unfold Ctx
  exact sep_elim_left.trans (bigSep_elim (Φ := fun p => cellInv ER (moeRd I) (κ (gc p)) (gc p)) (Finset.mem_univ (c, none)))
theorem ctx_wait (c : Dev nD) (s : SemLoc sig) (l : List Pay) (h : ∀ p ∈ l, slv s < slv p.2.1) : Ctx I κ ⊢ MayWait (c : Thread nD τ) s () (OL c l) := by
  unfold Ctx
  exact sep_elim_right.trans (mayWait c s l h)
omit [FloatOps F] in
theorem rch_at (c : Dev nD) (q : DmaSem sig) (h : 4 ≤ q.val) : Rch (F := F) c ⊢ reached ER (dcell c q) 0 := by
  have e : dcell c (osm ⟨q.val - 4, by have h' : q.val < 42 := q.isLt; omega⟩) = dcell c q := by rw [osm_sub q h]
  rw [← e]
  unfold Rch
  exact bigSep_elim (Φ := fun k => reached ER (dcell c (osm k)) 0) (Finset.mem_univ _)

/-! ## The pieces as views -/

/-- Rows `o` to `o + n` of the gathered buffer, as the program slices them. -/
abbrev yS (o n : ℕ) (h : ∀ a, (![o, 0] : Fin 2 → ℕ) a + (⟨2, ![n, 1024]⟩ : Shape).size a ≤ S2048x1024.size a) : Memref sig .tc .vmem ⟨2, ![n, 1024]⟩ .bf16 :=
  yM.slice (Rect.unit (s := S2048x1024) ![o, 0] (⟨2, ![n, 1024]⟩ : Shape).size h) (fun _ => rfl)
/-- Slot `s` of the weight buffer. -/
abbrev kS (s : ℕ) (h : ∀ a, (![s, 0, 0] : Fin 3 → ℕ) a + S1x1024x1024.size a ≤ S2x1024x1024.size a) : Memref sig .tc .vmem S1024x1024 .f32 :=
  (kM.slice (Rect.unit (s := S2x1024x1024) ![s, 0, 0] S1x1024x1024.size h) (fun _ => rfl)).squeeze S1024x1024 squeezes_S1x1024x1024_S1024x1024
/-- Expert `e`'s weights. -/
abbrev wS (e : ℕ) (h : ∀ a, (![e, 0, 0] : Fin 3 → ℕ) a + S1x1024x1024.size a ≤ S8x1024x1024.size a) : Memref sig .tc .hbm S1024x1024 .f32 :=
  (wM.slice (Rect.unit (s := S8x1024x1024) ![e, 0, 0] S1x1024x1024.size h) (fun _ => rfl)).squeeze S1024x1024 squeezes_S1x1024x1024_S1024x1024

theorem yS_set (o n : ℕ) (h) : (yS o n h).view.set = rows o n := (View.set_slice_whole _ _).trans (set_rows h)
theorem kS_set (s : ℕ) (h) : (kS s h).view.set = wslot s := ((View.set_reshape _ _).trans (View.set_slice_whole _ _)).trans (set_wslot h)
theorem wS_set (s : ℕ) (h) : (wS s h).view.set = wset s := ((View.set_reshape _ _).trans (View.set_slice_whole _ _)).trans (set_wset h)

theorem kS_credit (s : ℕ) (h) : (kS s h).view.dmaCredit = NW := by unfold NW; rfl
theorem yS_credit64 (o : ℕ) (h) : (yS o 64 h).view.dmaCredit = N64 := by unfold N64; rfl
theorem yS_credit256 (o : ℕ) (h) : (yS o 256 h).view.dmaCredit = N256 := by unfold N256; rfl

theorem row_lt {o n : ℕ} (h : ∀ a, (![o, 0] : Fin 2 → ℕ) a + (⟨2, ![n, 1024]⟩ : Shape).size a ≤ S2048x1024.size a) (j : (⟨2, ![n, 1024]⟩ : Shape).Idx) :
    o + (j 0).val < 2048 := by
  have h0 : (j 0).val < n := (j 0).isLt
  have h1 : o + n ≤ 2048 := h 0
  omega
theorem yS_emb (o n : ℕ) (h) (j : (⟨2, ![n, 1024]⟩ : Shape).Idx) : (yS o n h).view.emb j = ix2 (o + (j 0).val) (row_lt h j) (j 1) := by
  funext a
  match a with
  | ⟨0, _⟩ => exact Fin.ext (by show o + 1 * (j 0).val = o + (j 0).val; rw [Nat.one_mul])
  | ⟨1, _⟩ => exact Fin.ext (by show 0 + 1 * (j 1).val = (j 1).val; rw [Nat.one_mul, Nat.zero_add])

theorem mem_view {sp : Space} {s : Shape} {e : EltTy} (v : View sig .tc sp s e) {i} (h : i ∈ v.set) : ∃ j, v.emb j = i := by
  obtain ⟨j, -, e⟩ := Finset.mem_map.mp h
  exact ⟨j, e⟩

/-- What lands in rows `o'` on device `p`, sent from rows `o` of device `c`, is what the schedule says is there. -/
theorem land_rows (c p : Dev nD) (o o' n q q' : ℕ) (h h') (hq : 512 * q ≤ o) (hq' : o + n ≤ 512 * q + 512) (hk : o' = 512 * q' + (o - 512 * q))
    (hd : dv c q = dv p q') (hoo : o ≤ o') (fd : Vec F S2048x1024 .bf16) :
    ∀ i ∈ (yS o' n h').view.set, (yS o' n h').view.write (Elt F) fd ((yS o n h).view.read (Elt F) (G I c)) Finset.univ i = G I p i := by
  intro i hi
  obtain ⟨j, rfl⟩ := mem_view _ hi
  refine (View.write_emb_of_mem (v := (yS o' n h').view) (Val := Elt F) fd _ (Finset.mem_univ j)).trans ?_
  show G I c ((yS o n h).view.emb j) = G I p ((yS o' n h').view.emb j)
  rw [yS_emb, yS_emb]
  have h0 : (j 0).val < n := (j 0).isLt
  have hr := row_lt h j
  have hr' := row_lt h' j
  have := G_shift I c p o (o' - o) n q q' hq hq' (by omega) hd (o + (j 0).val) (by omega) (by omega) hr (by omega) (j 1)
  refine this.symm.trans (congrArg (G I p) ?_)
  funext a
  match a with
  | ⟨0, _⟩ => exact Fin.ext (by show o + (j 0).val + (o' - o) = o' + (j 0).val; omega)
  | ⟨1, _⟩ => rfl

/-- What lands in a slot of the weight buffer, copied from expert `e`'s weights. -/
theorem land_slot (c : Dev nD) (e : Fin 8) (s : ℕ) (h h') (fd : Vec F S2x1024x1024 .f32) :
    ∀ i ∈ (kS s h').view.set, (kS s h').view.write (Elt F) fd ((wS e.val h).view.read (Elt F) (I.w c)) Finset.univ i = WB I c e i := by
  intro i hi
  obtain ⟨j, rfl⟩ := mem_view _ hi
  refine (View.write_emb_of_mem (v := (kS s h').view) (Val := Elt F) fd _ (Finset.mem_univ j)).trans ?_
  show I.w c ((wS e.val h).view.emb j) = I.w c (ix3 e.val e.isLt ((kS s h').view.emb j 1) ((kS s h').view.emb j 2))
  congr 1
  obtain ⟨j', hj'⟩ : ∃ j' : S1x1024x1024.Idx, (wS e.val h).view.emb j = (Rect.unit (s := S8x1024x1024) ![e.val, 0, 0] S1x1024x1024.size h).emb j'
      ∧ (kS s h').view.emb j = (Rect.unit (s := S2x1024x1024) ![s, 0, 0] S1x1024x1024.size h').emb j' := ⟨_, rfl, rfl⟩
  rw [hj'.1, hj'.2]
  have h0 : (j' 0).val < 1 := (j' 0).isLt
  funext a
  match a with
  | ⟨0, _⟩ => exact Fin.ext (by show e.val + 1 * (j' 0).val = e.val; omega)
  | ⟨1, _⟩ => rfl
  | ⟨2, _⟩ => rfl

/-- What device `c` owes while the payments of a list are outstanding. -/
def Ow (c : Dev nD) (l : List Pay) : sProp 𝕄 := iprop(∃ W, owes (c : Thread nD τ) (OL c l) W)

/-! ## Copies -/

section
variable (c : Dev nD)

/-- Expert `e`'s weights copied into its slot. -/
theorem op_wcopy {α : Type} {Q : α → sProp 𝕄} (e : Fin 8) (o s : ℕ) (ho : o = e.val) (hs : s = e.val % 2) (q : DmaSem sig) (hq : q.val = 4 + s) {h1 h2}
    {hsrc : (wS o h1).view.WordExact} {hdst : (kS s h2).view.WordExact} {hsem : DmaTarget.Typed (nD := nD) .hbm (.dma q) (.here (kS s h2) : DmaTarget nD τ sig Proc.tc .vmem S1024x1024 .f32)}
    {k : PUnit → Prog (TpuEff nD τ sig (Elt F) Λ₀ .tc) α} :
    iprop(Ctx I κ ∗ wPts c (wset e.val) fullShare (I.w c) ∗ (∃ f, kPts c (wslot s) fullShare f)
        ∗ dutyTok ER (dcell c q) (e.val / 2) false ∗ reached ER (dcell c q) (e.val / 2))
      ⊢ iprop((cred (tallyAt (dcell c q) () NW) -∗ wpD c (k ⟨⟩) Q)
          -∗ wpD c (.op (.enqueueDma (wS o h1) (.here (kS s h2)) (.dma q) hsrc hdst hsem) k) Q) := by
  subst ho
  have he := e.isLt
  unfold wPts kPts
  iintro ⟨#HC, Hw, ⟨%f, Hk⟩, Ht, Hr⟩ Hc
  have hidx : (⟨(2 * (e.val / 2) + (q.val - 4)) % 8, Nat.mod_lt _ (by decide)⟩ : Fin 8) = e := Fin.ext (by show (2 * (e.val / 2) + (q.val - 4)) % 8 = e.val; omega)
  have hpay : iprop(((kS s h2).view.loc (c : Thread nD τ) ↦[(kS s h2).view.set]{fullShare} ((kS s h2).view.write (Elt F) f ((wS e.val h1).view.read (Elt F) (I.w c)) Finset.univ))
      ∗ ((wS e.val h1).view.loc (c : Thread nD τ) ↦[(wS e.val h1).view.set]{fullShare} (I.w c))) ⊢ (moeRd I).payload (dcell c q) (e.val / 2) false := by
    rw [payload_w I c q _ _ (by omega), hidx, pointsTo_congr (land_slot I c e s h1 h2 f), kS_set, wS_set]
    unfold payW kPts wPts
    rw [show q.val - 4 = s by omega]
  iapply (Rounds.wp_copy_pointsTo 𝒱₀ ER (moeRd I) (c : Thread nD τ) none (src := wS e.val h1) (dst := kS s h2) (sem := .dma q) (κ := κ (dcell c q)) (q := fullShare) (fs := I.w c) (fd := f) (r := e.val / 2) (d := false)
    (by rw [duties_dma I c q _ (by rw [nrounds_w q (by omega) (by omega)]; omega)]; exact Finset.mem_singleton_self _) () NW (show (kS s h2).view.amount (.dma q) = NW from kS_credit s h2)
    (amount_w I c q _ _ (by omega)) hpay) $$ [Hw Hk Ht Hr]
  · isplitr; · iapply (ctx_inv I κ c q (by omega)); iexact HC
    isplitl [Hw]; · rw [wS_set]; iexact Hw
    isplitl [Hk]; · rw [kS_set]; iexact Hk
    isplitl [Ht]; · iexact Ht
    iexact Hr
  iexact Hc

/-- The wait for expert `e`'s weights. -/
theorem op_wwait {α : Type} {Q : α → sProp 𝕄} (e : Fin 8) (o s : ℕ) (ho : o = e.val) (hs : s = e.val % 2) (q : DmaSem sig) (hq : q.val = 4 + s) (l : List Pay) (hl : ∀ p ∈ l, 1 ≤ slv p.2.1) {h1 h2}
    {hsrc : (wS o h1).view.WordExact} {hdst : (kS s h2).view.WordExact}
    {k : PUnit → Prog (TpuEff nD τ sig (Elt F) Λ₀ .tc) α} :
    iprop(Ctx I κ ∗ cred (tallyAt (dcell c q) () NW) ∗ Ow c l ∗ atPos ER (dcell c q) (e.val / 2) ∅ 0)
      ⊢ iprop((Ow c l ∗ atPos ER (dcell c q) (e.val / 2 + 1) ∅ 0 ∗ reached ER (dcell c q) (e.val / 2 + 1)
            ∗ kPts c (wslot s) fullShare (WB I c e) ∗ wPts c (wset e.val) fullShare (I.w c) -∗ wpD c (k ⟨⟩) Q)
          -∗ wpD c (.op (.waitDma2 q (wS o h1) (kS s h2) hsrc hdst) k) Q) := by
  subst ho
  have he := e.isLt
  have hidx : (⟨(2 * (e.val / 2) + (q.val - 4)) % 8, Nat.mod_lt _ (by decide)⟩ : Fin 8) = e := Fin.ext (by show (2 * (e.val / 2) + (q.val - 4)) % 8 = e.val; omega)
  have hr : e.val / 2 < nrounds (.dma q) := by rw [nrounds_w q (by omega) (by omega)]; omega
  unfold Ow
  iintro ⟨#HC, Hc, ⟨%W, HO⟩, Hat⟩ Hk
  iapply (Rounds.wp_wait_rest_token 𝒱₀ ER (moeRd I) (c : Thread nD τ) none (κ := κ (dcell c q)) (k' := (kS s h2).view.dmaCredit)
      (wpE_waitDma2_eq 𝒱₀ (c : Thread nD τ) none Set.univ) (Set.mem_univ _) () (O := OL c l) (W := W) (R := e.val / 2) (m := 0) (T := ∅)
      (by rw [Nat.zero_add, expect_dma I c q _ hr NW (amount_w I c q _ _ (by omega)), kS_credit])) $$ [Hc HO Hat]
  · isplitr; · iapply (ctx_inv I κ c q (by omega)); iexact HC
    isplitl [Hc]; · rw [kS_credit]; iexact Hc
    isplitl [HO]; · iexact HO
    isplitr
    · iapply (ctx_wait I κ c (.dma q) l (fun p hp => lt_of_lt_of_le (by show (if q.val < 22 then 0 else _) < 1; rw [if_pos (by omega)]; exact Nat.one_pos) (hl p hp)))
      iexact HC
    iexact Hat
  iintro ⟨HO, Hat, Hr, Hpay⟩
  ihave Hp := (Entails.of_eq ((rest_dma I c q (e.val / 2) hr).trans ((payload_w I c q _ _ (by omega)).trans (by rw [hidx, show q.val - 4 = s by omega])))) $$ Hpay
  unfold payW
  icases Hp with ⟨Hk1, Hk2⟩
  iapply Hk
  isplitl [HO]; · iexists _; iexact HO
  isplitl [Hat]; · iexact Hat
  isplitl [Hr]; · iexact Hr
  isplitl [Hk1] <;> iassumption

/-- A piece of the gathered buffer sent to another device, at the share the schedule lends. -/
theorem op_send {α : Type} {Q : α → sProp 𝕄} (p pd : Dev nD) (hpd : pd = p) (b : Bool) (hp : tgt c b = p) (o o' n q q' : ℕ) (sS sem : DmaSem sig) (hS : 6 ≤ sS.val) (hR : 6 ≤ sem.val)
    (hoS : roff sS.val = o) (hnS : rlen sS.val = n) (hoR : roff sem.val = o') (hnR : rlen sem.val = n) (hfR : rsh sem.val = fullShare)
    (N : ℕ) (hkS : (moeRd I).amount (dcell c sS) 0 false = N) (hkR : (moeRd I).amount (dcell p sem) 0 false = N) {h h'}
    (hN : (yS o' n h').view.dmaCredit = N)
    (hq : 512 * q ≤ o) (hq' : o + n ≤ 512 * q + 512) (hk : o' = 512 * q' + (o - 512 * q)) (hd : dv c q = dv p q') (hoo : o ≤ o') (l : List Pay)
    {hsc : (yS o' n h' : Memref sig (Dev.tc pd : Thread nD τ).2.kind .vmem ⟨2, ![n, 1024]⟩ .bf16).view.ref.isScScratch = false}
    {hsrc : (yS o n h).view.WordExact} {hdst : (yS o' n h').view.WordExact}
    {hsem : DmaTarget.Typed .vmem (.dma sem) (.remote (Dev.tc pd : Thread nD τ) (yS o' n h') (.dma sS) hsc)}
    {k : PUnit → Prog (TpuEff nD τ sig (Elt F) Λ₀ .tc) α} :
    iprop(Ctx I κ ∗ Rch c ∗ Rch p ∗ yPts c (rows o n) (rsh sS.val) (G I c) ∗ (∃ f, yPts p (rows o' n) fullShare f)
        ∗ Ow c ((b, .dma sem, N) :: l)
        ∗ dutyTok ER (dcell c sS) 0 false ∗ dutyTok ER (dcell p sem) 0 false)
      ⊢ iprop((cred (tallyAt (dcell c sS) () N) ∗ Ow c l -∗ wpD c (k ⟨⟩) Q)
          -∗ wpD c (.op (.enqueueDma (yS o n h) (.remote (Dev.tc pd : Thread nD τ) (yS o' n h') (.dma sS) hsc) (.dma sem) hsrc hdst hsem) k) Q) := by
  subst hpd
  have hO : OL c ((b, .dma sem, N) :: l) = OL c l + tallyAt (dcell pd sem) () N := by rw [OL_cons, pcell, hp]
  unfold yPts Ow
  iintro ⟨#HC, #Hr1, #Hr2, Hs, ⟨%f, Hd⟩, ⟨%W, HO⟩, Ht1, Ht2⟩ Hk
  have hpay₁ : ((yS o n h).view.loc (c : Thread nD τ) ↦[(yS o n h).view.set]{rsh sS.val} (G I c)) ⊢ (moeRd I).payload (dcell c sS) 0 false := by
    rw [payload_y I c sS _ hS, yS_set]; unfold payY yPts; rw [hoS, hnS]
  have hpay₂ : ((yS o' n h').view.loc (pd : Thread nD τ) ↦[(yS o' n h').view.set]{fullShare} ((yS o' n h').view.write (Elt F) f ((yS o n h).view.read (Elt F) (G I c)) Finset.univ))
      ⊢ (moeRd I).payload (dcell pd sem) 0 false := by
    rw [payload_y I pd sem _ hR, pointsTo_congr (land_rows I c pd o o' n q q' h h' hq hq' hk hd hoo f), yS_set]; unfold payY yPts; rw [hoR, hnR, hfR]
  iapply (Rounds.wp_send_pointsTo 𝒱₀ ER (moeRd I) (c : Thread nD τ) none (c' := (pd : Thread nD τ)) (src := yS o n h) (dst := yS o' n h') (sS := .dma sS) (sem := .dma sem) (κ₁ := κ (dcell c sS)) (κ₂ := κ (dcell pd sem))
    (r₁ := 0) (r₂ := 0) (d₁ := false) (d₂ := false) (fs := G I c) (fd := f) (q := rsh sS.val)
    (by rw [duties_dma I c sS 0 (by rw [nrounds_y sS hS]; exact Nat.one_pos)]; exact Finset.mem_singleton_self _)
    (by rw [duties_dma I pd sem 0 (by rw [nrounds_y sem hR]; exact Nat.one_pos)]; exact Finset.mem_singleton_self _)
    () () N (show (yS o' n h').view.amount (.dma sem) = N from hN) hkS hkR (OL c l) hO (W := W) hpay₁ hpay₂) $$ [Hs Hd HO Ht1 Ht2]
  · isplitr; · iapply (ctx_inv I κ c sS (by omega)); iexact HC
    isplitr; · iapply (ctx_inv I κ pd sem (by omega)); iexact HC
    isplitl [Hs]; · rw [yS_set]; iexact Hs
    isplitl [Hd]; · rw [yS_set]; iexact Hd
    isplitl [HO]; · iexact HO
    isplitl [Ht1]; · iexact Ht1
    isplitr; · iapply (rch_at c sS (by omega)); iexact Hr1
    isplitl [Ht2]; · iexact Ht2
    iapply (rch_at pd sem (by omega)); iexact Hr2
  iintro ⟨Hc, HO⟩
  iapply Hk
  isplitl [Hc]; · iexact Hc
  iexists _; iexact HO

/-- The wait for a send to be read, or for an arrival. -/
theorem op_ywait {α : Type} {Q : α → sProp 𝕄} (sem : DmaSem sig) (hS : 6 ≤ sem.val) (N : ℕ) (hkS : (moeRd I).amount (dcell c sem) 0 false = N) (l : List Pay)
    (hl : ∀ p ∈ l, slv (.dma sem) < slv p.2.1) {sp sp' : Space} {s s' : Shape} {e e' : EltTy}
    {src : Memref sig .tc sp' s' e'} {dst : Memref sig .tc sp s e} {hsrc : src.view.WordExact} {hdst : dst.view.WordExact} (hN : dst.view.dmaCredit = N)
    {k : PUnit → Prog (TpuEff nD τ sig (Elt F) Λ₀ .tc) α} :
    iprop(Ctx I κ ∗ cred (tallyAt (dcell c sem) () N) ∗ Ow c l ∗ atPos ER (dcell c sem) 0 ∅ 0)
      ⊢ iprop((Ow c l ∗ atPos ER (dcell c sem) 1 ∅ 0 ∗ payY I c sem.val -∗ wpD c (k ⟨⟩) Q)
          -∗ wpD c (.op (.waitDma2 sem src dst hsrc hdst) k) Q) := by
  subst hN
  have hr : 0 < nrounds (.dma sem) := by rw [nrounds_y sem hS]; exact Nat.one_pos
  unfold Ow
  iintro ⟨#HC, Hc, ⟨%W, HO⟩, Hat⟩ Hk
  iapply (Rounds.wp_wait_rest_token 𝒱₀ ER (moeRd I) (c : Thread nD τ) none (κ := κ (dcell c sem))
      (wpE_waitDma2_eq 𝒱₀ (c : Thread nD τ) none Set.univ) (Set.mem_univ _) () (O := OL c l) (W := W) (R := 0) (m := 0) (T := ∅)
      (by rw [Nat.zero_add, expect_dma I c sem _ hr _ hkS])) $$ [Hc HO Hat]
  · isplitr; · iapply (ctx_inv I κ c sem (by omega)); iexact HC
    isplitl [Hc]; · iexact Hc
    isplitl [HO]; · iexact HO
    isplitr; · iapply (ctx_wait I κ c (.dma sem) l hl); iexact HC
    iexact Hat
  iintro ⟨HO, Hat, -, Hpay⟩
  iapply Hk
  isplitl [HO]; · iexists _; iexact HO
  isplitl [Hat]; · iexact Hat
  iapply (Entails.of_eq ((rest_dma I c sem 0 hr).trans (payload_y I c sem _ hS))); iexact Hpay

end

end Cert.KernelIdeal.Moe

end
-- ==== Proof.KI.Mem.lean ====
/- The rules of the region's loads and stores. -/
module

public import proofs.«01_k».proof.Proof.KI.Ops

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

section
variable (c : Dev nD)

/-! ## Loads and stores -/

/-- A whole buffer, owned outright. -/
abbrev stg (c : Dev nD) (b : Ref sig .tc) (f : b.ty.Contents (Elt F)) : sProp 𝕄 :=
  ((c : Thread nD τ).loc b) ↦{fullShare} f

omit [FloatOps F] in
theorem hz2 : (![0, 0] : Fin 2 → ℕ) = fun _ => 0 := funext fun a => by fin_cases a <;> rfl

/-- The rows of expert `e`, read out of the gathered rows. -/
theorem ld_xg {α : Type} {Q : α → sProp 𝕄} (e : Fin 8) (o : ℕ) (ho : o = 64 * e.val) {h} {hl}
    {k : Vec F S64x1024 .bf16 → Prog (TpuEff nD τ sig (Elt F) Λ₀ .tc) α} :
    stg c cc0_scratch2 (xg I c) ⊢ iprop((stg c cc0_scratch2 (xg I c) -∗ wpD c (k (xgRows I c e)) Q)
      -∗ wpD c (.op (.load gM (Rect.unit (s := S512x1024) ![o, 0] S64x1024.size h).toLoadRect hl) k) Q) := by
  subst ho
  have e1 : gM.view.readAt (Elt F) (Rect.unit (s := S512x1024) ![64 * e.val, 0] S64x1024.size h).toLoadRect (xg I c) = xgRows I c e := by
    funext i
    show xg I c ((Rect.unit (s := S512x1024) ![64 * e.val, 0] S64x1024.size h).emb i) = xg I c _
    congr 1
    funext a
    match a with
    | ⟨0, _⟩ => exact Fin.ext (by show 64 * e.val + 1 * (i 0).val = 64 * e.val + (i 0).val; omega)
    | ⟨1, _⟩ => exact Fin.ext (by show 0 + 1 * (i 1).val = (i 1).val; omega)
  rw [← e1]
  exact wp_load 𝒱₀ (c : Thread nD τ) none Set.univ (m := gM) (Finset.subset_univ _)

/-- Expert `e`'s weights, read out of their slot. -/
theorem ld_w {α : Type} {Q : α → sProp 𝕄} (e : Fin 8) (s : ℕ) {h} {hl}
    {k : Vec F S1x1024x1024 .f32 → Prog (TpuEff nD τ sig (Elt F) Λ₀ .tc) α} :
    kPts c (wslot s) fullShare (WB I c e) ⊢ iprop((kPts c (wslot s) fullShare (WB I c e) -∗ wpD c (k (wv I c e)) Q)
      -∗ wpD c (.op (.load kM (Rect.unit (s := S2x1024x1024) ![s, 0, 0] S1x1024x1024.size h).toLoadRect hl) k) Q) := by
  have e1 : kM.view.readAt (Elt F) (Rect.unit (s := S2x1024x1024) ![s, 0, 0] S1x1024x1024.size h).toLoadRect (WB I c e) = wv I c e := by
    funext i
    show I.w c (ix3 e.val e.isLt ((Rect.unit (s := S2x1024x1024) ![s, 0, 0] S1x1024x1024.size h).emb i 1) ((Rect.unit (s := S2x1024x1024) ![s, 0, 0] S1x1024x1024.size h).emb i 2)) = I.w c (ix3 e.val e.isLt (i 1) (i 2))
    congr 2
    · exact Fin.ext (by show 0 + 1 * (i 1).val = (i 1).val; omega)
    · exact Fin.ext (by show 0 + 1 * (i 2).val = (i 2).val; omega)
  rw [← e1]
  unfold kPts
  refine wp_load 𝒱₀ (c : Thread nD τ) none Set.univ (m := kM) ?_
  intro i hi
  rw [← set_wslot h]
  obtain ⟨j, hj, rfl⟩ := Finset.mem_map.mp hi
  exact hj

theorem yAcc_set (o n : ℕ) {h : ∀ a, (![o, 0] : Fin 2 → ℕ) a + (⟨2, ![n, 1024]⟩ : Shape).size a ≤ S2048x1024.size a} :
    yM.view.setOn (Rect.unit (s := S2048x1024) ![o, 0] (⟨2, ![n, 1024]⟩ : Shape).size h).toLoadRect.set ⊆ rows o n := by
  intro i hi
  rw [← set_rows h]
  obtain ⟨j, hj, rfl⟩ := Finset.mem_map.mp hi
  exact hj

/-- A load whose value is not used, of rows whose contents are not known. -/
theorem ld_dead {α : Type} {Q : α → sProp 𝕄} (o n : ℕ) {h : ∀ a, (![o, 0] : Fin 2 → ℕ) a + (⟨2, ![n, 1024]⟩ : Shape).size a ≤ S2048x1024.size a} {hl} {f : Vec F S2048x1024 .bf16}
    {k : Vec F ⟨2, ![n, 1024]⟩ .bf16 → Prog (TpuEff nD τ sig (Elt F) Λ₀ .tc) α} {p : Prog (TpuEff nD τ sig (Elt F) Λ₀ .tc) α} (hkp : ∀ v, k v = p) :
    yPts c (rows o n) fullShare f ⊢ iprop((yPts c (rows o n) fullShare f -∗ wpD c p Q)
      -∗ wpD c (.op (.load yM (Rect.unit (s := S2048x1024) ![o, 0] (⟨2, ![n, 1024]⟩ : Shape).size h).toLoadRect hl) k) Q) := by
  obtain rfl : k = fun _ => p := funext hkp
  unfold yPts
  exact wp_load (k := fun _ => p) 𝒱₀ (c : Thread nD τ) none Set.univ (m := yM) (yAcc_set o n)

/-- The store of expert `e`'s chunk. -/
theorem st_y {α : Type} {Q : α → sProp 𝕄} (e : Fin 8) (o : ℕ) (ho : o = 64 * e.val) (w : Vec F S64x1024 .bf16) (hw : w = Yc I c e) {h} {hx} {hm} {f : Vec F S2048x1024 .bf16}
    {k : PUnit → Prog (TpuEff nD τ sig (Elt F) Λ₀ .tc) α} :
    yPts c (rows o 64) fullShare f ⊢ iprop((yPts c (rows o 64) fullShare (G I c) -∗ wpD c (k ⟨⟩) Q)
      -∗ wpD c (.op (.store yM (Rect.unit (s := S2048x1024) ![o, 0] S64x1024.size h) w Finset.univ hx hm) k) Q) := by
  subst ho hw
  have e1 : ∀ i ∈ rows (64 * e.val) 64, (yM.access (Rect.unit (s := S2048x1024) ![64 * e.val, 0] S64x1024.size h)).write (Elt F) f (Yc I c e) Finset.univ i = G I c i := by
    intro i hi
    rw [← yS_set (64 * e.val) 64 h] at hi
    obtain ⟨j, rfl⟩ := mem_view _ hi
    refine (View.write_emb_of_mem (v := yM.access (Rect.unit (s := S2048x1024) ![64 * e.val, 0] S64x1024.size h)) (Val := Elt F) f (Yc I c e) (Finset.mem_univ j)).trans ?_
    rw [yS_emb]
    exact (G_own I c e j).symm
  unfold yPts
  rw [← pointsTo_congr (ℓ := yM.view.loc (c : Thread nD τ)) e1]
  refine wp_store 𝒱₀ (c : Thread nD τ) none Set.univ (m := yM) (r := Rect.unit (s := S2048x1024) ![64 * e.val, 0] S64x1024.size h) (Mk := Finset.univ) ?_
  rw [View.setOn_univ]
  intro i hi
  rw [← yS_set (64 * e.val) 64 h]
  exact hi

/-- A quarter of the gathered buffer, read. -/
theorem ld_y {α : Type} {Q : α → sProp 𝕄} (kk : Fin 4) (o : ℕ) (ho : o = 512 * kk.val) (sh : PosShare TreeShare) (S) (hS : rows (512 * kk.val) 512 ⊆ S) {h} {hl}
    {k : Vec F S512x1024 .bf16 → Prog (TpuEff nD τ sig (Elt F) Λ₀ .tc) α} :
    yPts c S sh (G I c) ⊢ iprop((yPts c S sh (G I c) -∗ wpD c (k (yb I c kk)) Q)
      -∗ wpD c (.op (.load yM (Rect.unit (s := S2048x1024) ![o, 0] S512x1024.size h).toLoadRect hl) k) Q) := by
  subst ho
  have e1 : yM.view.readAt (Elt F) (Rect.unit (s := S2048x1024) ![512 * kk.val, 0] S512x1024.size h).toLoadRect (G I c) = yb I c kk := by
    funext i
    show G I c ((Rect.unit (s := S2048x1024) ![512 * kk.val, 0] S512x1024.size h).emb i) = G I c _
    congr 1
    funext a
    match a with
    | ⟨0, _⟩ => exact Fin.ext (by show 512 * kk.val + 1 * (i 0).val = 512 * kk.val + (i 0).val; omega)
    | ⟨1, _⟩ => exact Fin.ext (by show 0 + 1 * (i 1).val = (i 1).val; omega)
  rw [← e1]
  unfold yPts
  exact wp_load 𝒱₀ (c : Thread nD τ) none Set.univ (m := yM) ((yAcc_set (512 * kk.val) 512).trans hS)

/-- The columns of the second table that go with a quarter, read. -/
theorem ld_u {α : Type} {Q : α → sProp 𝕄} (kk : Fin 4) (o : ℕ) (ho : o = 512 * kk.val) {h} {hl}
    {k : Vec F S2048x512 .bf16 → Prog (TpuEff nD τ sig (Elt F) Λ₀ .tc) α} :
    stg c cc0_stg2_0 (I.u c) ⊢ iprop((stg c cc0_stg2_0 (I.u c) -∗ wpD c (k (ub I c kk)) Q)
      -∗ wpD c (.op (.load uM (Rect.unit (s := S2048x2048) ![0, o] S2048x512.size h).toLoadRect hl) k) Q) := by
  subst ho
  have e1 : uM.view.readAt (Elt F) (Rect.unit (s := S2048x2048) ![0, 512 * kk.val] S2048x512.size h).toLoadRect (I.u c) = ub I c kk := by
    funext i
    show I.u c ((Rect.unit (s := S2048x2048) ![0, 512 * kk.val] S2048x512.size h).emb i) = I.u c _
    congr 1
    funext a
    match a with
    | ⟨0, _⟩ => exact Fin.ext (by show 0 + 1 * (i 0).val = (i 0).val; omega)
    | ⟨1, _⟩ => exact Fin.ext (by show 512 * kk.val + 1 * (i 1).val = 512 * kk.val + (i 1).val; omega)
  rw [← e1]
  exact wp_load 𝒱₀ (c : Thread nD τ) none Set.univ (m := uM) (Finset.subset_univ _)

/-- The tokens, read whole. -/
theorem ld_x {α : Type} {Q : α → sProp 𝕄} {f : Vec F S2048x1024 .f32} {h} {hl} {k : Vec F S2048x1024 .f32 → Prog (TpuEff nD τ sig (Elt F) Λ₀ .tc) α} :
    stg c cc0_stg0_0 f ⊢ iprop((stg c cc0_stg0_0 f -∗ wpD c (k f) Q)
      -∗ wpD c (.op (.load xM (Rect.unit (s := S2048x1024) ![0, 0] S2048x1024.size h).toLoadRect hl) k) Q) := by
  have e1 : xM.view.readAt (Elt F) (Rect.unit (s := S2048x1024) ![0, 0] S2048x1024.size h).toLoadRect f = f := Memref.readAt_unit_zero (Elt F) cc0_stg0_0 hz2 h f
  have H := wp_load (defs := defs₀ (F := F)) (Γ := .empty) 𝒱₀ (c : Thread nD τ) none Set.univ (m := xM) (r := (Rect.unit (s := S2048x1024) ![0, 0] S2048x1024.size h).toLoadRect) (hl := hl) (k := k) (Q := Q) (q := fullShare) (f := f) (Finset.subset_univ _)
  rw [e1] at H
  exact H

/-- The first table, read whole. -/
theorem ld_d {α : Type} {Q : α → sProp 𝕄} {f : Vec F S512x2048 .bf16} {h} {hl} {k : Vec F S512x2048 .bf16 → Prog (TpuEff nD τ sig (Elt F) Λ₀ .tc) α} :
    stg c cc0_stg1_0 f ⊢ iprop((stg c cc0_stg1_0 f -∗ wpD c (k f) Q)
      -∗ wpD c (.op (.load dM (Rect.unit (s := S512x2048) ![0, 0] S512x2048.size h).toLoadRect hl) k) Q) := by
  have e1 : dM.view.readAt (Elt F) (Rect.unit (s := S512x2048) ![0, 0] S512x2048.size h).toLoadRect f = f := Memref.readAt_unit_zero (Elt F) cc0_stg1_0 hz2 h f
  have H := wp_load (defs := defs₀ (F := F)) (Γ := .empty) 𝒱₀ (c : Thread nD τ) none Set.univ (m := dM) (r := (Rect.unit (s := S512x2048) ![0, 0] S512x2048.size h).toLoadRect) (hl := hl) (k := k) (Q := Q) (q := fullShare) (f := f) (Finset.subset_univ _)
  rw [e1] at H
  exact H

/-- The narrowed tokens, read whole. -/
theorem ld_b {α : Type} {Q : α → sProp 𝕄} {f : Vec F S2048x1024 .bf16} {h} {hl} {k : Vec F S2048x1024 .bf16 → Prog (TpuEff nD τ sig (Elt F) Λ₀ .tc) α} :
    stg c cc0_scratch1 f ⊢ iprop((stg c cc0_scratch1 f -∗ wpD c (k f) Q)
      -∗ wpD c (.op (.load bM (Rect.unit (s := S2048x1024) ![0, 0] S2048x1024.size h).toLoadRect hl) k) Q) := by
  have e1 : bM.view.readAt (Elt F) (Rect.unit (s := S2048x1024) ![0, 0] S2048x1024.size h).toLoadRect f = f := Memref.readAt_unit_zero (Elt F) cc0_scratch1 hz2 h f
  have H := wp_load (defs := defs₀ (F := F)) (Γ := .empty) 𝒱₀ (c : Thread nD τ) none Set.univ (m := bM) (r := (Rect.unit (s := S2048x1024) ![0, 0] S2048x1024.size h).toLoadRect) (hl := hl) (k := k) (Q := Q) (q := fullShare) (f := f) (Finset.subset_univ _)
  rw [e1] at H
  exact H

/-- The gathered rows, read whole. -/
theorem ld_g {α : Type} {Q : α → sProp 𝕄} {f : Vec F S512x1024 .bf16} {h} {hl} {k : Vec F S512x1024 .bf16 → Prog (TpuEff nD τ sig (Elt F) Λ₀ .tc) α} :
    stg c cc0_scratch2 f ⊢ iprop((stg c cc0_scratch2 f -∗ wpD c (k f) Q)
      -∗ wpD c (.op (.load gM (Rect.unit (s := S512x1024) ![0, 0] S512x1024.size h).toLoadRect hl) k) Q) := by
  have e1 : gM.view.readAt (Elt F) (Rect.unit (s := S512x1024) ![0, 0] S512x1024.size h).toLoadRect f = f := Memref.readAt_unit_zero (Elt F) cc0_scratch2 hz2 h f
  have H := wp_load (defs := defs₀ (F := F)) (Γ := .empty) 𝒱₀ (c : Thread nD τ) none Set.univ (m := gM) (r := (Rect.unit (s := S512x1024) ![0, 0] S512x1024.size h).toLoadRect) (hl := hl) (k := k) (Q := Q) (q := fullShare) (f := f) (Finset.subset_univ _)
  rw [e1] at H
  exact H

/-- The result so far, read whole. -/
theorem ld_o {α : Type} {Q : α → sProp 𝕄} {f : Vec F S2048x1024 .f32} {h} {hl} {k : Vec F S2048x1024 .f32 → Prog (TpuEff nD τ sig (Elt F) Λ₀ .tc) α} :
    stg c cc0_stg3_0 f ⊢ iprop((stg c cc0_stg3_0 f -∗ wpD c (k f) Q)
      -∗ wpD c (.op (.load oM (Rect.unit (s := S2048x1024) ![0, 0] S2048x1024.size h).toLoadRect hl) k) Q) := by
  have e1 : oM.view.readAt (Elt F) (Rect.unit (s := S2048x1024) ![0, 0] S2048x1024.size h).toLoadRect f = f := Memref.readAt_unit_zero (Elt F) cc0_stg3_0 hz2 h f
  have H := wp_load (defs := defs₀ (F := F)) (Γ := .empty) 𝒱₀ (c : Thread nD τ) none Set.univ (m := oM) (r := (Rect.unit (s := S2048x1024) ![0, 0] S2048x1024.size h).toLoadRect) (hl := hl) (k := k) (Q := Q) (q := fullShare) (f := f) (Finset.subset_univ _)
  rw [e1] at H
  exact H

/-- The narrowed tokens, stored. -/
theorem st_b {α : Type} {Q : α → sProp 𝕄} {f : Vec F S2048x1024 .bf16} (w : Vec F S2048x1024 .bf16) {h} {hx} {hm} {k : PUnit → Prog (TpuEff nD τ sig (Elt F) Λ₀ .tc) α} :
    stg c cc0_scratch1 f ⊢ iprop((stg c cc0_scratch1 w -∗ wpD c (k ⟨⟩) Q)
      -∗ wpD c (.op (.store bM (Rect.unit (s := S2048x1024) ![0, 0] S2048x1024.size h) w Finset.univ hx hm) k) Q) := by
  have e1 : (bM.access (Rect.unit (s := S2048x1024) ![0, 0] S2048x1024.size h)).write (Elt F) f w Finset.univ = w := Memref.write_access_unit_zero_univ (Elt F) cc0_scratch1 hz2 h f w
  have H := wp_store (defs := defs₀ (F := F)) (Γ := .empty) 𝒱₀ (c : Thread nD τ) none Set.univ (m := bM) (r := Rect.unit (s := S2048x1024) ![0, 0] S2048x1024.size h) (w := w) (Mk := Finset.univ) (hx := hx) (hm := hm) (k := k) (Q := Q) (f := f) (Finset.subset_univ _)
  rw [e1] at H
  exact H

/-- The gathered rows, stored. -/
theorem st_g {α : Type} {Q : α → sProp 𝕄} {f : Vec F S512x1024 .bf16} (w : Vec F S512x1024 .bf16) {h} {hx} {hm} {k : PUnit → Prog (TpuEff nD τ sig (Elt F) Λ₀ .tc) α} :
    stg c cc0_scratch2 f ⊢ iprop((stg c cc0_scratch2 w -∗ wpD c (k ⟨⟩) Q)
      -∗ wpD c (.op (.store gM (Rect.unit (s := S512x1024) ![0, 0] S512x1024.size h) w Finset.univ hx hm) k) Q) := by
  have e1 : (gM.access (Rect.unit (s := S512x1024) ![0, 0] S512x1024.size h)).write (Elt F) f w Finset.univ = w := Memref.write_access_unit_zero_univ (Elt F) cc0_scratch2 hz2 h f w
  have H := wp_store (defs := defs₀ (F := F)) (Γ := .empty) 𝒱₀ (c : Thread nD τ) none Set.univ (m := gM) (r := Rect.unit (s := S512x1024) ![0, 0] S512x1024.size h) (w := w) (Mk := Finset.univ) (hx := hx) (hm := hm) (k := k) (Q := Q) (f := f) (Finset.subset_univ _)
  rw [e1] at H
  exact H

/-- The result so far, stored. -/
theorem st_o {α : Type} {Q : α → sProp 𝕄} {f : Vec F S2048x1024 .f32} (w : Vec F S2048x1024 .f32) {h} {hx} {hm} {k : PUnit → Prog (TpuEff nD τ sig (Elt F) Λ₀ .tc) α} :
    stg c cc0_stg3_0 f ⊢ iprop((stg c cc0_stg3_0 w -∗ wpD c (k ⟨⟩) Q)
      -∗ wpD c (.op (.store oM (Rect.unit (s := S2048x1024) ![0, 0] S2048x1024.size h) w Finset.univ hx hm) k) Q) := by
  have e1 : (oM.access (Rect.unit (s := S2048x1024) ![0, 0] S2048x1024.size h)).write (Elt F) f w Finset.univ = w := Memref.write_access_unit_zero_univ (Elt F) cc0_stg3_0 hz2 h f w
  have H := wp_store (defs := defs₀ (F := F)) (Γ := .empty) 𝒱₀ (c : Thread nD τ) none Set.univ (m := oM) (r := Rect.unit (s := S2048x1024) ![0, 0] S2048x1024.size h) (w := w) (Mk := Finset.univ) (hx := hx) (hm := hm) (k := k) (Q := Q) (f := f) (Finset.subset_univ _)
  rw [e1] at H
  exact H

end

end Cert.KernelIdeal.Moe

end
-- ==== Proof.KI.Parts.lean ====
/- The region's body, part by part: the bundles that the parts exchange. -/
module

public import proofs.«01_k».proof.Proof.KI.Mem

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-! ## The neighbours as the program computes them -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = prv c := by revert c; decide +kernel
theorem dev17_eq (c : Dev nD) : (⟨k0_dev17 c, k0_dev17_lt c⟩ : Dev nD) = nxt c := by revert c; decide +kernel
theorem dev18_eq (c : Dev nD) : (⟨k0_dev18 c, k0_dev18_lt c⟩ : Dev nD) = prv c := by revert c; decide +kernel
theorem dev19_eq (c : Dev nD) : (⟨k0_dev19 c, k0_dev19_lt c⟩ : Dev nD) = nxt c := by revert c; decide +kernel
theorem dev20_eq (c : Dev nD) : (⟨k0_dev20 c, k0_dev20_lt c⟩ : Dev nD) = prv c := by revert c; decide +kernel

/-- The `n`-th transfer semaphore. -/
abbrev dq (n : ℕ) (h : n < 42 := by decide) : DmaSem sig := ⟨n, h⟩

theorem dv_own_nxt (c : Dev nD) : dv c 0 = dv (nxt c) 1 := by revert c; decide
theorem dv_own_prv (c : Dev nD) : dv c 0 = dv (prv c) 2 := by revert c; decide
theorem dv_fwd_nxt (c : Dev nD) : dv c 1 = dv (nxt c) 3 := by revert c; decide
theorem dv_fwd_prv (c : Dev nD) : dv c 2 = dv (prv c) 3 := by revert c; decide

/-! ## Bundles -/

/-- A slot of the weight buffer with no copy in flight, `r` copies into it done. -/
def Slot (c : Dev nD) (s : ℕ) (q : DmaSem sig) (r : ℕ) : sProp 𝕄 :=
  iprop((∃ f, kPts c (wslot s) fullShare f) ∗ atPos ER (dcell c q) r ∅ 0 ∗ reached ER (dcell c q) r)
/-- A slot holding expert `e`'s weights. -/
def Full (c : Dev nD) (s : ℕ) (q : DmaSem sig) (r : ℕ) (e : Fin 8) : sProp 𝕄 :=
  iprop(kPts c (wslot s) fullShare (WB I c e) ∗ atPos ER (dcell c q) r ∅ 0 ∗ reached ER (dcell c q) r)
/-- A slot into which a copy is in flight. -/
def Fly (c : Dev nD) (q : DmaSem sig) (r : ℕ) : sProp 𝕄 :=
  iprop(cred (tallyAt (dcell c q) () NW) ∗ atPos ER (dcell c q) r ∅ 0)
/-- What the copy of an expert's weights takes. -/
def Wt (c : Dev nD) (q : DmaSem sig) (r e : ℕ) : sProp 𝕄 :=
  iprop(wPts c (wset e) fullShare (I.w c) ∗ dutyTok ER (dcell c q) r false)
/-- Rows of unknown contents. -/
def Blk (c : Dev nD) (o n : ℕ) : sProp 𝕄 := iprop(∃ f, yPts c (rows o n) fullShare f)
/-- What a send takes besides the chunk: its two tokens and the rows it lands in. -/
def Snd (c p : Dev nD) (sS sem : DmaSem sig) (o n : ℕ) : sProp 𝕄 :=
  iprop(Blk p o n ∗ dutyTok ER (dcell c sS) 0 false ∗ dutyTok ER (dcell p sem) 0 false)
/-- A transfer of ours that has been issued: its credit and our position at its cell. -/
def Out (c : Dev nD) (q : DmaSem sig) (N : ℕ) : sProp 𝕄 :=
  iprop(cred (tallyAt (dcell c q) () N) ∗ atPos ER (dcell c q) 0 ∅ 0)
/-- A transfer that has been waited for. -/
def Don (c : Dev nD) (q : DmaSem sig) : sProp 𝕄 := iprop(atPos ER (dcell c q) 1 ∅ 0 ∗ payY I c q.val)
/-- The share of an own chunk that is kept while it is being sent. -/
def Kpt (c : Dev nD) (o : ℕ) : sProp 𝕄 := yPts c (rows o 64) fullShare.right.right (G I c)

theorem Slot_open {c : Dev nD} {s q r} : Slot (F := F) c s q r ⊢ iprop((∃ f, kPts c (wslot s) fullShare f) ∗ atPos ER (dcell c q) r ∅ 0 ∗ reached ER (dcell c q) r) := Entails.of_eq rfl
theorem Full_open {c : Dev nD} {s q r e} : Full I c s q r e ⊢ iprop(kPts c (wslot s) fullShare (WB I c e) ∗ atPos ER (dcell c q) r ∅ 0 ∗ reached ER (dcell c q) r) := Entails.of_eq rfl
theorem Fly_open {c : Dev nD} {q r} : Fly (F := F) c q r ⊢ iprop(cred (tallyAt (dcell c q) () NW) ∗ atPos ER (dcell c q) r ∅ 0) := Entails.of_eq rfl
theorem Wt_open {c : Dev nD} {q r e} : Wt I c q r e ⊢ iprop(wPts c (wset e) fullShare (I.w c) ∗ dutyTok ER (dcell c q) r false) := Entails.of_eq rfl
theorem Snd_open {c p : Dev nD} {sS sem o n} : Snd (F := F) c p sS sem o n ⊢ iprop((∃ f, yPts p (rows o n) fullShare f) ∗ dutyTok ER (dcell c sS) 0 false ∗ dutyTok ER (dcell p sem) 0 false) := Entails.of_eq rfl
theorem Out_open {c : Dev nD} {q N} : Out (F := F) c q N ⊢ iprop(cred (tallyAt (dcell c q) () N) ∗ atPos ER (dcell c q) 0 ∅ 0) := Entails.of_eq rfl
theorem Don_open {c : Dev nD} {q} : Don I c q ⊢ iprop(atPos ER (dcell c q) 1 ∅ 0 ∗ payY I c q.val) := Entails.of_eq rfl
theorem Blk_open {c : Dev nD} {o n} : Blk (F := F) c o n ⊢ iprop(∃ f, yPts c (rows o n) fullShare f) := Entails.of_eq rfl

omit [FloatOps F] in
theorem yPts_three (c : Dev nD) (S : Finset S2048x1024.Idx) (f : Vec F S2048x1024 .bf16) :
    yPts c S fullShare f ⊢ iprop(yPts c S fullShare.left f ∗ yPts c S fullShare.right.left f ∗ yPts c S fullShare.right.right f) := by
  unfold yPts
  iintro H
  ihave H2 := (pointsTo_share (PosShare.mem_left_op_right fullShare)).1 $$ H
  icases H2 with ⟨HL, HR⟩
  ihave H3 := (pointsTo_share (PosShare.mem_left_op_right fullShare.right)).1 $$ HR
  icases H3 with ⟨HRL, HRR⟩
  isplitl [HL]; · iexact HL
  isplitl [HRL] <;> iassumption

/-! ## Programs -/

theorem wpD_ret (c : Dev nD) {α : Type} {Q : α → sProp 𝕄} (a : α) : Q a ⊢ wpD c (.ret a) Q := by
  iintro H; unfold wpD; rw [wp_ret]; imodintro; iexact H
theorem wpD_bind (c : Dev nD) {α β : Type} {Q : β → sProp 𝕄} (p : Prog (TpuEff nD τ sig (Elt F) Λ₀ .tc) α) (k : α → Prog (TpuEff nD τ sig (Elt F) Λ₀ .tc) β) :
    wpD c p (fun a => wpD c (k a) Q) ⊢ wpD c (p >>= k) Q := by
  unfold wpD; rw [wp_bind]

/-- A barrier signal, with its payload. -/
theorem op_signal (c : Dev nD) {α : Type} {Q : α → sProp 𝕄} (p pd : Dev nD) (hpd : pd = p) (b : Bool) (hp : tgt c b = p) (d : Bool) (P : sProp 𝕄) (hP : (moeRd I).payload (bcell p) 0 d = P)
    (l : List Pay) {m : ℕ} (hm : m = 1) {k : PUnit → Prog (TpuEff nD τ sig (Elt F) Λ₀ .tc) α} :
    iprop(Ctx I κ ∗ Ow c ((b, .reg barrier0, 1) :: l) ∗ dutyTok ER (bcell p) 0 d ∗ P ∗ reached ER (bcell p) 0)
      ⊢ iprop((Ow c l -∗ wpD c (k ⟨⟩) Q) -∗ wpD c (.op (.semSignal (pd : Thread nD τ) barrier0 m) k) Q) := by
  subst hpd hm hP
  have hO : OL c ((b, .reg barrier0, 1) :: l) = OL c l + tallyAt (bcell pd) () 1 := by rw [OL_cons, pcell, hp]
  unfold Ow
  iintro ⟨#HC, ⟨%W, HO⟩, Ht, HP, Hr⟩ Hk
  iapply (Rounds.wp_signal 𝒱₀ ER (moeRd I) (c : Thread nD τ) none (dst := (pd : Thread nD τ)) (sem := barrier0) (r := 0) (d := d) (κ := κ (bcell pd)) (k' := 1)
    (by rw [duties_bar]; exact Finset.mem_univ _) (amount_bar I pd 0 d) () (OL c l) hO (W := W)) $$ [HO Ht HP Hr]
  · isplitr; · iapply (ctx_bar I κ pd); iexact HC
    isplitl [HO]; · iexact HO
    isplitl [Ht]; · iexact Ht
    isplitl [HP] <;> iassumption
  iintro HO
  iapply Hk; iexists _; iexact HO

/-- The wait for both neighbours' signals. -/
theorem op_barrier (c : Dev nD) {α : Type} {Q : α → sProp 𝕄} (l : List Pay) (hl : ∀ p ∈ l, slv (.reg barrier0) < slv p.2.1) {m : ℕ} (hm : m = 2)
    {k : PUnit → Prog (TpuEff nD τ sig (Elt F) Λ₀ .tc) α} :
    iprop(Ctx I κ ∗ cred (tallyAt (bcell c) () 2) ∗ Ow c l ∗ atPos ER (bcell c) 0 ∅ 0)
      ⊢ iprop((Ow c l ∗ atPos ER (bcell c) 1 ∅ 0 ∗ payF c ∗ payT c -∗ wpD c (k ⟨⟩) Q) -∗ wpD c (.op (.semWait barrier0 m) k) Q) := by
  subst hm
  unfold Ow
  iintro ⟨#HC, Hc, ⟨%W, HO⟩, Hat⟩ Hk
  iapply (Rounds.wp_wait_rest_token 𝒱₀ ER (moeRd I) (c : Thread nD τ) none (κ := κ (bcell c)) (k' := 2)
      (wpE_semWait_eq 𝒱₀ (c : Thread nD τ) none Set.univ) (Set.mem_univ _) () (O := OL c l) (W := W) (R := 0) (m := 0) (T := ∅)
      (by rw [expect_bar])) $$ [Hc HO Hat]
  · isplitr; · iapply (ctx_bar I κ c); iexact HC
    isplitl [Hc]; · iexact Hc
    isplitl [HO]; · iexact HO
    isplitr; · iapply (ctx_wait I κ c (.reg barrier0) l hl); iexact HC
    iexact Hat
  iintro ⟨HO, Hat, -, Hpay⟩
  ihave Hp := (Entails.of_eq (rest_bar I c)) $$ Hpay
  icases Hp with ⟨HF, HT⟩
  iapply Hk
  isplitl [HO]; · iexists _; iexact HO
  isplitl [Hat]; · iexact Hat
  isplitl [HF] <;> iassumption

/-! ## Splitting and joining pieces of the gathered buffer -/

omit [FloatOps F] in
theorem y_split (c : Dev nD) (o n m : ℕ) (sh : PosShare TreeShare) (f : Vec F S2048x1024 .bf16) :
    yPts c (rows o (n + m)) sh f ⊢ iprop(yPts c (rows o n) sh f ∗ yPts c (rows (o + n) m) sh f) := by
  unfold yPts
  rw [rows_union o n m]
  exact (pointsTo_union (rows_disj (Or.inl (le_refl _)))).1
omit [FloatOps F] in
theorem y_join (c : Dev nD) (o n m : ℕ) (sh : PosShare TreeShare) (f : Vec F S2048x1024 .bf16) :
    iprop(yPts c (rows o n) sh f ∗ yPts c (rows (o + n) m) sh f) ⊢ yPts c (rows o (n + m)) sh f := by
  unfold yPts
  rw [rows_union o n m]
  exact (pointsTo_union (rows_disj (Or.inl (le_refl _)))).2
omit [FloatOps F] in
theorem y_halve (c : Dev nD) (S) (sh : PosShare TreeShare) (f : Vec F S2048x1024 .bf16) :
    yPts c S sh f ⊢ iprop(yPts c S sh.left f ∗ yPts c S sh.right f) := by
  unfold yPts; exact (pointsTo_share (PosShare.mem_left_op_right sh)).1
omit [FloatOps F] in
theorem y_whole (c : Dev nD) (S) (sh : PosShare TreeShare) (f : Vec F S2048x1024 .bf16) :
    iprop(yPts c S sh.left f ∗ yPts c S sh.right f) ⊢ yPts c S sh f := by
  unfold yPts; exact (pointsTo_share (PosShare.mem_left_op_right sh)).2
omit [FloatOps F] in
theorem Blk_split (c : Dev nD) (o n m : ℕ) : Blk (F := F) c o (n + m) ⊢ iprop(Blk (F := F) c o n ∗ Blk (F := F) c (o + n) m) := by
  unfold Blk
  iintro ⟨%f, H⟩
  ihave H2 := (y_split c o n m fullShare f) $$ H
  icases H2 with ⟨H1, H2⟩
  isplitl [H1] <;> (iexists f; iassumption)
omit [FloatOps F] in
theorem Blk_eight (c : Dev nD) (o : ℕ) : Blk (F := F) c o 512
    ⊢ iprop(Blk (F := F) c o 64 ∗ Blk (F := F) c (o + 64) 64 ∗ Blk (F := F) c (o + 128) 64 ∗ Blk (F := F) c (o + 192) 64
      ∗ Blk (F := F) c (o + 256) 64 ∗ Blk (F := F) c (o + 320) 64 ∗ Blk (F := F) c (o + 384) 64 ∗ Blk (F := F) c (o + 448) 64) := by
  iintro H
  ihave Hs := (Blk_split c (o + 0) 64 448) $$ H; icases Hs with ⟨H0, Hr0⟩
  ihave Hs := (Blk_split c (o + 64) 64 384) $$ Hr0; icases Hs with ⟨H1, Hr1⟩
  ihave Hs := (Blk_split c (o + 128) 64 320) $$ Hr1; icases Hs with ⟨H2, Hr2⟩
  ihave Hs := (Blk_split c (o + 192) 64 256) $$ Hr2; icases Hs with ⟨H3, Hr3⟩
  ihave Hs := (Blk_split c (o + 256) 64 192) $$ Hr3; icases Hs with ⟨H4, Hr4⟩
  ihave Hs := (Blk_split c (o + 320) 64 128) $$ Hr4; icases Hs with ⟨H5, Hr5⟩
  ihave Hs := (Blk_split c (o + 384) 64 64) $$ Hr5; icases Hs with ⟨H6, Hr6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hr6

/-- Eight chunks of known contents, joined. -/
theorem y_eight (c : Dev nD) (o : ℕ) (sh : PosShare TreeShare) (f : Vec F S2048x1024 .bf16) :
    iprop(yPts c (rows o 64) sh f ∗ yPts c (rows (o + 64) 64) sh f ∗ yPts c (rows (o + 128) 64) sh f ∗ yPts c (rows (o + 192) 64) sh f
      ∗ yPts c (rows (o + 256) 64) sh f ∗ yPts c (rows (o + 320) 64) sh f ∗ yPts c (rows (o + 384) 64) sh f ∗ yPts c (rows (o + 448) 64) sh f)
    ⊢ yPts c (rows o 512) sh f := by
  iintro ⟨H0, H1, H2, H3, H4, H5, H6, H7⟩
  ihave J6 := (y_join c (o + 384) 64 64 sh f) $$ [H6 H7]
  · isplitl [H6]; · iexact H6
    iexact H7
  ihave J5 := (y_join c (o + 320) 64 128 sh f) $$ [H5 J6]
  · isplitl [H5]; · iexact H5
    iexact J6
  ihave J4 := (y_join c (o + 256) 64 192 sh f) $$ [H4 J5]
  · isplitl [H4]; · iexact H4
    iexact J5
  ihave J3 := (y_join c (o + 192) 64 256 sh f) $$ [H3 J4]
  · isplitl [H3]; · iexact H3
    iexact J4
  ihave J2 := (y_join c (o + 128) 64 320 sh f) $$ [H2 J3]
  · isplitl [H2]; · iexact H2
    iexact J3
  ihave J1 := (y_join c (o + 64) 64 384 sh f) $$ [H1 J2]
  · isplitl [H1]; · iexact H1
    iexact J2
  ihave J0 := (y_join c (o + 0) 64 448 sh f) $$ [H0 J1]
  · isplitl [H0]; · iexact H0
    iexact J1
  iexact J0

/-- Four chunks of known contents, joined. -/
theorem y_four (c : Dev nD) (o : ℕ) (sh : PosShare TreeShare) (f : Vec F S2048x1024 .bf16) :
    iprop(yPts c (rows o 64) sh f ∗ yPts c (rows (o + 64) 64) sh f ∗ yPts c (rows (o + 128) 64) sh f ∗ yPts c (rows (o + 192) 64) sh f)
    ⊢ yPts c (rows o 256) sh f := by
  iintro ⟨H0, H1, H2, H3⟩
  ihave J2 := (y_join c (o + 128) 64 64 sh f) $$ [H2 H3]
  · isplitl [H2]; · iexact H2
    iexact H3
  ihave J1 := (y_join c (o + 64) 64 128 sh f) $$ [H1 J2]
  · isplitl [H1]; · iexact H1
    iexact J2
  ihave J0 := (y_join c (o + 0) 64 192 sh f) $$ [H0 J1]
  · isplitl [H0]; · iexact H0
    iexact J1
  iexact J0
theorem Ow_0 (c : Dev nD) : Ow (F := F) c (pS 0) ⊢ Ow (F := F) c ((true, .dma (dq 22), N64) :: (false, .dma (dq 30), N64) :: pS 1) := Entails.of_eq rfl
theorem Ow_1 (c : Dev nD) : Ow (F := F) c (pS 1) ⊢ Ow (F := F) c ((true, .dma (dq 23), N64) :: (false, .dma (dq 31), N64) :: pS 2) := Entails.of_eq rfl
theorem Ow_2 (c : Dev nD) : Ow (F := F) c (pS 2) ⊢ Ow (F := F) c ((true, .dma (dq 24), N64) :: (false, .dma (dq 32), N64) :: pS 3) := Entails.of_eq rfl
theorem Ow_3 (c : Dev nD) : Ow (F := F) c (pS 3) ⊢ Ow (F := F) c ((true, .dma (dq 25), N64) :: (false, .dma (dq 33), N64) :: pS 4) := Entails.of_eq rfl
theorem Ow_4 (c : Dev nD) : Ow (F := F) c (pS 4) ⊢ Ow (F := F) c ((true, .dma (dq 26), N64) :: (false, .dma (dq 34), N64) :: pS 5) := Entails.of_eq rfl
theorem Ow_5 (c : Dev nD) : Ow (F := F) c (pS 5) ⊢ Ow (F := F) c ((true, .dma (dq 27), N64) :: (false, .dma (dq 35), N64) :: pS 6) := Entails.of_eq rfl
theorem Ow_6 (c : Dev nD) : Ow (F := F) c (pS 6) ⊢ Ow (F := F) c ((true, .dma (dq 28), N64) :: (false, .dma (dq 36), N64) :: pS 7) := Entails.of_eq rfl
theorem Ow_7 (c : Dev nD) : Ow (F := F) c (pS 7) ⊢ Ow (F := F) c ((true, .dma (dq 29), N64) :: (false, .dma (dq 37), N64) :: pS 8) := Entails.of_eq rfl
theorem Ow_8 (c : Dev nD) : Ow (F := F) c (pS 8) ⊢ Ow (F := F) c ((true, .dma (dq 40), N256) :: [pF1]) := Entails.of_eq rfl
theorem Ow_9 (c : Dev nD) : Ow (F := F) c [pF1] ⊢ Ow (F := F) c ((false, .dma (dq 41), N256) :: []) := Entails.of_eq rfl
theorem lvF : ∀ p ∈ pS 8, 2 < slv p.2.1 := by rw [pS_8]; decide
theorem lvF1 : ∀ p ∈ [pF1], 2 < slv p.2.1 := by decide

/-- A transfer that was waited for, as the position and the piece. -/
theorem Don_pts (c : Dev nD) (q : DmaSem sig) (o n : ℕ) (sh : PosShare TreeShare) (ho : roff q.val = o) (hn : rlen q.val = n) (hs : rsh q.val = sh) :
    Don I c q ⊢ iprop(atPos ER (dcell c q) 1 ∅ 0 ∗ yPts c (rows o n) sh (G I c)) := by
  subst ho hn hs; exact Entails.of_eq rfl

/-- An arrived quarter: half of it lent to be forwarded in part (`a`: its first 256 rows), the other half kept for reading. -/
def Fin1 (c : Dev nD) (q : DmaSem sig) : sProp 𝕄 := atPos ER (dcell c q) 1 ∅ 0
theorem arrL (c : Dev nD) : iprop(Don I c (dq 22) ∗ Don I c (dq 23) ∗ Don I c (dq 24) ∗ Don I c (dq 25) ∗ Don I c (dq 26) ∗ Don I c (dq 27) ∗ Don I c (dq 28) ∗ Don I c (dq 29))
    ⊢ iprop((Fin1 (F := F) c (dq 22) ∗ Fin1 (F := F) c (dq 23) ∗ Fin1 (F := F) c (dq 24) ∗ Fin1 (F := F) c (dq 25) ∗ Fin1 (F := F) c (dq 26) ∗ Fin1 (F := F) c (dq 27) ∗ Fin1 (F := F) c (dq 28) ∗ Fin1 (F := F) c (dq 29)) ∗ yPts c (rows 512 256) fullShare.left (G I c) ∗ yPts c (rows 512 512) fullShare.right (G I c) ∗ yPts c (rows 768 256) fullShare.left (G I c)) := by
  iintro ⟨D0, D1, D2, D3, D4, D5, D6, D7⟩
  have hz := Don_pts I c (dq 22) 512 64 fullShare rfl rfl rfl
  ihave Hz := hz $$ D0; icases Hz with ⟨A0, P0⟩
  have hz := Don_pts I c (dq 23) 576 64 fullShare rfl rfl rfl
  ihave Hz := hz $$ D1; icases Hz with ⟨A1, P1⟩
  have hz := Don_pts I c (dq 24) 640 64 fullShare rfl rfl rfl
  ihave Hz := hz $$ D2; icases Hz with ⟨A2, P2⟩
  have hz := Don_pts I c (dq 25) 704 64 fullShare rfl rfl rfl
  ihave Hz := hz $$ D3; icases Hz with ⟨A3, P3⟩
  have hz := Don_pts I c (dq 26) 768 64 fullShare rfl rfl rfl
  ihave Hz := hz $$ D4; icases Hz with ⟨A4, P4⟩
  have hz := Don_pts I c (dq 27) 832 64 fullShare rfl rfl rfl
  ihave Hz := hz $$ D5; icases Hz with ⟨A5, P5⟩
  have hz := Don_pts I c (dq 28) 896 64 fullShare rfl rfl rfl
  ihave Hz := hz $$ D6; icases Hz with ⟨A6, P6⟩
  have hz := Don_pts I c (dq 29) 960 64 fullShare rfl rfl rfl
  ihave Hz := hz $$ D7; icases Hz with ⟨A7, P7⟩
  ihave B0 := (y_four c 512 fullShare (G I c)) $$ [P0 P1 P2 P3]
  · isplitl [P0]; · iexact P0
    isplitl [P1]; · iexact P1
    isplitl [P2] <;> iassumption
  ihave B1 := (y_four c 768 fullShare (G I c)) $$ [P4 P5 P6 P7]
  · isplitl [P4]; · iexact P4
    isplitl [P5]; · iexact P5
    isplitl [P6] <;> iassumption
  ihave Hz := (y_halve c _ _ _) $$ B0; icases Hz with ⟨B0l, B0r⟩
  ihave Hz := (y_halve c _ _ _) $$ B1; icases Hz with ⟨B1l, B1r⟩
  ihave R := (y_join c 512 256 256 fullShare.right (G I c)) $$ [B0r B1r]
  · isplitl [B0r] <;> iassumption
  isplitl [A0 A1 A2 A3 A4 A5 A6 A7]
  · unfold Fin1
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0l]; · iexact B0l
  isplitl [R]; · iexact R
  iexact B1l

theorem arrR (c : Dev nD) : iprop(Don I c (dq 30) ∗ Don I c (dq 31) ∗ Don I c (dq 32) ∗ Don I c (dq 33) ∗ Don I c (dq 34) ∗ Don I c (dq 35) ∗ Don I c (dq 36) ∗ Don I c (dq 37))
    ⊢ iprop((Fin1 (F := F) c (dq 30) ∗ Fin1 (F := F) c (dq 31) ∗ Fin1 (F := F) c (dq 32) ∗ Fin1 (F := F) c (dq 33) ∗ Fin1 (F := F) c (dq 34) ∗ Fin1 (F := F) c (dq 35) ∗ Fin1 (F := F) c (dq 36) ∗ Fin1 (F := F) c (dq 37)) ∗ yPts c (rows 1280 256) fullShare.left (G I c) ∗ yPts c (rows 1024 512) fullShare.right (G I c) ∗ yPts c (rows 1024 256) fullShare.left (G I c)) := by
  iintro ⟨D0, D1, D2, D3, D4, D5, D6, D7⟩
  have hz := Don_pts I c (dq 30) 1024 64 fullShare rfl rfl rfl
  ihave Hz := hz $$ D0; icases Hz with ⟨A0, P0⟩
  have hz := Don_pts I c (dq 31) 1088 64 fullShare rfl rfl rfl
  ihave Hz := hz $$ D1; icases Hz with ⟨A1, P1⟩
  have hz := Don_pts I c (dq 32) 1152 64 fullShare rfl rfl rfl
  ihave Hz := hz $$ D2; icases Hz with ⟨A2, P2⟩
  have hz := Don_pts I c (dq 33) 1216 64 fullShare rfl rfl rfl
  ihave Hz := hz $$ D3; icases Hz with ⟨A3, P3⟩
  have hz := Don_pts I c (dq 34) 1280 64 fullShare rfl rfl rfl
  ihave Hz := hz $$ D4; icases Hz with ⟨A4, P4⟩
  have hz := Don_pts I c (dq 35) 1344 64 fullShare rfl rfl rfl
  ihave Hz := hz $$ D5; icases Hz with ⟨A5, P5⟩
  have hz := Don_pts I c (dq 36) 1408 64 fullShare rfl rfl rfl
  ihave Hz := hz $$ D6; icases Hz with ⟨A6, P6⟩
  have hz := Don_pts I c (dq 37) 1472 64 fullShare rfl rfl rfl
  ihave Hz := hz $$ D7; icases Hz with ⟨A7, P7⟩
  ihave B0 := (y_four c 1024 fullShare (G I c)) $$ [P0 P1 P2 P3]
  · isplitl [P0]; · iexact P0
    isplitl [P1]; · iexact P1
    isplitl [P2] <;> iassumption
  ihave B1 := (y_four c 1280 fullShare (G I c)) $$ [P4 P5 P6 P7]
  · isplitl [P4]; · iexact P4
    isplitl [P5]; · iexact P5
    isplitl [P6] <;> iassumption
  ihave Hz := (y_halve c _ _ _) $$ B0; icases Hz with ⟨B0l, B0r⟩
  ihave Hz := (y_halve c _ _ _) $$ B1; icases Hz with ⟨B1l, B1r⟩
  ihave R := (y_join c 1024 256 256 fullShare.right (G I c)) $$ [B0r B1r]
  · isplitl [B0r] <;> iassumption
  isplitl [A0 A1 A2 A3 A4 A5 A6 A7]
  · unfold Fin1
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B1l]; · iexact B1l
  isplitl [R]; · iexact R
  iexact B0l

theorem arrD (c : Dev nD) : iprop(Don I c (dq 40) ∗ Don I c (dq 41)) ⊢ iprop((Fin1 (F := F) c (dq 40) ∗ Fin1 (F := F) c (dq 41)) ∗ yPts c (rows 1536 512) fullShare (G I c)) := by
  iintro ⟨D0, D1⟩
  have hz := Don_pts I c (dq 40) 1536 256 fullShare rfl rfl rfl
  ihave Hz := hz $$ D0; icases Hz with ⟨A0, P0⟩
  have hz := Don_pts I c (dq 41) 1792 256 fullShare rfl rfl rfl
  ihave Hz := hz $$ D1; icases Hz with ⟨A1, P1⟩
  isplitl [A0 A1]
  · unfold Fin1; isplitl [A0] <;> iassumption
  iapply (y_join c 1536 256 256 fullShare (G I c))
  isplitl [P0] <;> iassumption

end Cert.KernelIdeal.Moe

end
-- ==== Proof.KI.PartsA.lean ====
/- The region's body, part by part: parts 2 to 5. -/
module

public import proofs.«01_k».proof.Proof.KI.Parts

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- The first copy, the rows gathered, and the wait for the copy. -/
theorem part2 (c : Dev nD) {Q : PUnit → sProp 𝕄} {harg0 harg1 harg2 harg3 harg4 harg5 harg6 harg7 harg8} :
    iprop(Ctx I κ ∗ Rch (F := F) c ∗ Rch (F := F) (nxt c) ∗ Rch (F := F) (prv c) ∗ Ow (F := F) c (pS 0) ∗ Wt I c (dq 4) 0 0 ∗ Slot (F := F) c 0 (dq 4) 0 ∗ stg c cc0_stg0_0 (I.x c) ∗ stg c cc0_stg1_0 (I.d c) ∗ (∃ f, stg c cc0_scratch1 f) ∗ (∃ f, stg c cc0_scratch2 f))
      ⊢ iprop((stg c cc0_stg0_0 (I.x c) ∗ stg c cc0_stg1_0 (I.d c) ∗ stg c cc0_scratch1 (xb I c) ∗ stg c cc0_scratch2 (xg I c) ∗ Full I c 0 (dq 4) 1 0 ∗ wPts c (wset 0) fullShare (I.w c) ∗ Ow (F := F) c (pS 0) -∗ Q ⟨⟩)
          -∗ wpD c (k0_part2 xM harg0 dM harg1 uM harg2 wM harg3 oM harg4 yM harg5 bM harg6 gM harg7 kM harg8 cc0_scratch4 cc0_scratch5 cc0_scratch6 cc0_scratch7 cc0_scratch8 cc0_scratch9 cc0_scratch10) Q) := by
  rw [k0_part2_eq_skeleton]
  unfold k0_part2_skel
  simp only [semSignalWord, semWaitWord, Prog.lift, Prog.bind_op, Prog.bind_ret, Prog.pure_eq_ret, Prog.bind_assoc, wp_deviceId]
  iintro ⟨#HC, #HRo, #HRn, #HRp, HO, Hw0, Hs0, Hx, Hd, Hbb, Hg⟩ Hk
  ihave Hz := (Wt_open I) $$ Hw0; icases Hz with ⟨Hwa, Hwb⟩
  ihave Hz := Slot_open $$ Hs0; icases Hz with ⟨Hsa, Hsb, Hsc⟩
  iapply (op_wcopy I κ c 0 0 0 rfl rfl (dq 4) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf0 : Fly (F := F) c (dq 4) 0 $$ [Hcr Hsb]
  · unfold Fly; isplitl [Hcr] <;> iassumption
  icases Hbb with ⟨%fb, Hbb⟩
  icases Hg with ⟨%fg, Hg⟩
  iapply (ld_x c) $$ Hx; iintro Hx
  iapply (ld_b c) $$ Hbb; iintro Hbb
  iapply (st_b c (xb I c)) $$ Hbb; iintro Hbb
  iapply (ld_d c) $$ Hd; iintro Hd
  iapply (ld_b c) $$ Hbb; iintro Hbb
  iapply (ld_g c) $$ Hg; iintro Hg
  iapply (st_g c (xg I c)) $$ Hg; iintro Hg
  ihave Hz := Fly_open $$ Hf0; icases Hz with ⟨Hfa, Hfb⟩
  iapply (op_wwait I κ c 0 0 0 rfl rfl (dq 4) rfl (pS 0) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk0 : Full I c 0 (dq 4) 1 0 $$ [Hga Hgb Hgc]
  · unfold Full; isplitl [Hgc]; · iexact Hgc
    isplitl [Hga]; · iexact Hga
    iexact Hgb
  ihave Hv0 : wPts c (wset 0) fullShare (I.w c) $$ [Hgd]
  · iexact Hgd
  iapply (wpD_ret c _)
  iapply Hk
  isplitl [Hx]; · iexact Hx
  isplitl [Hd]; · iexact Hd
  isplitl [Hbb]; · iexact Hbb
  isplitl [Hg]; · iexact Hg
  isplitl [Hk0]; · iexact Hk0
  isplitl [Hv0]; · iexact Hv0
  iexact HO

/-- Part 3 of the body: what it takes and what it leaves. -/
theorem part3 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Wt I c (dq 5) 0 1 ∗ Slot (F := F) c 1 (dq 5) 0 ∗ stg c cc0_scratch2 (xg I c) ∗ Full I c 0 (dq 4) 1 0 ∗ Blk (F := F) c 0 64 ∗ Ow (F := F) c (pS 0) ∗ Snd (F := F) c (nxt c) (dq 6) (dq 22) 512 64 ∗ atPos (ER (F := F)) (dcell c (dq 6)) 0 ∅ 0 ∗ Snd (F := F) c (prv c) (dq 14) (dq 30) 1024 64 ∗ atPos (ER (F := F)) (dcell c (dq 14)) 0 ∅ 0)
      ⊢ iprop((Fly (F := F) c (dq 5) 0 ∗ stg c cc0_scratch2 (xg I c) ∗ Slot (F := F) c 0 (dq 4) 1 ∗ yPts c (rows 0 64) fullShare.right.right (G I c) ∗ Out (F := F) c (dq 6) N64 ∗ Out (F := F) c (dq 14) N64 ∗ Ow (F := F) c (pS 1) -∗ Q ⟨⟩)
          -∗ wpD c (k0_part3 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part3_eq_skeleton]
  unfold k0_part3_skel
  simp only [semSignalWord, semWaitWord, Prog.lift, Prog.bind_op, Prog.bind_ret, Prog.pure_eq_ret, Prog.bind_assoc, wp_deviceId]
  iintro ⟨#HC, #HRo, #HRn, #HRp, Hw1, Hs1, Hg, Hk0, Hr0, HO, Hq6, Hat6, Hq14, Hat14⟩ Hk
  ihave Hz := (Wt_open I) $$ Hw1; icases Hz with ⟨Hwa, Hwb⟩
  ihave Hz := Slot_open $$ Hs1; icases Hz with ⟨Hsa, Hsb, Hsc⟩
  iapply (op_wcopy I κ c 1 1 1 rfl rfl (dq 5) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf1 : Fly (F := F) c (dq 5) 0 $$ [Hcr Hsb]
  · unfold Fly; isplitl [Hcr] <;> iassumption
  iapply (ld_xg I c 0 0 rfl) $$ Hg; iintro Hg
  ihave Hz := (Full_open I) $$ Hk0; icases Hz with ⟨Hka, Hkb⟩
  iapply (ld_w I c 0 0) $$ Hka; iintro Hka
  ihave Hk0 : Full I c 0 (dq 4) 1 0 $$ [Hka Hkb]
  · unfold Full; isplitl [Hka] <;> iassumption
  ihave Hs0 : Slot (F := F) c 0 (dq 4) 1 $$ [Hk0]
  · unfold Slot; ihave Hz := (Full_open I) $$ Hk0; icases Hz with ⟨Ha, Hb⟩; isplitl [Ha]; · iexists _; iexact Ha
    iexact Hb
  ihave Hz := Blk_open $$ Hr0; icases Hz with ⟨%fr, Hr0⟩
  iapply (ld_dead c 0 64 (fun _ => rfl)) $$ Hr0; iintro Hr0
  iapply (st_y I c 0 0 rfl _ rfl) $$ Hr0; iintro Hr0
  ihave Hy3 := (yPts_three c _ _) $$ Hr0
  icases Hy3 with ⟨Ha0, Hb0, Hp0⟩
  ihave HO := (Ow_0 c) $$ HO
  ihave Hz := Snd_open $$ Hq6; icases Hz with ⟨Hqa, Hqb, Hqc⟩
  iapply (op_send I κ c _ _ (dev3_eq c) true rfl 0 512 64 0 1 (dq 6) (dq 22) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 30), N64) :: pS 1)) $$ [Ha0 Hqa Hqb Hqc HO]
  · isplitr; · iexact HC
    isplitr; · iexact HRo
    isplitr; · iexact HRn
    isplitl [Ha0]; · iexact Ha0
    isplitl [Hqa]; · iexact Hqa
    isplitl [HO]; · iexact HO
    isplitl [Hqb] <;> iassumption
  iintro ⟨Hcr, HO⟩
  ihave Ho6 : Out (F := F) c (dq 6) N64 $$ [Hcr Hat6]
  · unfold Out; isplitl [Hcr] <;> iassumption
  ihave Hz := Snd_open $$ Hq14; icases Hz with ⟨Hqa, Hqb, Hqc⟩
  iapply (op_send I κ c _ _ (dev4_eq c) false rfl 0 1024 64 0 2 (dq 14) (dq 30) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 1)) $$ [Hb0 Hqa Hqb Hqc HO]
  · isplitr; · iexact HC
    isplitr; · iexact HRo
    isplitr; · iexact HRp
    isplitl [Hb0]; · iexact Hb0
    isplitl [Hqa]; · iexact Hqa
    isplitl [HO]; · iexact HO
    isplitl [Hqb] <;> iassumption
  iintro ⟨Hcr, HO⟩
  ihave Ho14 : Out (F := F) c (dq 14) N64 $$ [Hcr Hat14]
  · unfold Out; isplitl [Hcr] <;> iassumption
  iapply (wpD_ret c _)
  iapply Hk
  isplitl [Hf1]; · iexact Hf1
  isplitl [Hg]; · iexact Hg
  isplitl [Hs0]; · iexact Hs0
  isplitl [Hp0]; · iexact Hp0
  isplitl [Ho6]; · iexact Ho6
  isplitl [Ho14]; · iexact Ho14
  iexact HO

/-- Part 4 of the body: what it takes and what it leaves. -/
theorem part4 (c : Dev nD) {Q : PUnit → sProp 𝕄} {harg0 harg1 harg2 harg3 harg4 harg5 harg6 harg7 harg8} {v24 : BitVec 32} :
    iprop(Ctx I κ ∗ Rch (F := F) c ∗ Rch (F := F) (nxt c) ∗ Rch (F := F) (prv c) ∗ Fly (F := F) c (dq 5) 0 ∗ Ow (F := F) c (pS 1) ∗ Wt I c (dq 4) 1 2 ∗ Slot (F := F) c 0 (dq 4) 1 ∗ stg c cc0_scratch2 (xg I c) ∗ Blk (F := F) c 64 64)
      ⊢ iprop((wPts c (wset 1) fullShare (I.w c) ∗ Ow (F := F) c (pS 1) ∗ Fly (F := F) c (dq 4) 1 ∗ stg c cc0_scratch2 (xg I c) ∗ Slot (F := F) c 1 (dq 5) 1 ∗ yPts c (rows 64 64) fullShare.left (G I c) ∗ yPts c (rows 64 64) fullShare.right.left (G I c) ∗ yPts c (rows 64 64) fullShare.right.right (G I c) -∗ Q ⟨⟩)
          -∗ wpD c (k0_part4 xM harg0 dM harg1 uM harg2 wM harg3 oM harg4 yM harg5 bM harg6 gM harg7 kM harg8 cc0_scratch4 cc0_scratch5 cc0_scratch6 cc0_scratch7 cc0_scratch8 cc0_scratch9 cc0_scratch10 v24) Q) := by
  rw [k0_part4_eq_skeleton]
  unfold k0_part4_skel
  simp only [semSignalWord, semWaitWord, Prog.lift, Prog.bind_op, Prog.bind_ret, Prog.pure_eq_ret, Prog.bind_assoc, wp_deviceId]
  iintro ⟨#HC, #HRo, #HRn, #HRp, Hf1, HO, Hw2, Hs0, Hg, Hr1⟩ Hk
  ihave Hz := Fly_open $$ Hf1; icases Hz with ⟨Hfa, Hfb⟩
  iapply (op_wwait I κ c 1 1 1 rfl rfl (dq 5) rfl (pS 1) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk1 : Full I c 1 (dq 5) 1 1 $$ [Hga Hgb Hgc]
  · unfold Full; isplitl [Hgc]; · iexact Hgc
    isplitl [Hga]; · iexact Hga
    iexact Hgb
  ihave Hv1 : wPts c (wset 1) fullShare (I.w c) $$ [Hgd]
  · iexact Hgd
  ihave Hz := (Wt_open I) $$ Hw2; icases Hz with ⟨Hwa, Hwb⟩
  ihave Hz := Slot_open $$ Hs0; icases Hz with ⟨Hsa, Hsb, Hsc⟩
  iapply (op_wcopy I κ c 2 2 0 rfl rfl (dq 4) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf0 : Fly (F := F) c (dq 4) 1 $$ [Hcr Hsb]
  · unfold Fly; isplitl [Hcr] <;> iassumption
  iapply (ld_xg I c 1 64 rfl) $$ Hg; iintro Hg
  ihave Hz := (Full_open I) $$ Hk1; icases Hz with ⟨Hka, Hkb⟩
  iapply (ld_w I c 1 1) $$ Hka; iintro Hka
  ihave Hk1 : Full I c 1 (dq 5) 1 1 $$ [Hka Hkb]
  · unfold Full; isplitl [Hka] <;> iassumption
  ihave Hs1 : Slot (F := F) c 1 (dq 5) 1 $$ [Hk1]
  · unfold Slot; ihave Hz := (Full_open I) $$ Hk1; icases Hz with ⟨Ha, Hb⟩; isplitl [Ha]; · iexists _; iexact Ha
    iexact Hb
  ihave Hz := Blk_open $$ Hr1; icases Hz with ⟨%fr, Hr1⟩
  iapply (ld_dead c 64 64 (fun _ => rfl)) $$ Hr1; iintro Hr1
  iapply (st_y I c 1 64 rfl _ rfl) $$ Hr1; iintro Hr1
  ihave Hy3 := (yPts_three c _ _) $$ Hr1
  icases Hy3 with ⟨Ha1, Hb1, Hp1⟩
  iapply (wpD_ret c _)
  iapply Hk
  isplitl [Hv1]; · iexact Hv1
  isplitl [HO]; · iexact HO
  isplitl [Hf0]; · iexact Hf0
  isplitl [Hg]; · iexact Hg
  isplitl [Hs1]; · iexact Hs1
  isplitl [Ha1]; · iexact Ha1
  isplitl [Hb1]; · iexact Hb1
  iexact Hp1

/-- Part 5 of the body: what it takes and what it leaves. -/
theorem part5 (c : Dev nD) {Q : FVec F S64x1024 .bf16 → sProp 𝕄} {harg0 harg1 harg2 harg3 harg4 harg5 harg6 harg7 harg8} {v13 : BitVec 32} :
    iprop(Ctx I κ ∗ Rch (F := F) c ∗ Rch (F := F) (nxt c) ∗ Rch (F := F) (prv c) ∗ Ow (F := F) c (pS 1) ∗ yPts c (rows 64 64) fullShare.left (G I c) ∗ Snd (F := F) c (nxt c) (dq 7) (dq 23) 576 64 ∗ atPos (ER (F := F)) (dcell c (dq 7)) 0 ∅ 0 ∗ yPts c (rows 64 64) fullShare.right.left (G I c) ∗ Snd (F := F) c (prv c) (dq 15) (dq 31) 1088 64 ∗ atPos (ER (F := F)) (dcell c (dq 15)) 0 ∅ 0 ∗ Fly (F := F) c (dq 4) 1 ∗ Wt I c (dq 5) 1 3 ∗ Slot (F := F) c 1 (dq 5) 1 ∗ stg c cc0_scratch2 (xg I c))
      ⊢ iprop((Out (F := F) c (dq 7) N64 ∗ Out (F := F) c (dq 15) N64 ∗ wPts c (wset 2) fullShare (I.w c) ∗ Ow (F := F) c (pS 2) ∗ Fly (F := F) c (dq 5) 1 ∗ stg c cc0_scratch2 (xg I c) ∗ Slot (F := F) c 0 (dq 4) 2 -∗ Q (k0_pay5 (xgRows I c 2) (wv I c 2)))
          -∗ wpD c (k0_part5 xM harg0 dM harg1 uM harg2 wM harg3 oM harg4 yM harg5 bM harg6 gM harg7 kM harg8 cc0_scratch4 cc0_scratch5 cc0_scratch6 cc0_scratch7 cc0_scratch8 cc0_scratch9 cc0_scratch10 c v13) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#HC, #HRo, #HRn, #HRp, HO, Ha1, Hq7, Hat7, Hb1, Hq15, Hat15, Hf0, Hw3, Hs1, Hg⟩ Hk
  ihave HO := (Ow_1 c) $$ HO
  ihave Hz := Snd_open $$ Hq7; icases Hz with ⟨Hqa, Hqb, Hqc⟩
  iapply (op_send I κ c _ _ (dev5_eq c) true rfl 64 576 64 0 1 (dq 7) (dq 23) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 31), N64) :: pS 2)) $$ [Ha1 Hqa Hqb Hqc HO]
  · isplitr; · iexact HC
    isplitr; · iexact HRo
    isplitr; · iexact HRn
    isplitl [Ha1]; · iexact Ha1
    isplitl [Hqa]; · iexact Hqa
    isplitl [HO]; · iexact HO
    isplitl [Hqb] <;> iassumption
  iintro ⟨Hcr, HO⟩
  ihave Ho7 : Out (F := F) c (dq 7) N64 $$ [Hcr Hat7]
  · unfold Out; isplitl [Hcr] <;> iassumption
  ihave Hz := Snd_open $$ Hq15; icases Hz with ⟨Hqa, Hqb, Hqc⟩
  iapply (op_send I κ c _ _ (dev6_eq c) false rfl 64 1088 64 0 2 (dq 15) (dq 31) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 2)) $$ [Hb1 Hqa Hqb Hqc HO]
  · isplitr; · iexact HC
    isplitr; · iexact HRo
    isplitr; · iexact HRp
    isplitl [Hb1]; · iexact Hb1
    isplitl [Hqa]; · iexact Hqa
    isplitl [HO]; · iexact HO
    isplitl [Hqb] <;> iassumption
  iintro ⟨Hcr, HO⟩
  ihave Ho15 : Out (F := F) c (dq 15) N64 $$ [Hcr Hat15]
  · unfold Out; isplitl [Hcr] <;> iassumption
  ihave Hz := Fly_open $$ Hf0; icases Hz with ⟨Hfa, Hfb⟩
  iapply (op_wwait I κ c 2 2 0 rfl rfl (dq 4) rfl (pS 2) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk0 : Full I c 0 (dq 4) 2 2 $$ [Hga Hgb Hgc]
  · unfold Full; isplitl [Hgc]; · iexact Hgc
    isplitl [Hga]; · iexact Hga
    iexact Hgb
  ihave Hv2 : wPts c (wset 2) fullShare (I.w c) $$ [Hgd]
  · iexact Hgd
  ihave Hz := (Wt_open I) $$ Hw3; icases Hz with ⟨Hwa, Hwb⟩
  ihave Hz := Slot_open $$ Hs1; icases Hz with ⟨Hsa, Hsb, Hsc⟩
  iapply (op_wcopy I κ c 3 3 1 rfl rfl (dq 5) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf1 : Fly (F := F) c (dq 5) 1 $$ [Hcr Hsb]
  · unfold Fly; isplitl [Hcr] <;> iassumption
  iapply (ld_xg I c 2 128 rfl) $$ Hg; iintro Hg
  ihave Hz := (Full_open I) $$ Hk0; icases Hz with ⟨Hka, Hkb⟩
  iapply (ld_w I c 2 0) $$ Hka; iintro Hka
  ihave Hk0 : Full I c 0 (dq 4) 2 2 $$ [Hka Hkb]
  · unfold Full; isplitl [Hka] <;> iassumption
  ihave Hs0 : Slot (F := F) c 0 (dq 4) 2 $$ [Hk0]
  · unfold Slot; ihave Hz := (Full_open I) $$ Hk0; icases Hz with ⟨Ha, Hb⟩; isplitl [Ha]; · iexists _; iexact Ha
    iexact Hb
  iapply (wpD_ret c _)
  iapply Hk
  isplitl [Ho7]; · iexact Ho7
  isplitl [Ho15]; · iexact Ho15
  isplitl [Hv2]; · iexact Hv2
  isplitl [HO]; · iexact HO
  isplitl [Hf1]; · iexact Hf1
  isplitl [Hg]; · iexact Hg
  iexact Hs0

end Cert.KernelIdeal.Moe

end
-- ==== Proof.KI.PartsB.lean ====
/- The region's body, part by part: parts 6 to 9. -/
module

public import proofs.«01_k».proof.Proof.KI.Parts

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- Part 6 of the body: what it takes and what it leaves. -/
theorem part6 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Blk (F := F) c 128 64 ∗ Ow (F := F) c (pS 2) ∗ Snd (F := F) c (nxt c) (dq 8) (dq 24) 640 64 ∗ atPos (ER (F := F)) (dcell c (dq 8)) 0 ∅ 0 ∗ Snd (F := F) c (prv c) (dq 16) (dq 32) 1152 64 ∗ atPos (ER (F := F)) (dcell c (dq 16)) 0 ∅ 0 ∗ Fly (F := F) c (dq 5) 1)
      ⊢ iprop((yPts c (rows 128 64) fullShare.right.right (G I c) ∗ Out (F := F) c (dq 8) N64 ∗ Out (F := F) c (dq 16) N64 ∗ Full I c 1 (dq 5) 2 3 ∗ wPts c (wset 3) fullShare (I.w c) ∗ Ow (F := F) c (pS 3) -∗ Q ⟨⟩)
          -∗ wpD c (k0_part6 xM harg0 dM harg1 uM harg2 wM harg3 oM harg4 yM harg5 bM harg6 gM harg7 kM harg8 cc0_scratch4 cc0_scratch5 cc0_scratch6 cc0_scratch7 cc0_scratch8 cc0_scratch9 cc0_scratch10 c v13 v24 (k0_pay5 (xgRows I c 2) (wv I c 2))) Q) := by
  rw [k0_part6_eq_skeleton]
  unfold k0_part6_skel
  simp only [semSignalWord, semWaitWord, Prog.lift, Prog.bind_op, Prog.bind_ret, Prog.pure_eq_ret, Prog.bind_assoc, wp_deviceId]
  iintro ⟨#HC, #HRo, #HRn, #HRp, Hr2, HO, Hq8, Hat8, Hq16, Hat16, Hf1⟩ Hk
  ihave Hz := Blk_open $$ Hr2; icases Hz with ⟨%fr, Hr2⟩
  iapply (ld_dead c 128 64 (fun _ => rfl)) $$ Hr2; iintro Hr2
  iapply (st_y I c 2 128 rfl _ rfl) $$ Hr2; iintro Hr2
  ihave Hy3 := (yPts_three c _ _) $$ Hr2
  icases Hy3 with ⟨Ha2, Hb2, Hp2⟩
  ihave HO := (Ow_2 c) $$ HO
  ihave Hz := Snd_open $$ Hq8; icases Hz with ⟨Hqa, Hqb, Hqc⟩
  iapply (op_send I κ c _ _ (dev7_eq c) true rfl 128 640 64 0 1 (dq 8) (dq 24) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 32), N64) :: pS 3)) $$ [Ha2 Hqa Hqb Hqc HO]
  · isplitr; · iexact HC
    isplitr; · iexact HRo
    isplitr; · iexact HRn
    isplitl [Ha2]; · iexact Ha2
    isplitl [Hqa]; · iexact Hqa
    isplitl [HO]; · iexact HO
    isplitl [Hqb] <;> iassumption
  iintro ⟨Hcr, HO⟩
  ihave Ho8 : Out (F := F) c (dq 8) N64 $$ [Hcr Hat8]
  · unfold Out; isplitl [Hcr] <;> iassumption
  ihave Hz := Snd_open $$ Hq16; icases Hz with ⟨Hqa, Hqb, Hqc⟩
  iapply (op_send I κ c _ _ (dev8_eq c) false rfl 128 1152 64 0 2 (dq 16) (dq 32) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 3)) $$ [Hb2 Hqa Hqb Hqc HO]
  · isplitr; · iexact HC
    isplitr; · iexact HRo
    isplitr; · iexact HRp
    isplitl [Hb2]; · iexact Hb2
    isplitl [Hqa]; · iexact Hqa
    isplitl [HO]; · iexact HO
    isplitl [Hqb] <;> iassumption
  iintro ⟨Hcr, HO⟩
  ihave Ho16 : Out (F := F) c (dq 16) N64 $$ [Hcr Hat16]
  · unfold Out; isplitl [Hcr] <;> iassumption
  ihave Hz := Fly_open $$ Hf1; icases Hz with ⟨Hfa, Hfb⟩
  iapply (op_wwait I κ c 3 3 1 rfl rfl (dq 5) rfl (pS 3) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk1 : Full I c 1 (dq 5) 2 3 $$ [Hga Hgb Hgc]
  · unfold Full; isplitl [Hgc]; · iexact Hgc
    isplitl [Hga]; · iexact Hga
    iexact Hgb
  ihave Hv3 : wPts c (wset 3) fullShare (I.w c) $$ [Hgd]
  · iexact Hgd
  iapply (wpD_ret c _)
  iapply Hk
  isplitl [Hp2]; · iexact Hp2
  isplitl [Ho8]; · iexact Ho8
  isplitl [Ho16]; · iexact Ho16
  isplitl [Hk1]; · iexact Hk1
  isplitl [Hv3]; · iexact Hv3
  iexact HO

/-- Part 7 of the body: what it takes and what it leaves. -/
theorem part7 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Wt I c (dq 4) 2 4 ∗ Slot (F := F) c 0 (dq 4) 2 ∗ stg c cc0_scratch2 (xg I c) ∗ Full I c 1 (dq 5) 2 3 ∗ Blk (F := F) c 192 64 ∗ Ow (F := F) c (pS 3) ∗ Snd (F := F) c (nxt c) (dq 9) (dq 25) 704 64 ∗ atPos (ER (F := F)) (dcell c (dq 9)) 0 ∅ 0 ∗ Snd (F := F) c (prv c) (dq 17) (dq 33) 1216 64 ∗ atPos (ER (F := F)) (dcell c (dq 17)) 0 ∅ 0)
      ⊢ iprop((Fly (F := F) c (dq 4) 2 ∗ stg c cc0_scratch2 (xg I c) ∗ Slot (F := F) c 1 (dq 5) 2 ∗ yPts c (rows 192 64) fullShare.right.right (G I c) ∗ Out (F := F) c (dq 9) N64 ∗ Out (F := F) c (dq 17) N64 ∗ Ow (F := F) c (pS 4) -∗ Q ⟨⟩)
          -∗ wpD c (k0_part7 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part7_eq_skeleton]
  unfold k0_part7_skel
  simp only [semSignalWord, semWaitWord, Prog.lift, Prog.bind_op, Prog.bind_ret, Prog.pure_eq_ret, Prog.bind_assoc, wp_deviceId]
  iintro ⟨#HC, #HRo, #HRn, #HRp, Hw4, Hs0, Hg, Hk1, Hr3, HO, Hq9, Hat9, Hq17, Hat17⟩ Hk
  ihave Hz := (Wt_open I) $$ Hw4; icases Hz with ⟨Hwa, Hwb⟩
  ihave Hz := Slot_open $$ Hs0; icases Hz with ⟨Hsa, Hsb, Hsc⟩
  iapply (op_wcopy I κ c 4 4 0 rfl rfl (dq 4) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf0 : Fly (F := F) c (dq 4) 2 $$ [Hcr Hsb]
  · unfold Fly; isplitl [Hcr] <;> iassumption
  iapply (ld_xg I c 3 192 rfl) $$ Hg; iintro Hg
  ihave Hz := (Full_open I) $$ Hk1; icases Hz with ⟨Hka, Hkb⟩
  iapply (ld_w I c 3 1) $$ Hka; iintro Hka
  ihave Hk1 : Full I c 1 (dq 5) 2 3 $$ [Hka Hkb]
  · unfold Full; isplitl [Hka] <;> iassumption
  ihave Hs1 : Slot (F := F) c 1 (dq 5) 2 $$ [Hk1]
  · unfold Slot; ihave Hz := (Full_open I) $$ Hk1; icases Hz with ⟨Ha, Hb⟩; isplitl [Ha]; · iexists _; iexact Ha
    iexact Hb
  ihave Hz := Blk_open $$ Hr3; icases Hz with ⟨%fr, Hr3⟩
  iapply (ld_dead c 192 64 (fun _ => rfl)) $$ Hr3; iintro Hr3
  iapply (st_y I c 3 192 rfl _ rfl) $$ Hr3; iintro Hr3
  ihave Hy3 := (yPts_three c _ _) $$ Hr3
  icases Hy3 with ⟨Ha3, Hb3, Hp3⟩
  ihave HO := (Ow_3 c) $$ HO
  ihave Hz := Snd_open $$ Hq9; icases Hz with ⟨Hqa, Hqb, Hqc⟩
  iapply (op_send I κ c _ _ (dev9_eq c) true rfl 192 704 64 0 1 (dq 9) (dq 25) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 33), N64) :: pS 4)) $$ [Ha3 Hqa Hqb Hqc HO]
  · isplitr; · iexact HC
    isplitr; · iexact HRo
    isplitr; · iexact HRn
    isplitl [Ha3]; · iexact Ha3
    isplitl [Hqa]; · iexact Hqa
    isplitl [HO]; · iexact HO
    isplitl [Hqb] <;> iassumption
  iintro ⟨Hcr, HO⟩
  ihave Ho9 : Out (F := F) c (dq 9) N64 $$ [Hcr Hat9]
  · unfold Out; isplitl [Hcr] <;> iassumption
  ihave Hz := Snd_open $$ Hq17; icases Hz with ⟨Hqa, Hqb, Hqc⟩
  iapply (op_send I κ c _ _ (dev10_eq c) false rfl 192 1216 64 0 2 (dq 17) (dq 33) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 4)) $$ [Hb3 Hqa Hqb Hqc HO]
  · isplitr; · iexact HC
    isplitr; · iexact HRo
    isplitr; · iexact HRp
    isplitl [Hb3]; · iexact Hb3
    isplitl [Hqa]; · iexact Hqa
    isplitl [HO]; · iexact HO
    isplitl [Hqb] <;> iassumption
  iintro ⟨Hcr, HO⟩
  ihave Ho17 : Out (F := F) c (dq 17) N64 $$ [Hcr Hat17]
  · unfold Out; isplitl [Hcr] <;> iassumption
  iapply (wpD_ret c _)
  iapply Hk
  isplitl [Hf0]; · iexact Hf0
  isplitl [Hg]; · iexact Hg
  isplitl [Hs1]; · iexact Hs1
  isplitl [Hp3]; · iexact Hp3
  isplitl [Ho9]; · iexact Ho9
  isplitl [Ho17]; · iexact Ho17
  iexact HO

/-- Part 8 of the body: what it takes and what it leaves. -/
theorem part8 (c : Dev nD) {Q : PUnit → sProp 𝕄} {harg0 harg1 harg2 harg3 harg4 harg5 harg6 harg7 harg8} {v24 : BitVec 32} :
    iprop(Ctx I κ ∗ Rch (F := F) c ∗ Rch (F := F) (nxt c) ∗ Rch (F := F) (prv c) ∗ Fly (F := F) c (dq 4) 2 ∗ Ow (F := F) c (pS 4) ∗ Wt I c (dq 5) 2 5 ∗ Slot (F := F) c 1 (dq 5) 2 ∗ stg c cc0_scratch2 (xg I c) ∗ Blk (F := F) c 256 64)
      ⊢ iprop((wPts c (wset 4) fullShare (I.w c) ∗ Ow (F := F) c (pS 4) ∗ Fly (F := F) c (dq 5) 2 ∗ stg c cc0_scratch2 (xg I c) ∗ Slot (F := F) c 0 (dq 4) 3 ∗ yPts c (rows 256 64) fullShare.left (G I c) ∗ yPts c (rows 256 64) fullShare.right.left (G I c) ∗ yPts c (rows 256 64) fullShare.right.right (G I c) -∗ Q ⟨⟩)
          -∗ wpD c (k0_part8 xM harg0 dM harg1 uM harg2 wM harg3 oM harg4 yM harg5 bM harg6 gM harg7 kM harg8 cc0_scratch4 cc0_scratch5 cc0_scratch6 cc0_scratch7 cc0_scratch8 cc0_scratch9 cc0_scratch10 v24) Q) := by
  rw [k0_part8_eq_skeleton]
  unfold k0_part8_skel
  simp only [semSignalWord, semWaitWord, Prog.lift, Prog.bind_op, Prog.bind_ret, Prog.pure_eq_ret, Prog.bind_assoc, wp_deviceId]
  iintro ⟨#HC, #HRo, #HRn, #HRp, Hf0, HO, Hw5, Hs1, Hg, Hr4⟩ Hk
  ihave Hz := Fly_open $$ Hf0; icases Hz with ⟨Hfa, Hfb⟩
  iapply (op_wwait I κ c 4 4 0 rfl rfl (dq 4) rfl (pS 4) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk0 : Full I c 0 (dq 4) 3 4 $$ [Hga Hgb Hgc]
  · unfold Full; isplitl [Hgc]; · iexact Hgc
    isplitl [Hga]; · iexact Hga
    iexact Hgb
  ihave Hv4 : wPts c (wset 4) fullShare (I.w c) $$ [Hgd]
  · iexact Hgd
  ihave Hz := (Wt_open I) $$ Hw5; icases Hz with ⟨Hwa, Hwb⟩
  ihave Hz := Slot_open $$ Hs1; icases Hz with ⟨Hsa, Hsb, Hsc⟩
  iapply (op_wcopy I κ c 5 5 1 rfl rfl (dq 5) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf1 : Fly (F := F) c (dq 5) 2 $$ [Hcr Hsb]
  · unfold Fly; isplitl [Hcr] <;> iassumption
  iapply (ld_xg I c 4 256 rfl) $$ Hg; iintro Hg
  ihave Hz := (Full_open I) $$ Hk0; icases Hz with ⟨Hka, Hkb⟩
  iapply (ld_w I c 4 0) $$ Hka; iintro Hka
  ihave Hk0 : Full I c 0 (dq 4) 3 4 $$ [Hka Hkb]
  · unfold Full; isplitl [Hka] <;> iassumption
  ihave Hs0 : Slot (F := F) c 0 (dq 4) 3 $$ [Hk0]
  · unfold Slot; ihave Hz := (Full_open I) $$ Hk0; icases Hz with ⟨Ha, Hb⟩; isplitl [Ha]; · iexists _; iexact Ha
    iexact Hb
  ihave Hz := Blk_open $$ Hr4; icases Hz with ⟨%fr, Hr4⟩
  iapply (ld_dead c 256 64 (fun _ => rfl)) $$ Hr4; iintro Hr4
  iapply (st_y I c 4 256 rfl _ rfl) $$ Hr4; iintro Hr4
  ihave Hy3 := (yPts_three c _ _) $$ Hr4
  icases Hy3 with ⟨Ha4, Hb4, Hp4⟩
  iapply (wpD_ret c _)
  iapply Hk
  isplitl [Hv4]; · iexact Hv4
  isplitl [HO]; · iexact HO
  isplitl [Hf1]; · iexact Hf1
  isplitl [Hg]; · iexact Hg
  isplitl [Hs0]; · iexact Hs0
  isplitl [Ha4]; · iexact Ha4
  isplitl [Hb4]; · iexact Hb4
  iexact Hp4

/-- Part 9 of the body: what it takes and what it leaves. -/
theorem part9 (c : Dev nD) {Q : FVec F S64x1024 .bf16 → sProp 𝕄} {harg0 harg1 harg2 harg3 harg4 harg5 harg6 harg7 harg8} {v13 : BitVec 32} :
    iprop(Ctx I κ ∗ Rch (F := F) c ∗ Rch (F := F) (nxt c) ∗ Rch (F := F) (prv c) ∗ Ow (F := F) c (pS 4) ∗ yPts c (rows 256 64) fullShare.left (G I c) ∗ Snd (F := F) c (nxt c) (dq 10) (dq 26) 768 64 ∗ atPos (ER (F := F)) (dcell c (dq 10)) 0 ∅ 0 ∗ yPts c (rows 256 64) fullShare.right.left (G I c) ∗ Snd (F := F) c (prv c) (dq 18) (dq 34) 1280 64 ∗ atPos (ER (F := F)) (dcell c (dq 18)) 0 ∅ 0 ∗ Fly (F := F) c (dq 5) 2 ∗ Wt I c (dq 4) 3 6 ∗ Slot (F := F) c 0 (dq 4) 3 ∗ stg c cc0_scratch2 (xg I c))
      ⊢ iprop((Out (F := F) c (dq 10) N64 ∗ Out (F := F) c (dq 18) N64 ∗ wPts c (wset 5) fullShare (I.w c) ∗ Ow (F := F) c (pS 5) ∗ Fly (F := F) c (dq 4) 3 ∗ stg c cc0_scratch2 (xg I c) ∗ Slot (F := F) c 1 (dq 5) 3 -∗ Q (k0_pay9 (xgRows I c 5) (wv I c 5)))
          -∗ wpD c (k0_part9 xM harg0 dM harg1 uM harg2 wM harg3 oM harg4 yM harg5 bM harg6 gM harg7 kM harg8 cc0_scratch4 cc0_scratch5 cc0_scratch6 cc0_scratch7 cc0_scratch8 cc0_scratch9 cc0_scratch10 c v13) Q) := by
  rw [k0_part9_eq_skeleton]
  unfold k0_part9_skel
  simp only [semSignalWord, semWaitWord, Prog.lift, Prog.bind_op, Prog.bind_ret, Prog.pure_eq_ret, Prog.bind_assoc, wp_deviceId]
  iintro ⟨#HC, #HRo, #HRn, #HRp, HO, Ha4, Hq10, Hat10, Hb4, Hq18, Hat18, Hf1, Hw6, Hs0, Hg⟩ Hk
  ihave HO := (Ow_4 c) $$ HO
  ihave Hz := Snd_open $$ Hq10; icases Hz with ⟨Hqa, Hqb, Hqc⟩
  iapply (op_send I κ c _ _ (dev11_eq c) true rfl 256 768 64 0 1 (dq 10) (dq 26) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 34), N64) :: pS 5)) $$ [Ha4 Hqa Hqb Hqc HO]
  · isplitr; · iexact HC
    isplitr; · iexact HRo
    isplitr; · iexact HRn
    isplitl [Ha4]; · iexact Ha4
    isplitl [Hqa]; · iexact Hqa
    isplitl [HO]; · iexact HO
    isplitl [Hqb] <;> iassumption
  iintro ⟨Hcr, HO⟩
  ihave Ho10 : Out (F := F) c (dq 10) N64 $$ [Hcr Hat10]
  · unfold Out; isplitl [Hcr] <;> iassumption
  ihave Hz := Snd_open $$ Hq18; icases Hz with ⟨Hqa, Hqb, Hqc⟩
  iapply (op_send I κ c _ _ (dev12_eq c) false rfl 256 1280 64 0 2 (dq 18) (dq 34) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 5)) $$ [Hb4 Hqa Hqb Hqc HO]
  · isplitr; · iexact HC
    isplitr; · iexact HRo
    isplitr; · iexact HRp
    isplitl [Hb4]; · iexact Hb4
    isplitl [Hqa]; · iexact Hqa
    isplitl [HO]; · iexact HO
    isplitl [Hqb] <;> iassumption
  iintro ⟨Hcr, HO⟩
  ihave Ho18 : Out (F := F) c (dq 18) N64 $$ [Hcr Hat18]
  · unfold Out; isplitl [Hcr] <;> iassumption
  ihave Hz := Fly_open $$ Hf1; icases Hz with ⟨Hfa, Hfb⟩
  iapply (op_wwait I κ c 5 5 1 rfl rfl (dq 5) rfl (pS 5) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk1 : Full I c 1 (dq 5) 3 5 $$ [Hga Hgb Hgc]
  · unfold Full; isplitl [Hgc]; · iexact Hgc
    isplitl [Hga]; · iexact Hga
    iexact Hgb
  ihave Hv5 : wPts c (wset 5) fullShare (I.w c) $$ [Hgd]
  · iexact Hgd
  ihave Hz := (Wt_open I) $$ Hw6; icases Hz with ⟨Hwa, Hwb⟩
  ihave Hz := Slot_open $$ Hs0; icases Hz with ⟨Hsa, Hsb, Hsc⟩
  iapply (op_wcopy I κ c 6 6 0 rfl rfl (dq 4) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf0 : Fly (F := F) c (dq 4) 3 $$ [Hcr Hsb]
  · unfold Fly; isplitl [Hcr] <;> iassumption
  iapply (ld_xg I c 5 320 rfl) $$ Hg; iintro Hg
  ihave Hz := (Full_open I) $$ Hk1; icases Hz with ⟨Hka, Hkb⟩
  iapply (ld_w I c 5 1) $$ Hka; iintro Hka
  ihave Hk1 : Full I c 1 (dq 5) 3 5 $$ [Hka Hkb]
  · unfold Full; isplitl [Hka] <;> iassumption
  ihave Hs1 : Slot (F := F) c 1 (dq 5) 3 $$ [Hk1]
  · unfold Slot; ihave Hz := (Full_open I) $$ Hk1; icases Hz with ⟨Ha, Hb⟩; isplitl [Ha]; · iexists _; iexact Ha
    iexact Hb
  iapply (wpD_ret c _)
  iapply Hk
  isplitl [Ho10]; · iexact Ho10
  isplitl [Ho18]; · iexact Ho18
  isplitl [Hv5]; · iexact Hv5
  isplitl [HO]; · iexact HO
  isplitl [Hf0]; · iexact Hf0
  isplitl [Hg]; · iexact Hg
  iexact Hs1

end Cert.KernelIdeal.Moe

end
-- ==== Proof.KI.PartsC.lean ====
/- The region's body, part by part: parts 10 to 13. -/
module

public import proofs.«01_k».proof.Proof.KI.Parts

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- Part 10 of the body: what it takes and what it leaves. -/
theorem part10 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Blk (F := F) c 320 64 ∗ Ow (F := F) c (pS 5) ∗ Snd (F := F) c (nxt c) (dq 11) (dq 27) 832 64 ∗ atPos (ER (F := F)) (dcell c (dq 11)) 0 ∅ 0 ∗ Snd (F := F) c (prv c) (dq 19) (dq 35) 1344 64 ∗ atPos (ER (F := F)) (dcell c (dq 19)) 0 ∅ 0 ∗ Fly (F := F) c (dq 4) 3)
      ⊢ iprop((yPts c (rows 320 64) fullShare.right.right (G I c) ∗ Out (F := F) c (dq 11) N64 ∗ Out (F := F) c (dq 19) N64 ∗ Full I c 0 (dq 4) 4 6 ∗ wPts c (wset 6) fullShare (I.w c) ∗ Ow (F := F) c (pS 6) -∗ Q ⟨⟩)
          -∗ wpD c (k0_part10 xM harg0 dM harg1 uM harg2 wM harg3 oM harg4 yM harg5 bM harg6 gM harg7 kM harg8 cc0_scratch4 cc0_scratch5 cc0_scratch6 cc0_scratch7 cc0_scratch8 cc0_scratch9 cc0_scratch10 c v13 v24 (k0_pay9 (xgRows I c 5) (wv I c 5))) Q) := by
  rw [k0_part10_eq_skeleton]
  unfold k0_part10_skel
  simp only [semSignalWord, semWaitWord, Prog.lift, Prog.bind_op, Prog.bind_ret, Prog.pure_eq_ret, Prog.bind_assoc, wp_deviceId]
  iintro ⟨#HC, #HRo, #HRn, #HRp, Hr5, HO, Hq11, Hat11, Hq19, Hat19, Hf0⟩ Hk
  ihave Hz := Blk_open $$ Hr5; icases Hz with ⟨%fr, Hr5⟩
  iapply (ld_dead c 320 64 (fun _ => rfl)) $$ Hr5; iintro Hr5
  iapply (st_y I c 5 320 rfl _ rfl) $$ Hr5; iintro Hr5
  ihave Hy3 := (yPts_three c _ _) $$ Hr5
  icases Hy3 with ⟨Ha5, Hb5, Hp5⟩
  ihave HO := (Ow_5 c) $$ HO
  ihave Hz := Snd_open $$ Hq11; icases Hz with ⟨Hqa, Hqb, Hqc⟩
  iapply (op_send I κ c _ _ (dev13_eq c) true rfl 320 832 64 0 1 (dq 11) (dq 27) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 35), N64) :: pS 6)) $$ [Ha5 Hqa Hqb Hqc HO]
  · isplitr; · iexact HC
    isplitr; · iexact HRo
    isplitr; · iexact HRn
    isplitl [Ha5]; · iexact Ha5
    isplitl [Hqa]; · iexact Hqa
    isplitl [HO]; · iexact HO
    isplitl [Hqb] <;> iassumption
  iintro ⟨Hcr, HO⟩
  ihave Ho11 : Out (F := F) c (dq 11) N64 $$ [Hcr Hat11]
  · unfold Out; isplitl [Hcr] <;> iassumption
  ihave Hz := Snd_open $$ Hq19; icases Hz with ⟨Hqa, Hqb, Hqc⟩
  iapply (op_send I κ c _ _ (dev14_eq c) false rfl 320 1344 64 0 2 (dq 19) (dq 35) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 6)) $$ [Hb5 Hqa Hqb Hqc HO]
  · isplitr; · iexact HC
    isplitr; · iexact HRo
    isplitr; · iexact HRp
    isplitl [Hb5]; · iexact Hb5
    isplitl [Hqa]; · iexact Hqa
    isplitl [HO]; · iexact HO
    isplitl [Hqb] <;> iassumption
  iintro ⟨Hcr, HO⟩
  ihave Ho19 : Out (F := F) c (dq 19) N64 $$ [Hcr Hat19]
  · unfold Out; isplitl [Hcr] <;> iassumption
  ihave Hz := Fly_open $$ Hf0; icases Hz with ⟨Hfa, Hfb⟩
  iapply (op_wwait I κ c 6 6 0 rfl rfl (dq 4) rfl (pS 6) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk0 : Full I c 0 (dq 4) 4 6 $$ [Hga Hgb Hgc]
  · unfold Full; isplitl [Hgc]; · iexact Hgc
    isplitl [Hga]; · iexact Hga
    iexact Hgb
  ihave Hv6 : wPts c (wset 6) fullShare (I.w c) $$ [Hgd]
  · iexact Hgd
  iapply (wpD_ret c _)
  iapply Hk
  isplitl [Hp5]; · iexact Hp5
  isplitl [Ho11]; · iexact Ho11
  isplitl [Ho19]; · iexact Ho19
  isplitl [Hk0]; · iexact Hk0
  isplitl [Hv6]; · iexact Hv6
  iexact HO

/-- Part 11 of the body: what it takes and what it leaves. -/
theorem part11 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Wt I c (dq 5) 3 7 ∗ Slot (F := F) c 1 (dq 5) 3 ∗ stg c cc0_scratch2 (xg I c) ∗ Full I c 0 (dq 4) 4 6 ∗ Blk (F := F) c 384 64 ∗ Ow (F := F) c (pS 6) ∗ Snd (F := F) c (nxt c) (dq 12) (dq 28) 896 64 ∗ atPos (ER (F := F)) (dcell c (dq 12)) 0 ∅ 0 ∗ Snd (F := F) c (prv c) (dq 20) (dq 36) 1408 64 ∗ atPos (ER (F := F)) (dcell c (dq 20)) 0 ∅ 0)
      ⊢ iprop((Fly (F := F) c (dq 5) 3 ∗ stg c cc0_scratch2 (xg I c) ∗ Slot (F := F) c 0 (dq 4) 4 ∗ yPts c (rows 384 64) fullShare.right.right (G I c) ∗ Out (F := F) c (dq 12) N64 ∗ Out (F := F) c (dq 20) N64 ∗ Ow (F := F) c (pS 7) -∗ Q ⟨⟩)
          -∗ wpD c (k0_part11 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part11_eq_skeleton]
  unfold k0_part11_skel
  simp only [semSignalWord, semWaitWord, Prog.lift, Prog.bind_op, Prog.bind_ret, Prog.pure_eq_ret, Prog.bind_assoc, wp_deviceId]
  iintro ⟨#HC, #HRo, #HRn, #HRp, Hw7, Hs1, Hg, Hk0, Hr6, HO, Hq12, Hat12, Hq20, Hat20⟩ Hk
  ihave Hz := (Wt_open I) $$ Hw7; icases Hz with ⟨Hwa, Hwb⟩
  ihave Hz := Slot_open $$ Hs1; icases Hz with ⟨Hsa, Hsb, Hsc⟩
  iapply (op_wcopy I κ c 7 7 1 rfl rfl (dq 5) rfl) $$ [Hwa Hsa Hwb Hsc]
  · isplitr; · iexact HC
    isplitl [Hwa]; · iexact Hwa
    isplitl [Hsa]; · iexact Hsa
    isplitl [Hwb]; · iexact Hwb
    iexact Hsc
  iintro Hcr
  ihave Hf1 : Fly (F := F) c (dq 5) 3 $$ [Hcr Hsb]
  · unfold Fly; isplitl [Hcr] <;> iassumption
  iapply (ld_xg I c 6 384 rfl) $$ Hg; iintro Hg
  ihave Hz := (Full_open I) $$ Hk0; icases Hz with ⟨Hka, Hkb⟩
  iapply (ld_w I c 6 0) $$ Hka; iintro Hka
  ihave Hk0 : Full I c 0 (dq 4) 4 6 $$ [Hka Hkb]
  · unfold Full; isplitl [Hka] <;> iassumption
  ihave Hs0 : Slot (F := F) c 0 (dq 4) 4 $$ [Hk0]
  · unfold Slot; ihave Hz := (Full_open I) $$ Hk0; icases Hz with ⟨Ha, Hb⟩; isplitl [Ha]; · iexists _; iexact Ha
    iexact Hb
  ihave Hz := Blk_open $$ Hr6; icases Hz with ⟨%fr, Hr6⟩
  iapply (ld_dead c 384 64 (fun _ => rfl)) $$ Hr6; iintro Hr6
  iapply (st_y I c 6 384 rfl _ rfl) $$ Hr6; iintro Hr6
  ihave Hy3 := (yPts_three c _ _) $$ Hr6
  icases Hy3 with ⟨Ha6, Hb6, Hp6⟩
  ihave HO := (Ow_6 c) $$ HO
  ihave Hz := Snd_open $$ Hq12; icases Hz with ⟨Hqa, Hqb, Hqc⟩
  iapply (op_send I κ c _ _ (dev15_eq c) true rfl 384 896 64 0 1 (dq 12) (dq 28) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 36), N64) :: pS 7)) $$ [Ha6 Hqa Hqb Hqc HO]
  · isplitr; · iexact HC
    isplitr; · iexact HRo
    isplitr; · iexact HRn
    isplitl [Ha6]; · iexact Ha6
    isplitl [Hqa]; · iexact Hqa
    isplitl [HO]; · iexact HO
    isplitl [Hqb] <;> iassumption
  iintro ⟨Hcr, HO⟩
  ihave Ho12 : Out (F := F) c (dq 12) N64 $$ [Hcr Hat12]
  · unfold Out; isplitl [Hcr] <;> iassumption
  ihave Hz := Snd_open $$ Hq20; icases Hz with ⟨Hqa, Hqb, Hqc⟩
  iapply (op_send I κ c _ _ (dev16_eq c) false rfl 384 1408 64 0 2 (dq 20) (dq 36) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 7)) $$ [Hb6 Hqa Hqb Hqc HO]
  · isplitr; · iexact HC
    isplitr; · iexact HRo
    isplitr; · iexact HRp
    isplitl [Hb6]; · iexact Hb6
    isplitl [Hqa]; · iexact Hqa
    isplitl [HO]; · iexact HO
    isplitl [Hqb] <;> iassumption
  iintro ⟨Hcr, HO⟩
  ihave Ho20 : Out (F := F) c (dq 20) N64 $$ [Hcr Hat20]
  · unfold Out; isplitl [Hcr] <;> iassumption
  iapply (wpD_ret c _)
  iapply Hk
  isplitl [Hf1]; · iexact Hf1
  isplitl [Hg]; · iexact Hg
  isplitl [Hs0]; · iexact Hs0
  isplitl [Hp6]; · iexact Hp6
  isplitl [Ho12]; · iexact Ho12
  isplitl [Ho20]; · iexact Ho20
  iexact HO

/-- Part 12 of the body: what it takes and what it leaves. -/
theorem part12 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Fly (F := F) c (dq 5) 3 ∗ Ow (F := F) c (pS 7) ∗ stg c cc0_scratch2 (xg I c) ∗ Blk (F := F) c 448 64 ∗ Snd (F := F) c (nxt c) (dq 13) (dq 29) 960 64 ∗ atPos (ER (F := F)) (dcell c (dq 13)) 0 ∅ 0)
      ⊢ iprop((wPts c (wset 7) fullShare (I.w c) ∗ stg c cc0_scratch2 (xg I c) ∗ Slot (F := F) c 1 (dq 5) 4 ∗ yPts c (rows 448 64) fullShare.right.left (G I c) ∗ yPts c (rows 448 64) fullShare.right.right (G I c) ∗ Out (F := F) c (dq 13) N64 ∗ Ow (F := F) c ((false, .dma (dq 37), N64) :: pS 8) -∗ Q ⟨⟩)
          -∗ wpD c (k0_part12 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part12_eq_skeleton]
  unfold k0_part12_skel
  simp only [semSignalWord, semWaitWord, Prog.lift, Prog.bind_op, Prog.bind_ret, Prog.pure_eq_ret, Prog.bind_assoc, wp_deviceId]
  iintro ⟨#HC, #HRo, #HRn, #HRp, Hf1, HO, Hg, Hr7, Hq13, Hat13⟩ Hk
  ihave Hz := Fly_open $$ Hf1; icases Hz with ⟨Hfa, Hfb⟩
  iapply (op_wwait I κ c 7 7 1 rfl rfl (dq 5) rfl (pS 7) (fun p hp => le_trans (by decide) (lv_pS _ p hp))) $$ [Hfa HO Hfb]
  · isplitr; · iexact HC
    isplitl [Hfa]; · iexact Hfa
    isplitl [HO]; · iexact HO
    iexact Hfb
  iintro ⟨HO, Hga, Hgb, Hgc, Hgd⟩
  ihave Hk1 : Full I c 1 (dq 5) 4 7 $$ [Hga Hgb Hgc]
  · unfold Full; isplitl [Hgc]; · iexact Hgc
    isplitl [Hga]; · iexact Hga
    iexact Hgb
  ihave Hv7 : wPts c (wset 7) fullShare (I.w c) $$ [Hgd]
  · iexact Hgd
  iapply (ld_xg I c 7 448 rfl) $$ Hg; iintro Hg
  ihave Hz := (Full_open I) $$ Hk1; icases Hz with ⟨Hka, Hkb⟩
  iapply (ld_w I c 7 1) $$ Hka; iintro Hka
  ihave Hk1 : Full I c 1 (dq 5) 4 7 $$ [Hka Hkb]
  · unfold Full; isplitl [Hka] <;> iassumption
  ihave Hs1 : Slot (F := F) c 1 (dq 5) 4 $$ [Hk1]
  · unfold Slot; ihave Hz := (Full_open I) $$ Hk1; icases Hz with ⟨Ha, Hb⟩; isplitl [Ha]; · iexists _; iexact Ha
    iexact Hb
  ihave Hz := Blk_open $$ Hr7; icases Hz with ⟨%fr, Hr7⟩
  iapply (ld_dead c 448 64 (fun _ => rfl)) $$ Hr7; iintro Hr7
  iapply (st_y I c 7 448 rfl _ rfl) $$ Hr7; iintro Hr7
  ihave Hy3 := (yPts_three c _ _) $$ Hr7
  icases Hy3 with ⟨Ha7, Hb7, Hp7⟩
  ihave HO := (Ow_7 c) $$ HO
  ihave Hz := Snd_open $$ Hq13; icases Hz with ⟨Hqa, Hqb, Hqc⟩
  iapply (op_send I κ c _ _ (dev17_eq c) true rfl 448 960 64 0 1 (dq 13) (dq 29) (by decide) (by decide) rfl rfl rfl rfl rfl N64 (amount_64 I _ _ _ _ (by decide) (by decide)) (amount_64 I _ _ _ _ (by decide) (by decide)) (yS_credit64 _ _) (by decide) (by decide) rfl (dv_own_nxt c) (by decide) ((false, .dma (dq 37), N64) :: pS 8)) $$ [Ha7 Hqa Hqb Hqc HO]
  · isplitr; · iexact HC
    isplitr; · iexact HRo
    isplitr; · iexact HRn
    isplitl [Ha7]; · iexact Ha7
    isplitl [Hqa]; · iexact Hqa
    isplitl [HO]; · iexact HO
    isplitl [Hqb] <;> iassumption
  iintro ⟨Hcr, HO⟩
  ihave Ho13 : Out (F := F) c (dq 13) N64 $$ [Hcr Hat13]
  · unfold Out; isplitl [Hcr] <;> iassumption
  iapply (wpD_ret c _)
  iapply Hk
  isplitl [Hv7]; · iexact Hv7
  isplitl [Hg]; · iexact Hg
  isplitl [Hs1]; · iexact Hs1
  isplitl [Hb7]; · iexact Hb7
  isplitl [Hp7]; · iexact Hp7
  isplitl [Ho13]; · iexact Ho13
  iexact HO

/-- Part 13 of the body: what it takes and what it leaves. -/
theorem part13 (c : Dev nD) {Q : PUnit → sProp 𝕄} {harg0 harg1 harg2 harg3 harg4 harg5 harg6 harg7 harg8} {v13 : BitVec 32} :
    iprop(Ctx I κ ∗ Rch (F := F) c ∗ Rch (F := F) (nxt c) ∗ Rch (F := F) (prv c) ∗ yPts c (rows 448 64) fullShare.right.left (G I c) ∗ Snd (F := F) c (prv c) (dq 21) (dq 37) 1472 64 ∗ atPos (ER (F := F)) (dcell c (dq 21)) 0 ∅ 0 ∗ Ow (F := F) c ((false, .dma (dq 37), N64) :: pS 8) ∗ stg c cc0_stg2_0 (I.u c) ∗ yPts c (rows 0 512) fullShare.right.right (G I c) ∗ (∃ f, stg c cc0_stg3_0 f) ∗ Out (F := F) c (dq 22) N64 ∗ Out (F := F) c (dq 23) N64)
      ⊢ iprop((Out (F := F) c (dq 21) N64 ∗ stg c cc0_stg2_0 (I.u c) ∗ yPts c (rows 0 512) fullShare.right.right (G I c) ∗ stg c cc0_stg3_0 (o0 I c) ∗ Don I c (dq 22) ∗ Don I c (dq 23) ∗ Ow (F := F) c (pS 8) -∗ Q ⟨⟩)
          -∗ wpD c (k0_part13 xM harg0 dM harg1 uM harg2 wM harg3 oM harg4 yM harg5 bM harg6 gM harg7 kM harg8 cc0_scratch4 cc0_scratch5 cc0_scratch6 cc0_scratch7 cc0_scratch8 cc0_scratch9 cc0_scratch10 c v13) Q) := by
  rw [k0_part13_eq_skeleton]
  unfold k0_part13_skel
  simp only [semSignalWord, semWaitWord, Prog.lift, Prog.bind_op, Prog.bind_ret, Prog.pure_eq_ret, Prog.bind_assoc, wp_deviceId]
  iintro ⟨#HC, #HRo, #HRn, #HRp, Hb7, Hq21, Hat21, HO, Hu, Hown, Hoo, Ho22, Ho23⟩ Hk
  ihave Hz := Snd_open $$ Hq21; icases Hz with ⟨Hqa, Hqb, Hqc⟩
  iapply (op_send I κ c _ _ (dev18_eq c) false rfl 448 1472 64 0 2 (dq 21) (dq 37) (by decide) (by decide) rfl rfl rfl rfl rfl N64 (amount_64 I _ _ _ _ (by decide) (by decide)) (amount_64 I _ _ _ _ (by decide) (by decide)) (yS_credit64 _ _) (by decide) (by decide) rfl (dv_own_prv c) (by decide) (pS 8)) $$ [Hb7 Hqa Hqb Hqc HO]
  · isplitr; · iexact HC
    isplitr; · iexact HRo
    isplitr; · iexact HRp
    isplitl [Hb7]; · iexact Hb7
    isplitl [Hqa]; · iexact Hqa
    isplitl [HO]; · iexact HO
    isplitl [Hqb] <;> iassumption
  iintro ⟨Hcr, HO⟩
  ihave Ho21 : Out (F := F) c (dq 21) N64 $$ [Hcr Hat21]
  · unfold Out; isplitl [Hcr] <;> iassumption
  iapply (ld_u I c 0 0 rfl) $$ Hu; iintro Hu
  iapply (ld_y I c 0 0 rfl _ _ (rows_sub (by decide) (by decide))) $$ Hown; iintro Hown
  icases Hoo with ⟨%fo, Hoo⟩
  iapply (ld_o c) $$ Hoo; iintro Hoo
  iapply (st_o c (o0 I c)) $$ Hoo; iintro Hoo
  ihave Hz := Out_open $$ Ho22; icases Hz with ⟨Hoa, Hob⟩
  iapply (op_ywait I κ c (dq 22) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd22 : Don I c (dq 22) $$ [Hda Hdb]
  · unfold Don; isplitl [Hda] <;> iassumption
  ihave Hz := Out_open $$ Ho23; icases Hz with ⟨Hoa, Hob⟩
  iapply (op_ywait I κ c (dq 23) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd23 : Don I c (dq 23) $$ [Hda Hdb]
  · unfold Don; isplitl [Hda] <;> iassumption
  iapply (wpD_ret c _)
  iapply Hk
  isplitl [Ho21]; · iexact Ho21
  isplitl [Hu]; · iexact Hu
  isplitl [Hown]; · iexact Hown
  isplitl [Hoo]; · iexact Hoo
  isplitl [Hd22]; · iexact Hd22
  isplitl [Hd23]; · iexact Hd23
  iexact HO

end Cert.KernelIdeal.Moe

end
-- ==== Proof.KI.PartsD.lean ====
/- The region's body, part by part: parts 14 to 17. -/
module

public import proofs.«01_k».proof.Proof.KI.Parts

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- Part 14 of the body: what it takes and what it leaves. -/
theorem part14 (c : Dev nD) {Q : PUnit → sProp 𝕄} {harg0 harg1 harg2 harg3 harg4 harg5 harg6 harg7 harg8} {v13 : BitVec 32} :
    iprop(Ctx I κ ∗ Rch (F := F) c ∗ Rch (F := F) (nxt c) ∗ Rch (F := F) (prv c) ∗ Out (F := F) c (dq 24) N64 ∗ Ow (F := F) c (pS 8) ∗ Out (F := F) c (dq 25) N64 ∗ Out (F := F) c (dq 26) N64 ∗ Out (F := F) c (dq 27) N64)
      ⊢ iprop((Don I c (dq 24) ∗ Don I c (dq 25) ∗ Don I c (dq 26) ∗ Don I c (dq 27) ∗ Ow (F := F) c (pS 8) -∗ Q ⟨⟩)
          -∗ wpD c (k0_part14 xM harg0 dM harg1 uM harg2 wM harg3 oM harg4 yM harg5 bM harg6 gM harg7 kM harg8 cc0_scratch4 cc0_scratch5 cc0_scratch6 cc0_scratch7 cc0_scratch8 cc0_scratch9 cc0_scratch10 v13) Q) := by
  rw [k0_part14_eq_skeleton]
  unfold k0_part14_skel
  simp only [semSignalWord, semWaitWord, Prog.lift, Prog.bind_op, Prog.bind_ret, Prog.pure_eq_ret, Prog.bind_assoc, wp_deviceId]
  iintro ⟨#HC, #HRo, #HRn, #HRp, Ho24, HO, Ho25, Ho26, Ho27⟩ Hk
  ihave Hz := Out_open $$ Ho24; icases Hz with ⟨Hoa, Hob⟩
  iapply (op_ywait I κ c (dq 24) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd24 : Don I c (dq 24) $$ [Hda Hdb]
  · unfold Don; isplitl [Hda] <;> iassumption
  ihave Hz := Out_open $$ Ho25; icases Hz with ⟨Hoa, Hob⟩
  iapply (op_ywait I κ c (dq 25) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd25 : Don I c (dq 25) $$ [Hda Hdb]
  · unfold Don; isplitl [Hda] <;> iassumption
  ihave Hz := Out_open $$ Ho26; icases Hz with ⟨Hoa, Hob⟩
  iapply (op_ywait I κ c (dq 26) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd26 : Don I c (dq 26) $$ [Hda Hdb]
  · unfold Don; isplitl [Hda] <;> iassumption
  ihave Hz := Out_open $$ Ho27; icases Hz with ⟨Hoa, Hob⟩
  iapply (op_ywait I κ c (dq 27) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd27 : Don I c (dq 27) $$ [Hda Hdb]
  · unfold Don; isplitl [Hda] <;> iassumption
  iapply (wpD_ret c _)
  iapply Hk
  isplitl [Hd24]; · iexact Hd24
  isplitl [Hd25]; · iexact Hd25
  isplitl [Hd26]; · iexact Hd26
  isplitl [Hd27]; · iexact Hd27
  iexact HO

/-- Part 15 of the body: what it takes and what it leaves. -/
theorem part15 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Out (F := F) c (dq 28) N64 ∗ Ow (F := F) c (pS 8) ∗ Out (F := F) c (dq 29) N64 ∗ Don I c (dq 22) ∗ Don I c (dq 23) ∗ Don I c (dq 24) ∗ Don I c (dq 25) ∗ Don I c (dq 26) ∗ Don I c (dq 27) ∗ Snd (F := F) c (nxt c) (dq 38) (dq 40) 1536 256 ∗ atPos (ER (F := F)) (dcell c (dq 38)) 0 ∅ 0 ∗ stg c cc0_stg2_0 (I.u c) ∗ stg c cc0_stg3_0 (o0 I c))
      ⊢ iprop(((Fin1 (F := F) c (dq 22) ∗ Fin1 (F := F) c (dq 23) ∗ Fin1 (F := F) c (dq 24) ∗ Fin1 (F := F) c (dq 25) ∗ Fin1 (F := F) c (dq 26) ∗ Fin1 (F := F) c (dq 27) ∗ Fin1 (F := F) c (dq 28) ∗ Fin1 (F := F) c (dq 29)) ∗ yPts c (rows 512 512) fullShare.right (G I c) ∗ yPts c (rows 768 256) fullShare.left (G I c) ∗ Out (F := F) c (dq 38) N256 ∗ Ow (F := F) c ([pF1]) ∗ stg c cc0_stg2_0 (I.u c) ∗ stg c cc0_stg3_0 (o1 I c) -∗ Q ⟨⟩)
          -∗ wpD c (k0_part15 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part15_eq_skeleton]
  unfold k0_part15_skel
  simp only [semSignalWord, semWaitWord, Prog.lift, Prog.bind_op, Prog.bind_ret, Prog.pure_eq_ret, Prog.bind_assoc, wp_deviceId]
  iintro ⟨#HC, #HRo, #HRn, #HRp, Ho28, HO, Ho29, Hd22, Hd23, Hd24, Hd25, Hd26, Hd27, Hq38, Hat38, Hu, Hoo⟩ Hk
  ihave Hz := Out_open $$ Ho28; icases Hz with ⟨Hoa, Hob⟩
  iapply (op_ywait I κ c (dq 28) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd28 : Don I c (dq 28) $$ [Hda Hdb]
  · unfold Don; isplitl [Hda] <;> iassumption
  ihave Hz := Out_open $$ Ho29; icases Hz with ⟨Hoa, Hob⟩
  iapply (op_ywait I κ c (dq 29) (by decide) N64 (amount_64 I _ _ _ _ (by decide) (by decide)) (pS 8) (fun p hp => lt_of_le_of_lt (by decide) (lvF p hp)) (yS_credit64 _ _)) $$ [Hoa HO Hob]
  · isplitr; · iexact HC
    isplitl [Hoa]; · iexact Hoa
    isplitl [HO]; · iexact HO
    iexact Hob
  iintro ⟨HO, Hda, Hdb⟩
  ihave Hd29 : Don I c (dq 29) $$ [Hda Hdb]
  · unfold Don; isplitl [Hda] <;> iassumption
  ihave Hz := (arrL I c) $$ [Hd22 Hd23 Hd24 Hd25 Hd26 Hd27 Hd28 Hd29]
  · isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    iexact Hd29
  icases Hz with ⟨He22, HLl, HLr, HLk⟩
  ihave HO := (Ow_8 c) $$ HO
  ihave Hz := Snd_open $$ Hq38; icases Hz with ⟨Hqa, Hqb, Hqc⟩
  iapply (op_send I κ c _ _ (dev19_eq c) true rfl 512 1536 256 1 3 (dq 38) (dq 40) (by decide) (by decide) rfl rfl rfl rfl rfl N256 (amount_256 I _ _ _ _ (by decide)) (amount_256 I _ _ _ _ (by decide)) (yS_credit256 _ _) (by decide) (by decide) rfl (dv_fwd_nxt c) (by decide) ([pF1])) $$ [HLl Hqa Hqb Hqc HO]
  · isplitr; · iexact HC
    isplitr; · iexact HRo
    isplitr; · iexact HRn
    isplitl [HLl]; · iexact HLl
    isplitl [Hqa]; · iexact Hqa
    isplitl [HO]; · iexact HO
    isplitl [Hqb] <;> iassumption
  iintro ⟨Hcr, HO⟩
  ihave Ho38 : Out (F := F) c (dq 38) N256 $$ [Hcr Hat38]
  · unfold Out; isplitl [Hcr] <;> iassumption
  iapply (ld_u I c 1 512 rfl) $$ Hu; iintro Hu
  iapply (ld_y I c 1 512 rfl _ _ (rows_sub (by decide) (by decide))) $$ HLr; iintro HLr
  iapply (ld_o c) $$ Hoo; iintro Hoo
  iapply (ld_o c) $$ Hoo; iintro Hoo
  iapply (st_o c (o1 I c)) $$ Hoo; iintro Hoo
  iapply (wpD_ret c _)
  iapply Hk
  isplitl [He22]; · iexact He22
  isplitl [HLr]; · iexact HLr
  isplitl [HLk]; · iexact HLk
  isplitl [Ho38]; · iexact Ho38
  isplitl [HO]; · iexact HO
  isplitl [Hu]; · iexact Hu
  iexact Hoo

/-- Part 16 of the body: what it takes and what it leaves. -/
theorem part16 (c : Dev nD) {Q : PUnit → sProp 𝕄} {harg0 harg1 harg2 harg3 harg4 harg5 harg6 harg7 harg8} {v24 : BitVec 32} :
    iprop(Ctx I κ ∗ Rch (F := F) c ∗ Rch (F := F) (nxt c) ∗ Rch (F := F) (prv c) ∗ Out (F := F) c (dq 30) N64 ∗ Ow (F := F) c ([pF1]) ∗ Out (F := F) c (dq 31) N64 ∗ Out (F := F) c (dq 32) N64 ∗ Out (F := F) c (dq 33) N64)
      ⊢ iprop((Don I c (dq 30) ∗ Don I c (dq 31) ∗ Don I c (dq 32) ∗ Don I c (dq 33) ∗ Ow (F := F) c ([pF1]) -∗ Q ⟨⟩)
          -∗ wpD c (k0_part16 xM harg0 dM harg1 uM harg2 wM harg3 oM harg4 yM harg5 bM harg6 gM harg7 kM harg8 cc0_scratch4 cc0_scratch5 cc0_scratch6 cc0_scratch7 cc0_scratch8 cc0_scratch9 cc0_scratch10 v24) Q) := by
  rw [k0_part16_eq_skeleton]
  unfold k0_part16_skel
  simp only [semSignalWord, semWaitWord, Prog.lift, Prog.bind_op, Prog.bind_ret, Prog.pure_eq_ret, Prog.bind_assoc, wp_deviceId]
  iintro ⟨#HC, #HRo, #HRn, #HRp, Ho30, HO, Ho31, Ho32, Ho33⟩ Hk
  ihave Hz := Out_open $$ Ho30; icases Hz with ⟨Hoa, Hob⟩
  iapply (op_ywait I κ c (dq 30) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd30 : Don I c (dq 30) $$ [Hda Hdb]
  · unfold Don; isplitl [Hda] <;> iassumption
  ihave Hz := Out_open $$ Ho31; icases Hz with ⟨Hoa, Hob⟩
  iapply (op_ywait I κ c (dq 31) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd31 : Don I c (dq 31) $$ [Hda Hdb]
  · unfold Don; isplitl [Hda] <;> iassumption
  ihave Hz := Out_open $$ Ho32; icases Hz with ⟨Hoa, Hob⟩
  iapply (op_ywait I κ c (dq 32) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd32 : Don I c (dq 32) $$ [Hda Hdb]
  · unfold Don; isplitl [Hda] <;> iassumption
  ihave Hz := Out_open $$ Ho33; icases Hz with ⟨Hoa, Hob⟩
  iapply (op_ywait I κ c (dq 33) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd33 : Don I c (dq 33) $$ [Hda Hdb]
  · unfold Don; isplitl [Hda] <;> iassumption
  iapply (wpD_ret c _)
  iapply Hk
  isplitl [Hd30]; · iexact Hd30
  isplitl [Hd31]; · iexact Hd31
  isplitl [Hd32]; · iexact Hd32
  isplitl [Hd33]; · iexact Hd33
  iexact HO

/-- Part 17 of the body: what it takes and what it leaves. -/
theorem part17 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Out (F := F) c (dq 34) N64 ∗ Ow (F := F) c ([pF1]) ∗ Out (F := F) c (dq 35) N64 ∗ Out (F := F) c (dq 36) N64 ∗ Out (F := F) c (dq 37) N64)
      ⊢ iprop((Don I c (dq 34) ∗ Don I c (dq 35) ∗ Don I c (dq 36) ∗ Don I c (dq 37) ∗ Ow (F := F) c ([pF1]) -∗ Q ⟨⟩)
          -∗ wpD c (k0_part17 xM harg0 dM harg1 uM harg2 wM harg3 oM harg4 yM harg5 bM harg6 gM harg7 kM harg8 cc0_scratch4 cc0_scratch5 cc0_scratch6 cc0_scratch7 cc0_scratch8 cc0_scratch9 cc0_scratch10 v13 v24) Q) := by
  rw [k0_part17_eq_skeleton]
  unfold k0_part17_skel
  simp only [semSignalWord, semWaitWord, Prog.lift, Prog.bind_op, Prog.bind_ret, Prog.pure_eq_ret, Prog.bind_assoc, wp_deviceId]
  iintro ⟨#HC, #HRo, #HRn, #HRp, Ho34, HO, Ho35, Ho36, Ho37⟩ Hk
  ihave Hz := Out_open $$ Ho34; icases Hz with ⟨Hoa, Hob⟩
  iapply (op_ywait I κ c (dq 34) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd34 : Don I c (dq 34) $$ [Hda Hdb]
  · unfold Don; isplitl [Hda] <;> iassumption
  ihave Hz := Out_open $$ Ho35; icases Hz with ⟨Hoa, Hob⟩
  iapply (op_ywait I κ c (dq 35) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd35 : Don I c (dq 35) $$ [Hda Hdb]
  · unfold Don; isplitl [Hda] <;> iassumption
  ihave Hz := Out_open $$ Ho36; icases Hz with ⟨Hoa, Hob⟩
  iapply (op_ywait I κ c (dq 36) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd36 : Don I c (dq 36) $$ [Hda Hdb]
  · unfold Don; isplitl [Hda] <;> iassumption
  ihave Hz := Out_open $$ Ho37; icases Hz with ⟨Hoa, Hob⟩
  iapply (op_ywait I κ c (dq 37) (by decide) N64 (amount_64 I _ _ _ _ (by decide) (by decide)) ([pF1]) (fun p hp => lt_of_le_of_lt (by decide) (lvF1 p hp)) (yS_credit64 _ _)) $$ [Hoa HO Hob]
  · isplitr; · iexact HC
    isplitl [Hoa]; · iexact Hoa
    isplitl [HO]; · iexact HO
    iexact Hob
  iintro ⟨HO, Hda, Hdb⟩
  ihave Hd37 : Don I c (dq 37) $$ [Hda Hdb]
  · unfold Don; isplitl [Hda] <;> iassumption
  iapply (wpD_ret c _)
  iapply Hk
  isplitl [Hd34]; · iexact Hd34
  isplitl [Hd35]; · iexact Hd35
  isplitl [Hd36]; · iexact Hd36
  isplitl [Hd37]; · iexact Hd37
  iexact HO

end Cert.KernelIdeal.Moe

end
-- ==== Proof.KI.PartsE.lean ====
/- The region's body, part by part: parts 18 to 21. -/
module

public import proofs.«01_k».proof.Proof.KI.Parts

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-- Part 18 of the body: what it takes and what it leaves. -/
theorem part18 (c : Dev nD) {Q : PUnit → sProp 𝕄} {harg0 harg1 harg2 harg3 harg4 harg5 harg6 harg7 harg8} {v13 v24 : BitVec 32} :
    iprop(Ctx I κ ∗ Rch (F := F) c ∗ Rch (F := F) (nxt c) ∗ Rch (F := F) (prv c) ∗ Don I c (dq 30) ∗ Don I c (dq 31) ∗ Don I c (dq 32) ∗ Don I c (dq 33) ∗ Don I c (dq 34) ∗ Don I c (dq 35) ∗ Don I c (dq 36) ∗ Don I c (dq 37) ∗ Ow (F := F) c ([pF1]) ∗ Snd (F := F) c (prv c) (dq 39) (dq 41) 1792 256 ∗ atPos (ER (F := F)) (dcell c (dq 39)) 0 ∅ 0 ∗ stg c cc0_stg2_0 (I.u c) ∗ stg c cc0_stg3_0 (o1 I c) ∗ Out (F := F) c (dq 40) N256 ∗ Out (F := F) c (dq 41) N256)
      ⊢ iprop(((Fin1 (F := F) c (dq 30) ∗ Fin1 (F := F) c (dq 31) ∗ Fin1 (F := F) c (dq 32) ∗ Fin1 (F := F) c (dq 33) ∗ Fin1 (F := F) c (dq 34) ∗ Fin1 (F := F) c (dq 35) ∗ Fin1 (F := F) c (dq 36) ∗ Fin1 (F := F) c (dq 37)) ∗ yPts c (rows 1024 512) fullShare.right (G I c) ∗ yPts c (rows 1024 256) fullShare.left (G I c) ∗ Out (F := F) c (dq 39) N256 ∗ stg c cc0_stg2_0 (I.u c) ∗ stg c cc0_stg3_0 (o2 I c) ∗ Don I c (dq 40) ∗ Don I c (dq 41) ∗ Ow (F := F) c ([]) -∗ Q ⟨⟩)
          -∗ wpD c (k0_part18 xM harg0 dM harg1 uM harg2 wM harg3 oM harg4 yM harg5 bM harg6 gM harg7 kM harg8 cc0_scratch4 cc0_scratch5 cc0_scratch6 cc0_scratch7 cc0_scratch8 cc0_scratch9 cc0_scratch10 c v13 v24) Q) := by
  rw [k0_part18_eq_skeleton]
  unfold k0_part18_skel
  simp only [semSignalWord, semWaitWord, Prog.lift, Prog.bind_op, Prog.bind_ret, Prog.pure_eq_ret, Prog.bind_assoc, wp_deviceId]
  iintro ⟨#HC, #HRo, #HRn, #HRp, Hd30, Hd31, Hd32, Hd33, Hd34, Hd35, Hd36, Hd37, HO, Hq39, Hat39, Hu, Hoo, Ho40, Ho41⟩ Hk
  ihave Hz := (arrR I c) $$ [Hd30 Hd31 Hd32 Hd33 Hd34 Hd35 Hd36 Hd37]
  · isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    iexact Hd37
  icases Hz with ⟨He30, HRl, HRr, HRk⟩
  ihave HO := (Ow_9 c) $$ HO
  ihave Hz := Snd_open $$ Hq39; icases Hz with ⟨Hqa, Hqb, Hqc⟩
  iapply (op_send I κ c _ _ (dev20_eq c) false rfl 1280 1792 256 2 3 (dq 39) (dq 41) (by decide) (by decide) rfl rfl rfl rfl rfl N256 (amount_256 I _ _ _ _ (by decide)) (amount_256 I _ _ _ _ (by decide)) (yS_credit256 _ _) (by decide) (by decide) rfl (dv_fwd_prv c) (by decide) ([])) $$ [HRl Hqa Hqb Hqc HO]
  · isplitr; · iexact HC
    isplitr; · iexact HRo
    isplitr; · iexact HRp
    isplitl [HRl]; · iexact HRl
    isplitl [Hqa]; · iexact Hqa
    isplitl [HO]; · iexact HO
    isplitl [Hqb] <;> iassumption
  iintro ⟨Hcr, HO⟩
  ihave Ho39 : Out (F := F) c (dq 39) N256 $$ [Hcr Hat39]
  · unfold Out; isplitl [Hcr] <;> iassumption
  iapply (ld_u I c 2 1024 rfl) $$ Hu; iintro Hu
  iapply (ld_y I c 2 1024 rfl _ _ (rows_sub (by decide) (by decide))) $$ HRr; iintro HRr
  iapply (ld_o c) $$ Hoo; iintro Hoo
  iapply (ld_o c) $$ Hoo; iintro Hoo
  iapply (st_o c (o2 I c)) $$ Hoo; iintro Hoo
  ihave Hz := Out_open $$ Ho40; icases Hz with ⟨Hoa, Hob⟩
  iapply (op_ywait I κ c (dq 40) (by decide) N256 (amount_256 I _ _ _ _ (by decide)) ([]) (fun p hp => absurd hp List.not_mem_nil) (yS_credit256 _ _)) $$ [Hoa HO Hob]
  · isplitr; · iexact HC
    isplitl [Hoa]; · iexact Hoa
    isplitl [HO]; · iexact HO
    iexact Hob
  iintro ⟨HO, Hda, Hdb⟩
  ihave Hd40 : Don I c (dq 40) $$ [Hda Hdb]
  · unfold Don; isplitl [Hda] <;> iassumption
  ihave Hz := Out_open $$ Ho41; icases Hz with ⟨Hoa, Hob⟩
  iapply (op_ywait I κ c (dq 41) (by decide) N256 (amount_256 I _ _ _ _ (by decide)) ([]) (fun p hp => absurd hp List.not_mem_nil) (yS_credit256 _ _)) $$ [Hoa HO Hob]
  · isplitr; · iexact HC
    isplitl [Hoa]; · iexact Hoa
    isplitl [HO]; · iexact HO
    iexact Hob
  iintro ⟨HO, Hda, Hdb⟩
  ihave Hd41 : Don I c (dq 41) $$ [Hda Hdb]
  · unfold Don; isplitl [Hda] <;> iassumption
  iapply (wpD_ret c _)
  iapply Hk
  isplitl [He30]; · iexact He30
  isplitl [HRr]; · iexact HRr
  isplitl [HRk]; · iexact HRk
  isplitl [Ho39]; · iexact Ho39
  isplitl [Hu]; · iexact Hu
  isplitl [Hoo]; · iexact Hoo
  isplitl [Hd40]; · iexact Hd40
  isplitl [Hd41]; · iexact Hd41
  iexact HO

/-- Part 19 of the body: what it takes and what it leaves. -/
theorem part19 (c : Dev nD) {Q : PUnit → sProp 𝕄} {harg0 harg1 harg2 harg3 harg4 harg5 harg6 harg7 harg8} :
    iprop(Ctx I κ ∗ Rch (F := F) c ∗ Rch (F := F) (nxt c) ∗ Rch (F := F) (prv c) ∗ Don I c (dq 40) ∗ Don I c (dq 41) ∗ stg c cc0_stg2_0 (I.u c) ∗ stg c cc0_stg3_0 (o2 I c) ∗ Out (F := F) c (dq 6) N64 ∗ Ow (F := F) c ([]) ∗ Out (F := F) c (dq 14) N64 ∗ Out (F := F) c (dq 7) N64)
      ⊢ iprop(((Fin1 (F := F) c (dq 40) ∗ Fin1 (F := F) c (dq 41)) ∗ yPts c (rows 1536 512) fullShare (G I c) ∗ stg c cc0_stg2_0 (I.u c) ∗ stg c cc0_stg3_0 (o3 I c) ∗ Don I c (dq 6) ∗ Don I c (dq 14) ∗ Don I c (dq 7) ∗ Ow (F := F) c ([]) -∗ Q ⟨⟩)
          -∗ wpD c (k0_part19 xM harg0 dM harg1 uM harg2 wM harg3 oM harg4 yM harg5 bM harg6 gM harg7 kM harg8 cc0_scratch4 cc0_scratch5 cc0_scratch6 cc0_scratch7 cc0_scratch8 cc0_scratch9 cc0_scratch10) Q) := by
  rw [k0_part19_eq_skeleton]
  unfold k0_part19_skel
  simp only [semSignalWord, semWaitWord, Prog.lift, Prog.bind_op, Prog.bind_ret, Prog.pure_eq_ret, Prog.bind_assoc, wp_deviceId]
  iintro ⟨#HC, #HRo, #HRn, #HRp, Hd40, Hd41, Hu, Hoo, Ho6, HO, Ho14, Ho7⟩ Hk
  ihave Hz := (arrD I c) $$ [Hd40 Hd41]
  · isplitl [Hd40]; · iexact Hd40
    iexact Hd41
  icases Hz with ⟨He40, HD⟩
  iapply (ld_u I c 3 1536 rfl) $$ Hu; iintro Hu
  iapply (ld_y I c 3 1536 rfl _ _ (rows_sub (by decide) (by decide))) $$ HD; iintro HD
  iapply (ld_o c) $$ Hoo; iintro Hoo
  iapply (ld_o c) $$ Hoo; iintro Hoo
  iapply (st_o c (o3 I c)) $$ Hoo; iintro Hoo
  ihave Hz := Out_open $$ Ho6; icases Hz with ⟨Hoa, Hob⟩
  iapply (op_ywait I κ c (dq 6) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd6 : Don I c (dq 6) $$ [Hda Hdb]
  · unfold Don; isplitl [Hda] <;> iassumption
  ihave Hz := Out_open $$ Ho14; icases Hz with ⟨Hoa, Hob⟩
  iapply (op_ywait I κ c (dq 14) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd14 : Don I c (dq 14) $$ [Hda Hdb]
  · unfold Don; isplitl [Hda] <;> iassumption
  ihave Hz := Out_open $$ Ho7; icases Hz with ⟨Hoa, Hob⟩
  iapply (op_ywait I κ c (dq 7) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd7 : Don I c (dq 7) $$ [Hda Hdb]
  · unfold Don; isplitl [Hda] <;> iassumption
  iapply (wpD_ret c _)
  iapply Hk
  isplitl [He40]; · iexact He40
  isplitl [HD]; · iexact HD
  isplitl [Hu]; · iexact Hu
  isplitl [Hoo]; · iexact Hoo
  isplitl [Hd6]; · iexact Hd6
  isplitl [Hd14]; · iexact Hd14
  isplitl [Hd7]; · iexact Hd7
  iexact HO

/-- Part 20 of the body: what it takes and what it leaves. -/
theorem part20 (c : Dev nD) {Q : PUnit → sProp 𝕄} {harg0 harg1 harg2 harg3 harg4 harg5 harg6 harg7 harg8} :
    iprop(Ctx I κ ∗ Rch (F := F) c ∗ Rch (F := F) (nxt c) ∗ Rch (F := F) (prv c) ∗ Out (F := F) c (dq 15) N64 ∗ Ow (F := F) c ([]) ∗ Out (F := F) c (dq 8) N64 ∗ Out (F := F) c (dq 16) N64 ∗ Out (F := F) c (dq 9) N64 ∗ Out (F := F) c (dq 17) N64)
      ⊢ iprop((Don I c (dq 15) ∗ Don I c (dq 8) ∗ Don I c (dq 16) ∗ Don I c (dq 9) ∗ Don I c (dq 17) ∗ Ow (F := F) c ([]) -∗ Q ⟨⟩)
          -∗ wpD c (k0_part20 xM harg0 dM harg1 uM harg2 wM harg3 oM harg4 yM harg5 bM harg6 gM harg7 kM harg8 cc0_scratch4 cc0_scratch5 cc0_scratch6 cc0_scratch7 cc0_scratch8 cc0_scratch9 cc0_scratch10) Q) := by
  rw [k0_part20_eq_skeleton]
  unfold k0_part20_skel
  simp only [semSignalWord, semWaitWord, Prog.lift, Prog.bind_op, Prog.bind_ret, Prog.pure_eq_ret, Prog.bind_assoc, wp_deviceId]
  iintro ⟨#HC, #HRo, #HRn, #HRp, Ho15, HO, Ho8, Ho16, Ho9, Ho17⟩ Hk
  ihave Hz := Out_open $$ Ho15; icases Hz with ⟨Hoa, Hob⟩
  iapply (op_ywait I κ c (dq 15) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd15 : Don I c (dq 15) $$ [Hda Hdb]
  · unfold Don; isplitl [Hda] <;> iassumption
  ihave Hz := Out_open $$ Ho8; icases Hz with ⟨Hoa, Hob⟩
  iapply (op_ywait I κ c (dq 8) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd8 : Don I c (dq 8) $$ [Hda Hdb]
  · unfold Don; isplitl [Hda] <;> iassumption
  ihave Hz := Out_open $$ Ho16; icases Hz with ⟨Hoa, Hob⟩
  iapply (op_ywait I κ c (dq 16) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd16 : Don I c (dq 16) $$ [Hda Hdb]
  · unfold Don; isplitl [Hda] <;> iassumption
  ihave Hz := Out_open $$ Ho9; icases Hz with ⟨Hoa, Hob⟩
  iapply (op_ywait I κ c (dq 9) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd9 : Don I c (dq 9) $$ [Hda Hdb]
  · unfold Don; isplitl [Hda] <;> iassumption
  ihave Hz := Out_open $$ Ho17; icases Hz with ⟨Hoa, Hob⟩
  iapply (op_ywait I κ c (dq 17) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd17 : Don I c (dq 17) $$ [Hda Hdb]
  · unfold Don; isplitl [Hda] <;> iassumption
  iapply (wpD_ret c _)
  iapply Hk
  isplitl [Hd15]; · iexact Hd15
  isplitl [Hd8]; · iexact Hd8
  isplitl [Hd16]; · iexact Hd16
  isplitl [Hd9]; · iexact Hd9
  isplitl [Hd17]; · iexact Hd17
  iexact HO

/-- Part 21 of the body: what it takes and what it leaves. -/
theorem part21 (c : Dev nD) {Q : PUnit → sProp 𝕄} {harg0 harg1 harg2 harg3 harg4 harg5 harg6 harg7 harg8} :
    iprop(Ctx I κ ∗ Rch (F := F) c ∗ Rch (F := F) (nxt c) ∗ Rch (F := F) (prv c) ∗ Out (F := F) c (dq 10) N64 ∗ Ow (F := F) c ([]) ∗ Out (F := F) c (dq 18) N64 ∗ Out (F := F) c (dq 11) N64 ∗ Out (F := F) c (dq 19) N64 ∗ Out (F := F) c (dq 12) N64)
      ⊢ iprop((Don I c (dq 10) ∗ Don I c (dq 18) ∗ Don I c (dq 11) ∗ Don I c (dq 19) ∗ Don I c (dq 12) ∗ Ow (F := F) c ([]) -∗ Q ⟨⟩)
          -∗ wpD c (k0_part21 xM harg0 dM harg1 uM harg2 wM harg3 oM harg4 yM harg5 bM harg6 gM harg7 kM harg8 cc0_scratch4 cc0_scratch5 cc0_scratch6 cc0_scratch7 cc0_scratch8 cc0_scratch9 cc0_scratch10) Q) := by
  rw [k0_part21_eq_skeleton]
  unfold k0_part21_skel
  simp only [semSignalWord, semWaitWord, Prog.lift, Prog.bind_op, Prog.bind_ret, Prog.pure_eq_ret, Prog.bind_assoc, wp_deviceId]
  iintro ⟨#HC, #HRo, #HRn, #HRp, Ho10, HO, Ho18, Ho11, Ho19, Ho12⟩ Hk
  ihave Hz := Out_open $$ Ho10; icases Hz with ⟨Hoa, Hob⟩
  iapply (op_ywait I κ c (dq 10) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd10 : Don I c (dq 10) $$ [Hda Hdb]
  · unfold Don; isplitl [Hda] <;> iassumption
  ihave Hz := Out_open $$ Ho18; icases Hz with ⟨Hoa, Hob⟩
  iapply (op_ywait I κ c (dq 18) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd18 : Don I c (dq 18) $$ [Hda Hdb]
  · unfold Don; isplitl [Hda] <;> iassumption
  ihave Hz := Out_open $$ Ho11; icases Hz with ⟨Hoa, Hob⟩
  iapply (op_ywait I κ c (dq 11) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd11 : Don I c (dq 11) $$ [Hda Hdb]
  · unfold Don; isplitl [Hda] <;> iassumption
  ihave Hz := Out_open $$ Ho19; icases Hz with ⟨Hoa, Hob⟩
  iapply (op_ywait I κ c (dq 19) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd19 : Don I c (dq 19) $$ [Hda Hdb]
  · unfold Don; isplitl [Hda] <;> iassumption
  ihave Hz := Out_open $$ Ho12; icases Hz with ⟨Hoa, Hob⟩
  iapply (op_ywait I κ c (dq 12) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd12 : Don I c (dq 12) $$ [Hda Hdb]
  · unfold Don; isplitl [Hda] <;> iassumption
  iapply (wpD_ret c _)
  iapply Hk
  isplitl [Hd10]; · iexact Hd10
  isplitl [Hd18]; · iexact Hd18
  isplitl [Hd11]; · iexact Hd11
  isplitl [Hd19]; · iexact Hd19
  isplitl [Hd12]; · iexact Hd12
  iexact HO

end Cert.KernelIdeal.Moe

end
-- ==== Proof.KI.Body.lean ====
/- The region's body, from its entry to its end. -/
module

public import proofs.«01_k».proof.Proof.KI.PartsA
public import proofs.«01_k».proof.Proof.KI.PartsB
public import proofs.«01_k».proof.Proof.KI.PartsC
public import proofs.«01_k».proof.Proof.KI.PartsD
public import proofs.«01_k».proof.Proof.KI.PartsE

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-! ## What the body starts from and what it ends with -/

/-- The two tokens of one send. -/
def Tk (c p : Dev nD) (sS sem : DmaSem sig) : sProp 𝕄 := iprop(dutyTok ER (dcell c sS) 0 false ∗ dutyTok ER (dcell p sem) 0 false)
/-- Where device `c` stands at a cell that it has not waited at. -/
def At0 (c : Dev nD) (q : DmaSem sig) : sProp 𝕄 := atPos ER (dcell c q) 0 ∅ 0

/-- What the body starts from for expert `e`: the copy of its weights, its two sends and the two chunks that arrive with them. -/
def Per (c : Dev nD) (e : Fin 8) : sProp 𝕄 :=
  iprop(Wt I c ⟨4 + e.val % 2, by have := e.isLt; show 4 + e.val % 2 < 42; omega⟩ (e.val / 2) e.val
    ∗ Tk (F := F) c (nxt c) ⟨6 + e.val, by have := e.isLt; show 6 + e.val < 42; omega⟩ ⟨22 + e.val, by have := e.isLt; show 22 + e.val < 42; omega⟩
    ∗ Tk (F := F) c (prv c) ⟨14 + e.val, by have := e.isLt; show 14 + e.val < 42; omega⟩ ⟨30 + e.val, by have := e.isLt; show 30 + e.val < 42; omega⟩
    ∗ At0 (F := F) c ⟨6 + e.val, by have := e.isLt; show 6 + e.val < 42; omega⟩ ∗ At0 (F := F) c ⟨14 + e.val, by have := e.isLt; show 14 + e.val < 42; omega⟩
    ∗ Out (F := F) c ⟨22 + e.val, by have := e.isLt; show 22 + e.val < 42; omega⟩ N64 ∗ Out (F := F) c ⟨30 + e.val, by have := e.isLt; show 30 + e.val < 42; omega⟩ N64)

/-- The barrier's part of it. -/
def Bar0 (c : Dev nD) : sProp 𝕄 :=
  iprop(dutyTok ER (bcell (prv c)) 0 true ∗ reached ER (bcell (prv c)) 0 ∗ dutyTok ER (bcell (nxt c)) 0 false ∗ reached ER (bcell (nxt c)) 0
    ∗ cred (tallyAt (bcell c) () 2) ∗ atPos ER (bcell c) 0 ∅ 0)

/-- The buffers it starts from. -/
def Mem0 (c : Dev nD) : sProp 𝕄 :=
  iprop(stg c cc0_stg0_0 (I.x c) ∗ stg c cc0_stg1_0 (I.d c) ∗ stg c cc0_stg2_0 (I.u c) ∗ (∃ f, stg c cc0_stg3_0 f) ∗ (∃ f, stg c cc0_scratch1 f) ∗ (∃ f, stg c cc0_scratch2 f)
    ∗ Slot (F := F) c 0 (dq 4) 0 ∗ Slot (F := F) c 1 (dq 5) 0 ∗ Blk (F := F) c 0 512 ∗ Blk (F := F) c 512 512 ∗ Blk (F := F) c 1024 512 ∗ Blk (F := F) c 1536 256 ∗ Blk (F := F) c 1792 256)

/-- The forwards' part of it. -/
def Fwd0 (c : Dev nD) : sProp 𝕄 :=
  iprop(Tk (F := F) c (nxt c) (dq 38) (dq 40) ∗ Tk (F := F) c (prv c) (dq 39) (dq 41) ∗ At0 (F := F) c (dq 38) ∗ At0 (F := F) c (dq 39)
    ∗ Out (F := F) c (dq 40) N256 ∗ Out (F := F) c (dq 41) N256)

/-- What the body starts from. -/
def Init (c : Dev nD) : sProp 𝕄 :=
  iprop(Ctx I κ ∗ Rch (F := F) c ∗ Ow (F := F) c pAll ∗ Bar0 (F := F) c ∗ Mem0 I c ∗ Fwd0 (F := F) c
    ∗ Per I c 0 ∗ Per I c 1 ∗ Per I c 2 ∗ Per I c 3 ∗ Per I c 4 ∗ Per I c 5 ∗ Per I c 6 ∗ Per I c 7)

/-- The buffers it ends with. -/
def Mem1 (c : Dev nD) : sProp 𝕄 :=
  iprop(stg c cc0_stg0_0 (I.x c) ∗ stg c cc0_stg1_0 (I.d c) ∗ stg c cc0_stg2_0 (I.u c) ∗ stg c cc0_stg3_0 (o3 I c) ∗ stg c cc0_scratch1 (xb I c) ∗ stg c cc0_scratch2 (xg I c)
    ∗ Slot (F := F) c 0 (dq 4) 4 ∗ Slot (F := F) c 1 (dq 5) 4 ∗ yPts c (rows 0 2048) fullShare (G I c)
    ∗ wPts c (wset 0) fullShare (I.w c) ∗ wPts c (wset 1) fullShare (I.w c) ∗ wPts c (wset 2) fullShare (I.w c) ∗ wPts c (wset 3) fullShare (I.w c) ∗ wPts c (wset 4) fullShare (I.w c) ∗ wPts c (wset 5) fullShare (I.w c) ∗ wPts c (wset 6) fullShare (I.w c) ∗ wPts c (wset 7) fullShare (I.w c))

/-- What the body ends with: every transfer waited for, nothing owed. -/
def Last (c : Dev nD) : sProp 𝕄 :=
  iprop(Ow (F := F) c [] ∗ atPos ER (bcell c) 1 ∅ 0 ∗ Mem1 I c
    ∗ Fin1 (F := F) c (dq 6) ∗ Fin1 (F := F) c (dq 7) ∗ Fin1 (F := F) c (dq 8) ∗ Fin1 (F := F) c (dq 9) ∗ Fin1 (F := F) c (dq 10) ∗ Fin1 (F := F) c (dq 11) ∗ Fin1 (F := F) c (dq 12) ∗ Fin1 (F := F) c (dq 13) ∗ Fin1 (F := F) c (dq 14) ∗ Fin1 (F := F) c (dq 15) ∗ Fin1 (F := F) c (dq 16) ∗ Fin1 (F := F) c (dq 17) ∗ Fin1 (F := F) c (dq 18) ∗ Fin1 (F := F) c (dq 19) ∗ Fin1 (F := F) c (dq 20) ∗ Fin1 (F := F) c (dq 21) ∗ Fin1 (F := F) c (dq 22) ∗ Fin1 (F := F) c (dq 23) ∗ Fin1 (F := F) c (dq 24) ∗ Fin1 (F := F) c (dq 25) ∗ Fin1 (F := F) c (dq 26) ∗ Fin1 (F := F) c (dq 27) ∗ Fin1 (F := F) c (dq 28) ∗ Fin1 (F := F) c (dq 29) ∗ Fin1 (F := F) c (dq 30) ∗ Fin1 (F := F) c (dq 31) ∗ Fin1 (F := F) c (dq 32) ∗ Fin1 (F := F) c (dq 33) ∗ Fin1 (F := F) c (dq 34) ∗ Fin1 (F := F) c (dq 35) ∗ Fin1 (F := F) c (dq 36) ∗ Fin1 (F := F) c (dq 37) ∗ Fin1 (F := F) c (dq 38) ∗ Fin1 (F := F) c (dq 39) ∗ Fin1 (F := F) c (dq 40) ∗ Fin1 (F := F) c (dq 41))

/-! ## The barrier -/

/-- The part up to the barrier: the neighbours' rows come in exchange for this device's own. -/
theorem part1 (c : Dev nD) {Q : (Σ' (_ : Dev nD) (_ : BitVec 32), BitVec 32) → sProp 𝕄} {harg0 harg1 harg2 harg3 harg4 harg5 harg6 harg7 harg8} :
    iprop(Ctx I κ ∗ Rch (F := F) c ∗ Ow (F := F) c pAll ∗ Bar0 (F := F) c ∗ Blk (F := F) c 512 512 ∗ Blk (F := F) c 1024 512 ∗ Blk (F := F) c 1536 256 ∗ Blk (F := F) c 1792 256)
      ⊢ iprop((∀ v13 v24, (Ow (F := F) c (pS 0) ∗ atPos ER (bcell c) 1 ∅ 0 ∗ Rch (F := F) (nxt c) ∗ Rch (F := F) (prv c)
              ∗ Blk (F := F) (nxt c) 512 512 ∗ Blk (F := F) (nxt c) 1536 256 ∗ Blk (F := F) (prv c) 1024 512 ∗ Blk (F := F) (prv c) 1792 256) -∗ Q ⟨c, v13, v24⟩)
          -∗ wpD c (k0_part1 xM harg0 dM harg1 uM harg2 wM harg3 oM harg4 yM harg5 bM harg6 gM harg7 kM harg8 cc0_scratch4 cc0_scratch5 cc0_scratch6 cc0_scratch7 cc0_scratch8 cc0_scratch9 cc0_scratch10) Q) := by
  have hT : (moeRd I).payload (bcell (prv c)) 0 true = iprop(Blk (F := F) c 512 512 ∗ Blk (F := F) c 1536 256 ∗ Rch (F := F) c) := by
    rw [payload_bar_true]; unfold payT; rw [nxt_prv]; rfl
  have hF : (moeRd I).payload (bcell (nxt c)) 0 false = iprop(Blk (F := F) c 1024 512 ∗ Blk (F := F) c 1792 256 ∗ Rch (F := F) c) := by
    rw [payload_bar_false]; unfold payF; rw [prv_nxt]; rfl
  have gT : payT (F := F) c ⊢ iprop(Blk (F := F) (nxt c) 512 512 ∗ Blk (F := F) (nxt c) 1536 256 ∗ Rch (F := F) (nxt c)) := Entails.of_eq rfl
  have gF : payF (F := F) c ⊢ iprop(Blk (F := F) (prv c) 1024 512 ∗ Blk (F := F) (prv c) 1792 256 ∗ Rch (F := F) (prv c)) := Entails.of_eq rfl
  rw [k0_part1_eq_skeleton]
  unfold k0_part1_skel Bar0 pAll
  simp only [semSignalWord, semWaitWord, Prog.lift, Prog.bind_op, Prog.bind_ret, Prog.pure_eq_ret, Prog.bind_assoc, wp_deviceId]
  iintro ⟨#HC, #HR, HO, ⟨Ht1, Hr1, Ht2, Hr2, Hcr, Hat⟩, Hb1, Hb2, Hb3, Hb4⟩ Hk
  iapply (op_signal I κ c (prv c) _ (dev1_eq c) false rfl true _ hT (pB1 :: pS 0) (by decide)) $$ [HO Ht1 Hb1 Hb3 Hr1]
  · isplitr; · iexact HC
    isplitl [HO]; · iexact HO
    isplitl [Ht1]; · iexact Ht1
    isplitl [Hb1 Hb3]
    · isplitl [Hb1]; · iexact Hb1
      isplitl [Hb3]; · iexact Hb3
      iexact HR
    iexact Hr1
  iintro HO
  iapply (op_signal I κ c (nxt c) _ (dev2_eq c) true rfl false _ hF (pS 0) (by decide)) $$ [HO Ht2 Hb2 Hb4 Hr2]
  · isplitr; · iexact HC
    isplitl [HO]; · iexact HO
    isplitl [Ht2]; · iexact Ht2
    isplitl [Hb2 Hb4]
    · isplitl [Hb2]; · iexact Hb2
      isplitl [Hb4]; · iexact Hb4
      iexact HR
    iexact Hr2
  iintro HO
  iapply (op_barrier I κ c (pS 0) (fun p hp => lt_of_lt_of_le (by decide) (lv_pS 0 p hp)) (by decide)) $$ [Hcr HO Hat]
  · isplitr; · iexact HC
    isplitl [Hcr]; · iexact Hcr
    isplitl [HO] <;> iassumption
  iintro ⟨HO, Hat, HF, HT⟩
  ihave Hz := gT $$ HT; icases Hz with ⟨Ha1, Ha2, Ha3⟩
  ihave Hz := gF $$ HF; icases Hz with ⟨Hc1, Hc2, Hc3⟩
  iapply (wpD_ret c _)
  iapply Hk
  isplitl [HO]; · iexact HO
  isplitl [Hat]; · iexact Hat
  isplitl [Ha3]; · iexact Ha3
  isplitl [Hc3]; · iexact Hc3
  isplitl [Ha1]; · iexact Ha1
  isplitl [Ha2]; · iexact Ha2
  isplitl [Hc1] <;> iassumption

/-! ## The gathered buffer put together again -/

/-- The eight own chunks at a share, waited for one by one, as one block. -/
theorem own_left (c : Dev nD) : iprop(Don I c (dq 6) ∗ Don I c (dq 7) ∗ Don I c (dq 8) ∗ Don I c (dq 9) ∗ Don I c (dq 10) ∗ Don I c (dq 11) ∗ Don I c (dq 12) ∗ Don I c (dq 13))
    ⊢ iprop((Fin1 (F := F) c (dq 6) ∗ Fin1 (F := F) c (dq 7) ∗ Fin1 (F := F) c (dq 8) ∗ Fin1 (F := F) c (dq 9) ∗ Fin1 (F := F) c (dq 10) ∗ Fin1 (F := F) c (dq 11) ∗ Fin1 (F := F) c (dq 12) ∗ Fin1 (F := F) c (dq 13)) ∗ yPts c (rows 0 512) fullShare.left (G I c)) := by
  iintro ⟨D0, D1, D2, D3, D4, D5, D6, D7⟩
  have hz := Don_pts I c (dq 6) 0 64 fullShare.left rfl rfl rfl
  ihave Hz := hz $$ D0; icases Hz with ⟨A0, P0⟩
  have hz := Don_pts I c (dq 7) 64 64 fullShare.left rfl rfl rfl
  ihave Hz := hz $$ D1; icases Hz with ⟨A1, P1⟩
  have hz := Don_pts I c (dq 8) 128 64 fullShare.left rfl rfl rfl
  ihave Hz := hz $$ D2; icases Hz with ⟨A2, P2⟩
  have hz := Don_pts I c (dq 9) 192 64 fullShare.left rfl rfl rfl
  ihave Hz := hz $$ D3; icases Hz with ⟨A3, P3⟩
  have hz := Don_pts I c (dq 10) 256 64 fullShare.left rfl rfl rfl
  ihave Hz := hz $$ D4; icases Hz with ⟨A4, P4⟩
  have hz := Don_pts I c (dq 11) 320 64 fullShare.left rfl rfl rfl
  ihave Hz := hz $$ D5; icases Hz with ⟨A5, P5⟩
  have hz := Don_pts I c (dq 12) 384 64 fullShare.left rfl rfl rfl
  ihave Hz := hz $$ D6; icases Hz with ⟨A6, P6⟩
  have hz := Don_pts I c (dq 13) 448 64 fullShare.left rfl rfl rfl
  ihave Hz := hz $$ D7; icases Hz with ⟨A7, P7⟩
  isplitl [A0 A1 A2 A3 A4 A5 A6 A7]
  · unfold Fin1
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iapply (y_eight c 0 fullShare.left (G I c))
  isplitl [P0]; · iexact P0
  isplitl [P1]; · iexact P1
  isplitl [P2]; · iexact P2
  isplitl [P3]; · iexact P3
  isplitl [P4]; · iexact P4
  isplitl [P5]; · iexact P5
  isplitl [P6]; · iexact P6
  iexact P7

/-- The same for the other neighbour's sends. -/
theorem own_right (c : Dev nD) : iprop(Don I c (dq 14) ∗ Don I c (dq 15) ∗ Don I c (dq 16) ∗ Don I c (dq 17) ∗ Don I c (dq 18) ∗ Don I c (dq 19) ∗ Don I c (dq 20) ∗ Don I c (dq 21))
    ⊢ iprop((Fin1 (F := F) c (dq 14) ∗ Fin1 (F := F) c (dq 15) ∗ Fin1 (F := F) c (dq 16) ∗ Fin1 (F := F) c (dq 17) ∗ Fin1 (F := F) c (dq 18) ∗ Fin1 (F := F) c (dq 19) ∗ Fin1 (F := F) c (dq 20) ∗ Fin1 (F := F) c (dq 21)) ∗ yPts c (rows 0 512) fullShare.right.left (G I c)) := by
  iintro ⟨D0, D1, D2, D3, D4, D5, D6, D7⟩
  have hz := Don_pts I c (dq 14) 0 64 fullShare.right.left rfl rfl rfl
  ihave Hz := hz $$ D0; icases Hz with ⟨A0, P0⟩
  have hz := Don_pts I c (dq 15) 64 64 fullShare.right.left rfl rfl rfl
  ihave Hz := hz $$ D1; icases Hz with ⟨A1, P1⟩
  have hz := Don_pts I c (dq 16) 128 64 fullShare.right.left rfl rfl rfl
  ihave Hz := hz $$ D2; icases Hz with ⟨A2, P2⟩
  have hz := Don_pts I c (dq 17) 192 64 fullShare.right.left rfl rfl rfl
  ihave Hz := hz $$ D3; icases Hz with ⟨A3, P3⟩
  have hz := Don_pts I c (dq 18) 256 64 fullShare.right.left rfl rfl rfl
  ihave Hz := hz $$ D4; icases Hz with ⟨A4, P4⟩
  have hz := Don_pts I c (dq 19) 320 64 fullShare.right.left rfl rfl rfl
  ihave Hz := hz $$ D5; icases Hz with ⟨A5, P5⟩
  have hz := Don_pts I c (dq 20) 384 64 fullShare.right.left rfl rfl rfl
  ihave Hz := hz $$ D6; icases Hz with ⟨A6, P6⟩
  have hz := Don_pts I c (dq 21) 448 64 fullShare.right.left rfl rfl rfl
  ihave Hz := hz $$ D7; icases Hz with ⟨A7, P7⟩
  isplitl [A0 A1 A2 A3 A4 A5 A6 A7]
  · unfold Fin1
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iapply (y_eight c 0 fullShare.right.left (G I c))
  isplitl [P0]; · iexact P0
  isplitl [P1]; · iexact P1
  isplitl [P2]; · iexact P2
  isplitl [P3]; · iexact P3
  isplitl [P4]; · iexact P4
  isplitl [P5]; · iexact P5
  isplitl [P6]; · iexact P6
  iexact P7

/-- All the pieces of the gathered buffer, joined. -/
theorem y_all (c : Dev nD) : iprop(yPts c (rows 0 512) fullShare.left (G I c) ∗ yPts c (rows 0 512) fullShare.right.left (G I c) ∗ yPts c (rows 0 512) fullShare.right.right (G I c)
      ∗ yPts c (rows 512 256) fullShare.left (G I c) ∗ yPts c (rows 768 256) fullShare.left (G I c) ∗ yPts c (rows 512 512) fullShare.right (G I c)
      ∗ yPts c (rows 1024 256) fullShare.left (G I c) ∗ yPts c (rows 1280 256) fullShare.left (G I c) ∗ yPts c (rows 1024 512) fullShare.right (G I c)
      ∗ yPts c (rows 1536 512) fullShare (G I c))
    ⊢ yPts c (rows 0 2048) fullShare (G I c) := by
  iintro ⟨A1, A2, A3, B1, B2, B3, C1, C2, C3, D⟩
  ihave A4 := (y_whole c _ fullShare.right _) $$ [A2 A3]
  · isplitl [A2] <;> iassumption
  ihave A := (y_whole c _ fullShare _) $$ [A1 A4]
  · isplitl [A1] <;> iassumption
  ihave B4 := (y_join c 512 256 256 fullShare.left _) $$ [B1 B2]
  · isplitl [B1] <;> iassumption
  ihave B := (y_whole c _ fullShare _) $$ [B4 B3]
  · isplitl [B4] <;> iassumption
  ihave C4 := (y_join c 1024 256 256 fullShare.left _) $$ [C1 C2]
  · isplitl [C1] <;> iassumption
  ihave C := (y_whole c _ fullShare _) $$ [C4 C3]
  · isplitl [C4] <;> iassumption
  ihave E := (y_join c 1024 512 512 fullShare _) $$ [C D]
  · isplitl [C] <;> iassumption
  ihave E' := (y_join c 512 512 1024 fullShare _) $$ [B E]
  · isplitl [B] <;> iassumption
  iapply (y_join c 0 512 1536 fullShare _)
  isplitl [A] <;> iassumption

/-! ## The whole body -/

set_option maxHeartbeats 1000000 in
/-- The body: from `Init` it runs without fault to `Last`. -/
theorem body (c : Dev nD) {Q : PUnit → sProp 𝕄} {harg0 harg1 harg2 harg3 harg4 harg5 harg6 harg7 harg8} :
    Init I κ c
      ⊢ iprop((Last I c -∗ Q ⟨⟩)
          -∗ wpD c (cc0__moe_body xM harg0 dM harg1 uM harg2 wM harg3 oM harg4 yM harg5 bM harg6 gM harg7 kM harg8 cc0_scratch4 cc0_scratch5 cc0_scratch6 cc0_scratch7 cc0_scratch8 cc0_scratch9 cc0_scratch10) Q) := by
  rw [cc0__moe_body_eq_skeleton]
  unfold cc0__moe_body_skel
  rw [k0_part22_eq_skeleton]
  unfold k0_part22_skel Init Mem0 Fwd0 Per Tk At0
  simp only [Prog.bind_assoc]
  iintro ⟨#HC, #HRo, HO, HB, ⟨Hx, Hd, Hu, Hoo, Hbb, Hg, Hs0, Hs1, Hy, Hy1, Hy2, Hy3, Hy4⟩, ⟨⟨Hta38, Htb38⟩, ⟨Hta39, Htb39⟩, Hat38, Hat39, Ho40, Ho41⟩, ⟨Hw0, ⟨Hta6, Htb6⟩, ⟨Hta14, Htb14⟩, Hat6, Hat14, Ho22, Ho30⟩, ⟨Hw1, ⟨Hta7, Htb7⟩, ⟨Hta15, Htb15⟩, Hat7, Hat15, Ho23, Ho31⟩, ⟨Hw2, ⟨Hta8, Htb8⟩, ⟨Hta16, Htb16⟩, Hat8, Hat16, Ho24, Ho32⟩, ⟨Hw3, ⟨Hta9, Htb9⟩, ⟨Hta17, Htb17⟩, Hat9, Hat17, Ho25, Ho33⟩, ⟨Hw4, ⟨Hta10, Htb10⟩, ⟨Hta18, Htb18⟩, Hat10, Hat18, Ho26, Ho34⟩, ⟨Hw5, ⟨Hta11, Htb11⟩, ⟨Hta19, Htb19⟩, Hat11, Hat19, Ho27, Ho35⟩, ⟨Hw6, ⟨Hta12, Htb12⟩, ⟨Hta20, Htb20⟩, Hat12, Hat20, Ho28, Ho36⟩, ⟨Hw7, ⟨Hta13, Htb13⟩, ⟨Hta21, Htb21⟩, Hat13, Hat21, Ho29, Ho37⟩⟩ Hfin
  iapply (wpD_bind c _ _)
  iapply (part1 I κ c) $$ [HO HB Hy1 Hy2 Hy3 Hy4]
  · isplitr; · iexact HC
    isplitr; · iexact HRo
    isplitl [HO]; · iexact HO
    isplitl [HB]; · iexact HB
    isplitl [Hy1]; · iexact Hy1
    isplitl [Hy2]; · iexact Hy2
    isplitl [Hy3] <;> iassumption
  iintro %v13 %v24 ⟨HO, Hbat, #HRn, #HRp, HnA, HnB, HpA, HpB⟩
  ihave Hz := (Blk_eight c 0) $$ Hy; icases Hz with ⟨Hr0, Hr1, Hr2, Hr3, Hr4, Hr5, Hr6, Hr7⟩
  ihave Hz := (Blk_eight (nxt c) 512) $$ HnA; icases Hz with ⟨Hda6, Hda7, Hda8, Hda9, Hda10, Hda11, Hda12, Hda13⟩
  ihave Hz := (Blk_eight (prv c) 1024) $$ HpA; icases Hz with ⟨Hda14, Hda15, Hda16, Hda17, Hda18, Hda19, Hda20, Hda21⟩
  ihave Hq6 : Snd (F := F) c (nxt c) (dq 6) (dq 22) 512 64 $$ [Hda6 Hta6 Htb6]
  · unfold Snd; isplitl [Hda6]; · iexact Hda6
    isplitl [Hta6]; · iexact Hta6
    iexact Htb6
  ihave Hq14 : Snd (F := F) c (prv c) (dq 14) (dq 30) 1024 64 $$ [Hda14 Hta14 Htb14]
  · unfold Snd; isplitl [Hda14]; · iexact Hda14
    isplitl [Hta14]; · iexact Hta14
    iexact Htb14
  ihave Hq7 : Snd (F := F) c (nxt c) (dq 7) (dq 23) 576 64 $$ [Hda7 Hta7 Htb7]
  · unfold Snd; isplitl [Hda7]; · iexact Hda7
    isplitl [Hta7]; · iexact Hta7
    iexact Htb7
  ihave Hq15 : Snd (F := F) c (prv c) (dq 15) (dq 31) 1088 64 $$ [Hda15 Hta15 Htb15]
  · unfold Snd; isplitl [Hda15]; · iexact Hda15
    isplitl [Hta15]; · iexact Hta15
    iexact Htb15
  ihave Hq8 : Snd (F := F) c (nxt c) (dq 8) (dq 24) 640 64 $$ [Hda8 Hta8 Htb8]
  · unfold Snd; isplitl [Hda8]; · iexact Hda8
    isplitl [Hta8]; · iexact Hta8
    iexact Htb8
  ihave Hq16 : Snd (F := F) c (prv c) (dq 16) (dq 32) 1152 64 $$ [Hda16 Hta16 Htb16]
  · unfold Snd; isplitl [Hda16]; · iexact Hda16
    isplitl [Hta16]; · iexact Hta16
    iexact Htb16
  ihave Hq9 : Snd (F := F) c (nxt c) (dq 9) (dq 25) 704 64 $$ [Hda9 Hta9 Htb9]
  · unfold Snd; isplitl [Hda9]; · iexact Hda9
    isplitl [Hta9]; · iexact Hta9
    iexact Htb9
  ihave Hq17 : Snd (F := F) c (prv c) (dq 17) (dq 33) 1216 64 $$ [Hda17 Hta17 Htb17]
  · unfold Snd; isplitl [Hda17]; · iexact Hda17
    isplitl [Hta17]; · iexact Hta17
    iexact Htb17
  ihave Hq10 : Snd (F := F) c (nxt c) (dq 10) (dq 26) 768 64 $$ [Hda10 Hta10 Htb10]
  · unfold Snd; isplitl [Hda10]; · iexact Hda10
    isplitl [Hta10]; · iexact Hta10
    iexact Htb10
  ihave Hq18 : Snd (F := F) c (prv c) (dq 18) (dq 34) 1280 64 $$ [Hda18 Hta18 Htb18]
  · unfold Snd; isplitl [Hda18]; · iexact Hda18
    isplitl [Hta18]; · iexact Hta18
    iexact Htb18
  ihave Hq11 : Snd (F := F) c (nxt c) (dq 11) (dq 27) 832 64 $$ [Hda11 Hta11 Htb11]
  · unfold Snd; isplitl [Hda11]; · iexact Hda11
    isplitl [Hta11]; · iexact Hta11
    iexact Htb11
  ihave Hq19 : Snd (F := F) c (prv c) (dq 19) (dq 35) 1344 64 $$ [Hda19 Hta19 Htb19]
  · unfold Snd; isplitl [Hda19]; · iexact Hda19
    isplitl [Hta19]; · iexact Hta19
    iexact Htb19
  ihave Hq12 : Snd (F := F) c (nxt c) (dq 12) (dq 28) 896 64 $$ [Hda12 Hta12 Htb12]
  · unfold Snd; isplitl [Hda12]; · iexact Hda12
    isplitl [Hta12]; · iexact Hta12
    iexact Htb12
  ihave Hq20 : Snd (F := F) c (prv c) (dq 20) (dq 36) 1408 64 $$ [Hda20 Hta20 Htb20]
  · unfold Snd; isplitl [Hda20]; · iexact Hda20
    isplitl [Hta20]; · iexact Hta20
    iexact Htb20
  ihave Hq13 : Snd (F := F) c (nxt c) (dq 13) (dq 29) 960 64 $$ [Hda13 Hta13 Htb13]
  · unfold Snd; isplitl [Hda13]; · iexact Hda13
    isplitl [Hta13]; · iexact Hta13
    iexact Htb13
  ihave Hq21 : Snd (F := F) c (prv c) (dq 21) (dq 37) 1472 64 $$ [Hda21 Hta21 Htb21]
  · unfold Snd; isplitl [Hda21]; · iexact Hda21
    isplitl [Hta21]; · iexact Hta21
    iexact Htb21
  ihave Hq38 : Snd (F := F) c (nxt c) (dq 38) (dq 40) 1536 256 $$ [HnB Hta38 Htb38]
  · unfold Snd; isplitl [HnB]; · iexact HnB
    isplitl [Hta38]; · iexact Hta38
    iexact Htb38
  ihave Hq39 : Snd (F := F) c (prv c) (dq 39) (dq 41) 1792 256 $$ [HpB Hta39 Htb39]
  · unfold Snd; isplitl [HpB]; · iexact HpB
    isplitl [Hta39]; · iexact Hta39
    iexact Htb39
  iapply (wpD_bind c _ _)
  iapply (part2 I κ c) $$ [HO Hw0 Hs0 Hx Hd Hbb Hg]
  · isplitr; · iexact HC
    isplitr; · iexact HRo
    isplitr; · iexact HRn
    isplitr; · iexact HRp
    isplitl [HO]; · iexact HO
    isplitl [Hw0]; · iexact Hw0
    isplitl [Hs0]; · iexact Hs0
    isplitl [Hx]; · iexact Hx
    isplitl [Hd]; · iexact Hd
    isplitl [Hbb]; · iexact Hbb
    iexact Hg
  iintro ⟨Hx, Hd, Hbb, Hg, Hk0, Hv0, HO⟩
  iapply (wpD_bind c _ _)
  iapply (part3 I κ c) $$ [Hw1 Hs1 Hg Hk0 Hr0 HO Hq6 Hat6 Hq14 Hat14]
  · isplitr; · iexact HC
    isplitr; · iexact HRo
    isplitr; · iexact HRn
    isplitr; · iexact HRp
    isplitl [Hw1]; · iexact Hw1
    isplitl [Hs1]; · iexact Hs1
    isplitl [Hg]; · iexact Hg
    isplitl [Hk0]; · iexact Hk0
    isplitl [Hr0]; · iexact Hr0
    isplitl [HO]; · iexact HO
    isplitl [Hq6]; · iexact Hq6
    isplitl [Hat6]; · iexact Hat6
    isplitl [Hq14]; · iexact Hq14
    iexact Hat14
  iintro ⟨Hf1, Hg, Hs0, Hp0, Ho6, Ho14, HO⟩
  iapply (wpD_bind c _ _)
  iapply (part4 I κ c) $$ [Hf1 HO Hw2 Hs0 Hg Hr1]
  · isplitr; · iexact HC
    isplitr; · iexact HRo
    isplitr; · iexact HRn
    isplitr; · iexact HRp
    isplitl [Hf1]; · iexact Hf1
    isplitl [HO]; · iexact HO
    isplitl [Hw2]; · iexact Hw2
    isplitl [Hs0]; · iexact Hs0
    isplitl [Hg]; · iexact Hg
    iexact Hr1
  iintro ⟨Hv1, HO, Hf0, Hg, Hs1, Ha1, Hb1, Hp1⟩
  iapply (wpD_bind c _ _)
  iapply (part5 I κ c) $$ [HO Ha1 Hq7 Hat7 Hb1 Hq15 Hat15 Hf0 Hw3 Hs1 Hg]
  · isplitr; · iexact HC
    isplitr; · iexact HRo
    isplitr; · iexact HRn
    isplitr; · iexact HRp
    isplitl [HO]; · iexact HO
    isplitl [Ha1]; · iexact Ha1
    isplitl [Hq7]; · iexact Hq7
    isplitl [Hat7]; · iexact Hat7
    isplitl [Hb1]; · iexact Hb1
    isplitl [Hq15]; · iexact Hq15
    isplitl [Hat15]; · iexact Hat15
    isplitl [Hf0]; · iexact Hf0
    isplitl [Hw3]; · iexact Hw3
    isplitl [Hs1]; · iexact Hs1
    iexact Hg
  iintro ⟨Ho7, Ho15, Hv2, HO, Hf1, Hg, Hs0⟩
  iapply (wpD_bind c _ _)
  iapply (part6 I κ c) $$ [Hr2 HO Hq8 Hat8 Hq16 Hat16 Hf1]
  · isplitr; · iexact HC
    isplitr; · iexact HRo
    isplitr; · iexact HRn
    isplitr; · iexact HRp
    isplitl [Hr2]; · iexact Hr2
    isplitl [HO]; · iexact HO
    isplitl [Hq8]; · iexact Hq8
    isplitl [Hat8]; · iexact Hat8
    isplitl [Hq16]; · iexact Hq16
    isplitl [Hat16]; · iexact Hat16
    iexact Hf1
  iintro ⟨Hp2, Ho8, Ho16, Hk1, Hv3, HO⟩
  iapply (wpD_bind c _ _)
  iapply (part7 I κ c) $$ [Hw4 Hs0 Hg Hk1 Hr3 HO Hq9 Hat9 Hq17 Hat17]
  · isplitr; · iexact HC
    isplitr; · iexact HRo
    isplitr; · iexact HRn
    isplitr; · iexact HRp
    isplitl [Hw4]; · iexact Hw4
    isplitl [Hs0]; · iexact Hs0
    isplitl [Hg]; · iexact Hg
    isplitl [Hk1]; · iexact Hk1
    isplitl [Hr3]; · iexact Hr3
    isplitl [HO]; · iexact HO
    isplitl [Hq9]; · iexact Hq9
    isplitl [Hat9]; · iexact Hat9
    isplitl [Hq17]; · iexact Hq17
    iexact Hat17
  iintro ⟨Hf0, Hg, Hs1, Hp3, Ho9, Ho17, HO⟩
  iapply (wpD_bind c _ _)
  iapply (part8 I κ c) $$ [Hf0 HO Hw5 Hs1 Hg Hr4]
  · isplitr; · iexact HC
    isplitr; · iexact HRo
    isplitr; · iexact HRn
    isplitr; · iexact HRp
    isplitl [Hf0]; · iexact Hf0
    isplitl [HO]; · iexact HO
    isplitl [Hw5]; · iexact Hw5
    isplitl [Hs1]; · iexact Hs1
    isplitl [Hg]; · iexact Hg
    iexact Hr4
  iintro ⟨Hv4, HO, Hf1, Hg, Hs0, Ha4, Hb4, Hp4⟩
  iapply (wpD_bind c _ _)
  iapply (part9 I κ c) $$ [HO Ha4 Hq10 Hat10 Hb4 Hq18 Hat18 Hf1 Hw6 Hs0 Hg]
  · isplitr; · iexact HC
    isplitr; · iexact HRo
    isplitr; · iexact HRn
    isplitr; · iexact HRp
    isplitl [HO]; · iexact HO
    isplitl [Ha4]; · iexact Ha4
    isplitl [Hq10]; · iexact Hq10
    isplitl [Hat10]; · iexact Hat10
    isplitl [Hb4]; · iexact Hb4
    isplitl [Hq18]; · iexact Hq18
    isplitl [Hat18]; · iexact Hat18
    isplitl [Hf1]; · iexact Hf1
    isplitl [Hw6]; · iexact Hw6
    isplitl [Hs0]; · iexact Hs0
    iexact Hg
  iintro ⟨Ho10, Ho18, Hv5, HO, Hf0, Hg, Hs1⟩
  iapply (wpD_bind c _ _)
  iapply (part10 I κ c) $$ [Hr5 HO Hq11 Hat11 Hq19 Hat19 Hf0]
  · isplitr; · iexact HC
    isplitr; · iexact HRo
    isplitr; · iexact HRn
    isplitr; · iexact HRp
    isplitl [Hr5]; · iexact Hr5
    isplitl [HO]; · iexact HO
    isplitl [Hq11]; · iexact Hq11
    isplitl [Hat11]; · iexact Hat11
    isplitl [Hq19]; · iexact Hq19
    isplitl [Hat19]; · iexact Hat19
    iexact Hf0
  iintro ⟨Hp5, Ho11, Ho19, Hk0, Hv6, HO⟩
  iapply (wpD_bind c _ _)
  iapply (part11 I κ c) $$ [Hw7 Hs1 Hg Hk0 Hr6 HO Hq12 Hat12 Hq20 Hat20]
  · isplitr; · iexact HC
    isplitr; · iexact HRo
    isplitr; · iexact HRn
    isplitr; · iexact HRp
    isplitl [Hw7]; · iexact Hw7
    isplitl [Hs1]; · iexact Hs1
    isplitl [Hg]; · iexact Hg
    isplitl [Hk0]; · iexact Hk0
    isplitl [Hr6]; · iexact Hr6
    isplitl [HO]; · iexact HO
    isplitl [Hq12]; · iexact Hq12
    isplitl [Hat12]; · iexact Hat12
    isplitl [Hq20]; · iexact Hq20
    iexact Hat20
  iintro ⟨Hf1, Hg, Hs0, Hp6, Ho12, Ho20, HO⟩
  iapply (wpD_bind c _ _)
  iapply (part12 I κ c) $$ [Hf1 HO Hg Hr7 Hq13 Hat13]
  · isplitr; · iexact HC
    isplitr; · iexact HRo
    isplitr; · iexact HRn
    isplitr; · iexact HRp
    isplitl [Hf1]; · iexact Hf1
    isplitl [HO]; · iexact HO
    isplitl [Hg]; · iexact Hg
    isplitl [Hr7]; · iexact Hr7
    isplitl [Hq13]; · iexact Hq13
    iexact Hat13
  iintro ⟨Hv7, Hg, Hs1, Hb7, Hp7, Ho13, HO⟩
  ihave Hown := (y_eight c 0 fullShare.right.right (G I c)) $$ [Hp0 Hp1 Hp2 Hp3 Hp4 Hp5 Hp6 Hp7]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  iapply (wpD_bind c _ _)
  iapply (part13 I κ c) $$ [Hb7 Hq21 Hat21 HO Hu Hown Hoo Ho22 Ho23]
  · isplitr; · iexact HC
    isplitr; · iexact HRo
    isplitr; · iexact HRn
    isplitr; · iexact HRp
    isplitl [Hb7]; · iexact Hb7
    isplitl [Hq21]; · iexact Hq21
    isplitl [Hat21]; · iexact Hat21
    isplitl [HO]; · iexact HO
    isplitl [Hu]; · iexact Hu
    isplitl [Hown]; · iexact Hown
    isplitl [Hoo]; · iexact Hoo
    isplitl [Ho22]; · iexact Ho22
    iexact Ho23
  iintro ⟨Ho21, Hu, Hown, Hoo, Hd22, Hd23, HO⟩
  iapply (wpD_bind c _ _)
  iapply (part14 I κ c) $$ [Ho24 HO Ho25 Ho26 Ho27]
  · isplitr; · iexact HC
    isplitr; · iexact HRo
    isplitr; · iexact HRn
    isplitr; · iexact HRp
    isplitl [Ho24]; · iexact Ho24
    isplitl [HO]; · iexact HO
    isplitl [Ho25]; · iexact Ho25
    isplitl [Ho26]; · iexact Ho26
    iexact Ho27
  iintro ⟨Hd24, Hd25, Hd26, Hd27, HO⟩
  iapply (wpD_bind c _ _)
  iapply (part15 I κ c) $$ [Ho28 HO Ho29 Hd22 Hd23 Hd24 Hd25 Hd26 Hd27 Hq38 Hat38 Hu Hoo]
  · isplitr; · iexact HC
    isplitr; · iexact HRo
    isplitr; · iexact HRn
    isplitr; · iexact HRp
    isplitl [Ho28]; · iexact Ho28
    isplitl [HO]; · iexact HO
    isplitl [Ho29]; · iexact Ho29
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hq38]; · iexact Hq38
    isplitl [Hat38]; · iexact Hat38
    isplitl [Hu]; · iexact Hu
    iexact Hoo
  iintro ⟨He22, HLr, HLk, Ho38, HO, Hu, Hoo⟩
  iapply (wpD_bind c _ _)
  iapply (part16 I κ c) $$ [Ho30 HO Ho31 Ho32 Ho33]
  · isplitr; · iexact HC
    isplitr; · iexact HRo
    isplitr; · iexact HRn
    isplitr; · iexact HRp
    isplitl [Ho30]; · iexact Ho30
    isplitl [HO]; · iexact HO
    isplitl [Ho31]; · iexact Ho31
    isplitl [Ho32]; · iexact Ho32
    iexact Ho33
  iintro ⟨Hd30, Hd31, Hd32, Hd33, HO⟩
  iapply (wpD_bind c _ _)
  iapply (part17 I κ c) $$ [Ho34 HO Ho35 Ho36 Ho37]
  · isplitr; · iexact HC
    isplitr; · iexact HRo
    isplitr; · iexact HRn
    isplitr; · iexact HRp
    isplitl [Ho34]; · iexact Ho34
    isplitl [HO]; · iexact HO
    isplitl [Ho35]; · iexact Ho35
    isplitl [Ho36]; · iexact Ho36
    iexact Ho37
  iintro ⟨Hd34, Hd35, Hd36, Hd37, HO⟩
  iapply (wpD_bind c _ _)
  iapply (part18 I κ c) $$ [Hd30 Hd31 Hd32 Hd33 Hd34 Hd35 Hd36 Hd37 HO Hq39 Hat39 Hu Hoo Ho40 Ho41]
  · isplitr; · iexact HC
    isplitr; · iexact HRo
    isplitr; · iexact HRn
    isplitr; · iexact HRp
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [HO]; · iexact HO
    isplitl [Hq39]; · iexact Hq39
    isplitl [Hat39]; · iexact Hat39
    isplitl [Hu]; · iexact Hu
    isplitl [Hoo]; · iexact Hoo
    isplitl [Ho40]; · iexact Ho40
    iexact Ho41
  iintro ⟨He30, HRr, HRk, Ho39, Hu, Hoo, Hd40, Hd41, HO⟩
  iapply (wpD_bind c _ _)
  iapply (part19 I κ c) $$ [Hd40 Hd41 Hu Hoo Ho6 HO Ho14 Ho7]
  · isplitr; · iexact HC
    isplitr; · iexact HRo
    isplitr; · iexact HRn
    isplitr; · iexact HRp
    isplitl [Hd40]; · iexact Hd40
    isplitl [Hd41]; · iexact Hd41
    isplitl [Hu]; · iexact Hu
    isplitl [Hoo]; · iexact Hoo
    isplitl [Ho6]; · iexact Ho6
    isplitl [HO]; · iexact HO
    isplitl [Ho14]; · iexact Ho14
    iexact Ho7
  iintro ⟨He40, HD, Hu, Hoo, Hd6, Hd14, Hd7, HO⟩
  iapply (wpD_bind c _ _)
  iapply (part20 I κ c) $$ [Ho15 HO Ho8 Ho16 Ho9 Ho17]
  · isplitr; · iexact HC
    isplitr; · iexact HRo
    isplitr; · iexact HRn
    isplitr; · iexact HRp
    isplitl [Ho15]; · iexact Ho15
    isplitl [HO]; · iexact HO
    isplitl [Ho8]; · iexact Ho8
    isplitl [Ho16]; · iexact Ho16
    isplitl [Ho9]; · iexact Ho9
    iexact Ho17
  iintro ⟨Hd15, Hd8, Hd16, Hd9, Hd17, HO⟩
  iapply (wpD_bind c _ _)
  iapply (part21 I κ c) $$ [Ho10 HO Ho18 Ho11 Ho19 Ho12]
  · isplitr; · iexact HC
    isplitr; · iexact HRo
    isplitr; · iexact HRn
    isplitr; · iexact HRp
    isplitl [Ho10]; · iexact Ho10
    isplitl [HO]; · iexact HO
    isplitl [Ho18]; · iexact Ho18
    isplitl [Ho11]; · iexact Ho11
    isplitl [Ho19]; · iexact Ho19
    iexact Ho12
  iintro ⟨Hd10, Hd18, Hd11, Hd19, Hd12, HO⟩
  simp only [Prog.lift, Prog.bind_op, Prog.bind_ret, Prog.pure_eq_ret, Prog.bind_assoc]
  ihave Hz := Out_open $$ Ho20; icases Hz with ⟨Hoa, Hob⟩
  iapply (op_ywait I κ c (dq 20) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd20 : Don I c (dq 20) $$ [Hda Hdb]
  · unfold Don; isplitl [Hda] <;> iassumption
  ihave Hz := Out_open $$ Ho13; icases Hz with ⟨Hoa, Hob⟩
  iapply (op_ywait I κ c (dq 13) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd13 : Don I c (dq 13) $$ [Hda Hdb]
  · unfold Don; isplitl [Hda] <;> iassumption
  ihave Hz := Out_open $$ Ho21; icases Hz with ⟨Hoa, Hob⟩
  iapply (op_ywait I κ c (dq 21) (by decide) N64 (amount_64 I _ _ _ _ (by decide) (by decide)) ([]) (fun p hp => absurd hp List.not_mem_nil) (yS_credit64 _ _)) $$ [Hoa HO Hob]
  · isplitr; · iexact HC
    isplitl [Hoa]; · iexact Hoa
    isplitl [HO]; · iexact HO
    iexact Hob
  iintro ⟨HO, Hda, Hdb⟩
  ihave Hd21 : Don I c (dq 21) $$ [Hda Hdb]
  · unfold Don; isplitl [Hda] <;> iassumption
  ihave Hz := Out_open $$ Ho38; icases Hz with ⟨Hoa, Hob⟩
  iapply (op_ywait I κ c (dq 38) (by decide) N256 (amount_256 I _ _ _ _ (by decide)) ([]) (fun p hp => absurd hp List.not_mem_nil) (yS_credit256 _ _)) $$ [Hoa HO Hob]
  · isplitr; · iexact HC
    isplitl [Hoa]; · iexact Hoa
    isplitl [HO]; · iexact HO
    iexact Hob
  iintro ⟨HO, Hda, Hdb⟩
  ihave Hd38 : Don I c (dq 38) $$ [Hda Hdb]
  · unfold Don; isplitl [Hda] <;> iassumption
  ihave Hz := Out_open $$ Ho39; icases Hz with ⟨Hoa, Hob⟩
  iapply (op_ywait I κ c (dq 39) (by decide) N256 (amount_256 I _ _ _ _ (by decide)) ([]) (fun p hp => absurd hp List.not_mem_nil) (yS_credit256 _ _)) $$ [Hoa HO Hob]
  · isplitr; · iexact HC
    isplitl [Hoa]; · iexact Hoa
    isplitl [HO]; · iexact HO
    iexact Hob
  iintro ⟨HO, Hda, Hdb⟩
  ihave Hd39 : Don I c (dq 39) $$ [Hda Hdb]
  · unfold Don; isplitl [Hda] <;> iassumption
  ihave Hz := (own_left I c) $$ [Hd6 Hd7 Hd8 Hd9 Hd10 Hd11 Hd12 Hd13]
  · isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    iexact Hd13
  icases Hz with ⟨⟨Hx6, Hx7, Hx8, Hx9, Hx10, Hx11, Hx12, Hx13⟩, HoL⟩
  ihave Hz := (own_right I c) $$ [Hd14 Hd15 Hd16 Hd17 Hd18 Hd19 Hd20 Hd21]
  · isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    iexact Hd21
  icases Hz with ⟨⟨Hx14, Hx15, Hx16, Hx17, Hx18, Hx19, Hx20, Hx21⟩, HoR⟩
  icases He22 with ⟨Hx22, Hx23, Hx24, Hx25, Hx26, Hx27, Hx28, Hx29⟩
  icases He30 with ⟨Hx30, Hx31, Hx32, Hx33, Hx34, Hx35, Hx36, Hx37⟩
  icases He40 with ⟨Hx40, Hx41⟩
  have h38 := Don_pts I c (dq 38) 512 256 fullShare.left rfl rfl rfl
  ihave Hz := h38 $$ Hd38; icases Hz with ⟨Hx38, Hl38⟩
  have h39 := Don_pts I c (dq 39) 1280 256 fullShare.left rfl rfl rfl
  ihave Hz := h39 $$ Hd39; icases Hz with ⟨Hx39, Hl39⟩
  ihave Hyy := (y_all I c) $$ [HoL HoR Hown Hl38 HLk HLr HRk Hl39 HRr HD]
  · isplitl [HoL]; · iexact HoL
    isplitl [HoR]; · iexact HoR
    isplitl [Hown]; · iexact Hown
    isplitl [Hl38]; · iexact Hl38
    isplitl [HLk]; · iexact HLk
    isplitl [HLr]; · iexact HLr
    isplitl [HRk]; · iexact HRk
    isplitl [Hl39]; · iexact Hl39
    isplitl [HRr]; · iexact HRr
    iexact HD
  iapply (wpD_ret c _)
  iapply Hfin
  unfold Last Mem1 Fin1
  isplitl [HO]; · iexact HO
  isplitl [Hbat]; · iexact Hbat
  isplitl [Hx Hd Hu Hoo Hbb Hg Hs0 Hs1 Hyy Hv0 Hv1 Hv2 Hv3 Hv4 Hv5 Hv6 Hv7]
  · isplitl [Hx]; · iexact Hx
    isplitl [Hd]; · iexact Hd
    isplitl [Hu]; · iexact Hu
    isplitl [Hoo]; · iexact Hoo
    isplitl [Hbb]; · iexact Hbb
    isplitl [Hg]; · iexact Hg
    isplitl [Hs0]; · iexact Hs0
    isplitl [Hs1]; · iexact Hs1
    isplitl [Hyy]; · iexact Hyy
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Hx16]; · iexact Hx16
  isplitl [Hx17]; · iexact Hx17
  isplitl [Hx18]; · iexact Hx18
  isplitl [Hx19]; · iexact Hx19
  isplitl [Hx20]; · iexact Hx20
  isplitl [Hx21]; · iexact Hx21
  isplitl [Hx22]; · iexact Hx22
  isplitl [Hx23]; · iexact Hx23
  isplitl [Hx24]; · iexact Hx24
  isplitl [Hx25]; · iexact Hx25
  isplitl [Hx26]; · iexact Hx26
  isplitl [Hx27]; · iexact Hx27
  isplitl [Hx28]; · iexact Hx28
  isplitl [Hx29]; · iexact Hx29
  isplitl [Hx30]; · iexact Hx30
  isplitl [Hx31]; · iexact Hx31
  isplitl [Hx32]; · iexact Hx32
  isplitl [Hx33]; · iexact Hx33
  isplitl [Hx34]; · iexact Hx34
  isplitl [Hx35]; · iexact Hx35
  isplitl [Hx36]; · iexact Hx36
  isplitl [Hx37]; · iexact Hx37
  isplitl [Hx38]; · iexact Hx38
  isplitl [Hx39]; · iexact Hx39
  isplitl [Hx40]; · iexact Hx40
  iexact Hx41

end Cert.KernelIdeal.Moe

end
-- ==== Proof.KI.Deal.lean ====
/- The launch: every cell's invariant, the tokens dealt to the devices that pay them, and the credit each device waits on. -/
module

public import proofs.«01_k».proof.Proof.KI.Body
public import Idealize.ShloMosaic.Lib.Pipeline.Regions
public import Idealize.ShloMosaic.Lib.Pipeline.RegionTalk

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

/-! ## The transfer semaphores, by expert -/

/-- Two for the weights; per expert its two sends and its two arrivals; two forwards and their arrivals. -/
abbrev Grp := Fin 2 ⊕ ((Fin 8 × Fin 4) ⊕ Fin 4)
def grp : Grp → Fin 38
  | .inl s => ⟨s.val, by have := s.isLt; omega⟩
  | .inr (.inl (e, j)) => ⟨2 + 8 * j.val + e.val, by have := e.isLt; have := j.isLt; omega⟩
  | .inr (.inr j) => ⟨34 + j.val, by have := j.isLt; omega⟩
theorem grp_bij : Function.Bijective grp := by decide +kernel

/-- The semaphore `8 k + e + 6`: the first send, the second send, the first arrival, the second arrival of expert `e`. -/
abbrev q6 (e : Fin 8) : DmaSem sig := ⟨6 + e.val, by have := e.isLt; show 6 + e.val < 42; omega⟩
abbrev q14 (e : Fin 8) : DmaSem sig := ⟨14 + e.val, by have := e.isLt; show 14 + e.val < 42; omega⟩
abbrev q22 (e : Fin 8) : DmaSem sig := ⟨22 + e.val, by have := e.isLt; show 22 + e.val < 42; omega⟩
abbrev q30 (e : Fin 8) : DmaSem sig := ⟨30 + e.val, by have := e.isLt; show 30 + e.val < 42; omega⟩
/-- The semaphore of the copies into the slot that expert `e` uses. -/
abbrev qw (e : Fin 8) : DmaSem sig := ⟨4 + e.val % 2, by have := e.isLt; show 4 + e.val % 2 < 42; omega⟩

omit [FloatOps F] in
theorem big4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
omit [FloatOps F] in
theorem big5 (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]; rfl
omit [FloatOps F] in
theorem big8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

omit [FloatOps F] in
/-- Something held of every transfer semaphore, sorted by expert. -/
theorem group (Φ : DmaSem sig → sProp 𝕄) : bigSep Finset.univ (fun k : Fin 38 => Φ (osm k))
    = iprop((Φ (dq 4) ∗ Φ (dq 5)) ∗ (bigSep Finset.univ fun e : Fin 8 => iprop(Φ (q6 e) ∗ Φ (q14 e) ∗ Φ (q22 e) ∗ Φ (q30 e)))
        ∗ (Φ (dq 38) ∗ Φ (dq 39) ∗ Φ (dq 40) ∗ Φ (dq 41))) := by
  rw [bigSep_univ_equiv (Equiv.ofBijective grp grp_bij), bigSep_univ_sum, bigSep_univ_sum, bigSep_univ_prod, big4, BI.bigSep_fin_two]
  have h : ∀ e : Fin 8, bigSep Finset.univ (fun j : Fin 4 => Φ (osm (Equiv.ofBijective grp grp_bij (.inr (.inl (e, j))))))
      = iprop(Φ (q6 e) ∗ Φ (q14 e) ∗ Φ (q22 e) ∗ Φ (q30 e)) := fun e => by
    rw [big4]
    rw [show osm (Equiv.ofBijective grp grp_bij (.inr (.inl (e, 0)))) = q6 e from Fin.ext (by show 4 + (2 + 8 * 0 + e.val) = 6 + e.val; omega),
      show osm (Equiv.ofBijective grp grp_bij (.inr (.inl (e, 1)))) = q14 e from Fin.ext (by show 4 + (2 + 8 * 1 + e.val) = 14 + e.val; omega),
      show osm (Equiv.ofBijective grp grp_bij (.inr (.inl (e, 2)))) = q22 e from Fin.ext (by show 4 + (2 + 8 * 2 + e.val) = 22 + e.val; omega),
      show osm (Equiv.ofBijective grp grp_bij (.inr (.inl (e, 3)))) = q30 e from Fin.ext (by show 4 + (2 + 8 * 3 + e.val) = 30 + e.val; omega)]
  rw [bigSep_congr fun e _ => h e]
  rfl

/-! ## The cells -/

def bEmb : Dev nD ↪ GSem nD τ sig := ⟨fun c => bcell c, fun _ _ h => congrArg (fun g : GSem nD τ sig => g.1.1) h⟩
def dEmb : Dev nD × Fin 38 ↪ GSem nD τ sig :=
  ⟨fun ck => dcell ck.1 (osm ck.2), fun a b h => Prod.ext (congrArg (fun g : GSem nD τ sig => g.1.1) h)
    (osm_inj (by have := congrArg Prod.snd h; exact (SemLoc.dma.injEq _ _).mp this))⟩
theorem gc_inj : Function.Injective gc := by
  rintro ⟨c, k⟩ ⟨c', k'⟩ h
  cases k <;> cases k'
  · exact Prod.ext (congrArg (fun g : GSem nD τ sig => g.1.1) h) rfl
  · exact absurd (congrArg Prod.snd h) nofun
  · exact absurd (congrArg Prod.snd h) nofun
  · exact Prod.ext (congrArg (fun g : GSem nD τ sig => g.1.1) h) (congrArg some (osm_inj (by have := congrArg Prod.snd h; exact (SemLoc.dma.injEq _ _).mp this)))
def gEmb : Dev nD × Option (Fin 38) ↪ GSem nD τ sig := ⟨gc, gc_inj⟩

/-- The barrier's cells, funded from their counters; the transfer cells, funded before their counters are at hand. -/
abbrev bCells : Finset (GSem nD τ sig) := Finset.univ.map bEmb
abbrev dCells : Finset (GSem nD τ sig) := Finset.univ.map dEmb
theorem cells_disjoint : Disjoint (bCells : Finset (GSem nD τ sig)) dCells := by
  rw [Finset.disjoint_left]
  rintro g h₁ h₂
  obtain ⟨c, -, rfl⟩ := Finset.mem_map.mp h₁
  obtain ⟨ck, -, h⟩ := Finset.mem_map.mp h₂
  have := congrArg Prod.snd h
  cases this
theorem cells_all : (bCells ∪ dCells : Finset (GSem nD τ sig)) = Finset.univ.map gEmb := by
  ext g
  rw [Finset.mem_union]
  constructor
  · rintro (h | h)
    · obtain ⟨c, -, rfl⟩ := Finset.mem_map.mp h
      exact Finset.mem_map.mpr ⟨(c, none), Finset.mem_univ _, rfl⟩
    · obtain ⟨ck, -, rfl⟩ := Finset.mem_map.mp h
      exact Finset.mem_map.mpr ⟨(ck.1, some ck.2), Finset.mem_univ _, rfl⟩
  · intro h
    obtain ⟨⟨c, k⟩, -, rfl⟩ := Finset.mem_map.mp h
    cases k with
    | none => exact .inl (Finset.mem_map.mpr ⟨c, Finset.mem_univ _, rfl⟩)
    | some k => exact .inr (Finset.mem_map.mpr ⟨(c, k), Finset.mem_univ _, rfl⟩)

/-! ## The tokens -/

/-- A device's tokens: per expert the copy of its weights, its two sends and two arrivals; the forwards; the barrier. -/
abbrev Tix := (Fin 8 × Fin 5) ⊕ (Fin 4 ⊕ Bool)
def tok : Tix → SemLoc sig × ℕ × Bool
  | .inl (e, j) => match j with
    | 0 => (.dma (qw e), e.val / 2, false)
    | 1 => (.dma (q6 e), 0, false)
    | 2 => (.dma (q22 e), 0, false)
    | 3 => (.dma (q14 e), 0, false)
    | 4 => (.dma (q30 e), 0, false)
  | .inr (.inl j) => (.dma ⟨38 + j.val, by have := j.isLt; show 38 + j.val < 42; omega⟩, 0, false)
  | .inr (.inr b) => (.reg barrier0, 0, b)
theorem tok_inj : Function.Injective tok := by decide +kernel
/-- Which device's token the payer holds, as a shift round the ring. -/
def shift : Tix → (Dev nD ≃ Dev nD)
  | .inl (_, j) => match j with
    | 0 => Equiv.refl _ | 1 => Equiv.refl _ | 2 => ring | 3 => Equiv.refl _ | 4 => ring.symm
  | .inr (.inl j) => match j with
    | 0 => Equiv.refl _ | 1 => Equiv.refl _ | 2 => ring | 3 => ring.symm
  | .inr (.inr b) => if b then ring.symm else ring
/-- All the shifts at once. -/
def dealt : Dev nD × Tix ≃ Dev nD × Tix where
  toFun p := (shift p.2 p.1, p.2)
  invFun p := ((shift p.2).symm p.1, p.2)
  left_inv p := Prod.ext ((shift p.2).symm_apply_apply p.1) rfl
  right_inv p := Prod.ext ((shift p.2).apply_symm_apply p.1) rfl
abbrev tokAt (p : Dev nD × Tix) : GSem nD τ sig × ℕ × Bool := (((p.1 : Thread nD τ), (tok p.2).1), (tok p.2).2.1, (tok p.2).2.2)
def tEmb : Dev nD × Tix ↪ GSem nD τ sig × ℕ × Bool :=
  ⟨tokAt, fun a b h => Prod.ext (congrArg (fun t : GSem nD τ sig × ℕ × Bool => t.1.1.1) h)
    (tok_inj (Prod.ext (congrArg (fun t : GSem nD τ sig × ℕ × Bool => t.1.2) h) (congrArg (fun t : GSem nD τ sig × ℕ × Bool => t.2) h)))⟩
def allToks : Finset (GSem nD τ sig × ℕ × Bool) := Finset.univ.map tEmb

/-- The tokens of the barrier signals, of expert `e` and of the forwards that device `c` pays with. -/
def TokB (c : Dev nD) : sProp 𝕄 := iprop(dutyTok ER (bcell (nxt c)) 0 false ∗ dutyTok ER (bcell (prv c)) 0 true)
def TokE (c : Dev nD) (e : Fin 8) : sProp 𝕄 :=
  iprop(dutyTok ER (dcell c (qw e)) (e.val / 2) false ∗ Tk (F := F) c (nxt c) (q6 e) (q22 e) ∗ Tk (F := F) c (prv c) (q14 e) (q30 e))
def TokF (c : Dev nD) : sProp 𝕄 := iprop(Tk (F := F) c (nxt c) (dq 38) (dq 40) ∗ Tk (F := F) c (prv c) (dq 39) (dq 41))

omit [FloatOps F] in
theorem toks_of (c : Dev nD) :
    bigSep Finset.univ (fun j : Tix => (dutyTok ER (tokAt (shift j c, j)).1 (tokAt (shift j c, j)).2.1 (tokAt (shift j c, j)).2.2 : sProp 𝕄))
      ⊢ iprop((bigSep Finset.univ fun e : Fin 8 => TokE (F := F) c e) ∗ TokF (F := F) c ∗ TokB (F := F) c) := by
  rw [bigSep_univ_sum, bigSep_univ_sum, bigSep_univ_prod, big4, bigSep_univ_eq_bigSepL [false, true] (by decide) (by decide), bigSepL_cons_cons, bigSepL_singleton]
  have hE : ∀ e : Fin 8, bigSep Finset.univ (fun j : Fin 5 => (dutyTok ER (tokAt (shift (.inl (e, j)) c, .inl (e, j))).1 (tokAt (shift (.inl (e, j)) c, .inl (e, j))).2.1 (tokAt (shift (.inl (e, j)) c, .inl (e, j))).2.2 : sProp 𝕄))
      ⊢ TokE (F := F) c e := fun e => by
    rw [big5]; unfold TokE Tk
    iintro ⟨H0, H1, H2, H3, H4⟩
    isplitl [H0]; · iexact H0
    isplitl [H1 H2]
    · isplitl [H1]; · iexact H1
      iexact H2
    isplitl [H3]; · iexact H3
    iexact H4
  have hF : (iprop(dutyTok ER (dcell c (dq 38)) 0 false ∗ dutyTok ER (dcell c (dq 39)) 0 false ∗ dutyTok ER (dcell (nxt c) (dq 40)) 0 false ∗ dutyTok ER (dcell (prv c) (dq 41)) 0 false) : sProp 𝕄)
      ⊢ TokF (F := F) c := by
    unfold TokF Tk
    iintro ⟨H0, H1, H2, H3⟩
    isplitl [H0 H2]
    · isplitl [H0]; · iexact H0
      iexact H2
    isplitl [H1]; · iexact H1
    iexact H3
  exact BIClass.sep_mono (bigSep_mono fun e _ => hE e) (BIClass.sep_mono hF (Entails.of_eq rfl))

omit [FloatOps F] in
/-- The tokens as minted, dealt to the devices that pay with them. -/
theorem deal : bigSep allToks (fun x => (dutyTok ER x.1 x.2.1 x.2.2 : sProp 𝕄))
    ⊢ bigSep Finset.univ fun c : Dev nD => iprop((bigSep Finset.univ fun e : Fin 8 => TokE (F := F) c e) ∗ TokF (F := F) c ∗ TokB (F := F) c) := by
  unfold allToks
  rw [bigSep_map, bigSep_univ_equiv dealt, bigSep_univ_prod]
  exact bigSep_mono fun c _ => toks_of c

/-! ## The credit -/

/-- What a device owes at the region's entry. -/
def O₀ (c : Dev nD) : CellTallies nD τ sig Unit := OL c pAll
/-- What the payments of a list bring to a semaphore. -/
def crd (l : List Pay) (s : SemLoc sig) : ℕ := ((l.filter fun p => p.2.1 = s).map fun p => p.2.2).sum

theorem tgt_back (c d : Dev nD) (b : Bool) : tgt d b = c ↔ d = tgt c (!b) := by
  cases b
  · show prv d = c ↔ d = nxt c
    exact ⟨fun h => by rw [← h, nxt_prv], fun h => by rw [h, prv_nxt]⟩
  · show nxt d = c ↔ d = prv c
    exact ⟨fun h => by rw [← h, prv_nxt], fun h => by rw [h, nxt_prv]⟩

theorem owe_sum (c : Dev nD) (s : SemLoc sig) (l : List Pay) : (∑ d : Dev nD, OL d l ((c : Thread nD τ), s) ()) = crd l s := by
  induction l with
  | nil => exact Finset.sum_const_zero
  | cons p l ih =>
    have h : ∀ d : Dev nD, OL d (p :: l) ((c : Thread nD τ), s) ()
        = OL d l ((c : Thread nD τ), s) () + if d = tgt c (!p.1) then (if p.2.1 = s then p.2.2 else 0) else 0 := fun d => by
      rw [OL_cons, Pi.add_apply, Finsupp.add_apply, tallyAt_apply]
      congr 1
      by_cases hs : p.2.1 = s
      · rw [if_pos hs]
        by_cases hd : d = tgt c (!p.1)
        · rw [if_pos hd, if_pos]
          exact ⟨by rw [← hs, ← (tgt_back c d p.1).mpr hd], rfl⟩
        · rw [if_neg hd, if_neg]
          rintro ⟨h, -⟩
          exact hd ((tgt_back c d p.1).mp (congrArg (fun g : GSem nD τ sig => g.1.1) h).symm)
      · rw [if_neg hs, ite_self, if_neg]
        rintro ⟨h, -⟩
        exact hs (congrArg Prod.snd h).symm
    rw [Finset.sum_congr rfl fun d _ => h d, Finset.sum_add_distrib, ih, Finset.sum_ite_eq' Finset.univ (tgt c (!p.1)) fun _ => _, if_pos (Finset.mem_univ _)]
    unfold crd
    by_cases hs : p.2.1 = s
    · rw [if_pos hs, List.filter_cons_of_pos (by simpa using hs), List.map_cons, List.sum_cons, Nat.add_comm]
    · rw [if_neg hs, List.filter_cons_of_neg (by simpa using hs), Nat.add_zero]

theorem launch_at (c : Dev nD) (s : SemLoc sig) :
    tallyOn ((c : Thread nD τ), s) (launchCredit (Pipeline.owing O₀) 0 ((c : Thread nD τ), s)) = (tallyAt ((c : Thread nD τ), s) () (crd pAll s) : CellTallies nD τ sig Unit) := by
  unfold tallyAt; refine congrArg _ (Finsupp.ext fun u => ?_); cases u
  rw [Pipeline.launchCredit_owing, Finsupp.single_eq_same]
  exact owe_sum c s pAll

theorem crd_bar : crd pAll (.reg barrier0) = 2 := by decide +kernel
theorem crd_22 : ∀ e : Fin 8, crd pAll (.dma (q22 e)) = N64 := by
  intro e; fin_cases e <;> exact Nat.add_zero _
theorem crd_30 : ∀ e : Fin 8, crd pAll (.dma (q30 e)) = N64 := by
  intro e; fin_cases e <;> exact Nat.add_zero _
theorem crd_40 : crd pAll (.dma (dq 40)) = N256 := Nat.add_zero _
theorem crd_41 : crd pAll (.dma (dq 41)) = N256 := Nat.add_zero _

/-- The credit a device waits on: the barrier's two signals, the sixteen chunks and the two forwards that arrive. -/
def Creds (c : Dev nD) : sProp 𝕄 :=
  iprop(cred (tallyAt (bcell c) () 2) ∗ (bigSep Finset.univ fun e : Fin 8 => iprop(cred (tallyAt (dcell c (q22 e)) () N64) ∗ cred (tallyAt (dcell c (q30 e)) () N64)))
    ∗ cred (tallyAt (dcell c (dq 40)) () N256) ∗ cred (tallyAt (dcell c (dq 41)) () N256))

def dmaEmb : Fin 38 ↪ SemLoc sig := ⟨fun k => .dma (osm k), fun a b h => osm_inj ((SemLoc.dma.injEq _ _).mp h)⟩

theorem creds_of (c : Dev nD) : (Pipeline.launchCred O₀ c : sProp 𝕄) ⊢ Creds (F := F) c := by
  have hsub : (Finset.univ.map dmaEmb : Finset (SemLoc sig)) ⊆ Finset.univ.erase (.reg barrier0) := fun s hs => by
    obtain ⟨k, -, rfl⟩ := Finset.mem_map.mp hs
    exact Finset.mem_erase.mpr ⟨nofun, Finset.mem_univ _⟩
  have hd : bigSep (Finset.univ.erase (SemLoc.reg barrier0 : SemLoc sig)) (fun s => (cred (tallyOn ((c : Thread nD τ), s) (launchCredit (Pipeline.owing O₀) 0 ((c : Thread nD τ), s))) : sProp 𝕄))
      ⊢ bigSep Finset.univ (fun k : Fin 38 => (cred (tallyAt (dcell c (osm k)) () (crd pAll (.dma (osm k)))) : sProp 𝕄)) := by
    refine (bigSep_subset hsub).trans ?_
    rw [BI.bigSep_map]
    exact bigSep_mono fun k _ => Entails.of_eq (congrArg cred (launch_at c _))
  unfold Pipeline.launchCred
  rw [bigSep_univ_at _ (SemLoc.reg barrier0), launch_at, crd_bar]
  iintro ⟨Hb, Hd⟩
  ihave Hd := hd $$ Hd
  ihave Hd := (Entails.of_eq (group (fun q => (cred (tallyAt (dcell c q) () (crd pAll (.dma q))) : sProp 𝕄)))) $$ Hd
  icases Hd with ⟨-, He, -, -, H40, H41⟩
  unfold Creds
  isplitl [Hb]; · iexact Hb
  isplitl [He]
  · have he : ∀ e : Fin 8, iprop(cred (tallyAt (dcell c (q6 e)) () (crd pAll (.dma (q6 e)))) ∗ cred (tallyAt (dcell c (q14 e)) () (crd pAll (.dma (q14 e))))
        ∗ cred (tallyAt (dcell c (q22 e)) () (crd pAll (.dma (q22 e)))) ∗ cred (tallyAt (dcell c (q30 e)) () (crd pAll (.dma (q30 e)))))
        ⊢ (iprop(cred (tallyAt (dcell c (q22 e)) () N64) ∗ cred (tallyAt (dcell c (q30 e)) () N64)) : sProp 𝕄) := fun e => by
      rw [crd_22, crd_30]
      iintro ⟨-, -, H1, H2⟩
      isplitl [H1] <;> iassumption
    have hm := bigSep_mono (s := Finset.univ) fun e (_ : e ∈ Finset.univ) => he e
    ihave He := (show _ ⊢ _ from hm) $$ He
    iexact He
  isplitl [H40]
  · rw [← crd_40]; iexact H40
  rw [← crd_41]; iexact H41

end Cert.KernelIdeal.Moe

end
-- ==== Proof.KI.Open.lean ====
/- The region's entry and exit: its cells opened and closed, its buffers taken apart and put together again. -/
module

public import proofs.«01_k».proof.Proof.KI.Deal

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]
local notation "𝕄" => MT nD τ sig Unit (Elt F) ℕ UU ℕ

variable (I : Ins F) (κ : GSem nD τ sig → ℕ)

/-! ## Opening the cells -/

/-- The region's own semaphores. -/
abbrev osem0 (k : Fin 38) : SemLoc sig := .dma (osm k)

/-- What a device holds from the launch to the region: the invariants, its place at the barrier, the rights to open its
    transfer cells, the tokens it pays with and the credit it waits on. -/
def Start (c : Dev nD) : sProp 𝕄 :=
  iprop(((bigSep Finset.univ fun p : Dev nD × Option (Fin 38) => cellInv ER (moeRd I) (κ (gc p)) (gc p)) ∗ bigSep Finset.univ fun d : Dev nD => reached ER (bcell d) 0)
    ∗ atPos ER (bcell c) 0 ∅ 0 ∗ (bigSep Finset.univ fun k : Fin 38 => openTok ER (dcell c (osm k)))
    ∗ ((bigSep Finset.univ fun e : Fin 8 => TokE (F := F) c e) ∗ TokF (F := F) c ∗ TokB (F := F) c) ∗ Creds (F := F) c)
def Kept (c : Dev nD) : sProp 𝕄 := iprop(∃ κ, Start I κ c)

/-- What the body needs for expert `e` besides its weights. -/
def RestE (c : Dev nD) (e : Fin 8) : sProp 𝕄 :=
  iprop(dutyTok ER (dcell c (qw e)) (e.val / 2) false ∗ Tk (F := F) c (nxt c) (q6 e) (q22 e) ∗ Tk (F := F) c (prv c) (q14 e) (q30 e)
    ∗ At0 (F := F) c (q6 e) ∗ At0 (F := F) c (q14 e) ∗ Out (F := F) c (q22 e) N64 ∗ Out (F := F) c (q30 e) N64)

/-- The same with its cells open. -/
def Opened (c : Dev nD) : sProp 𝕄 :=
  iprop(Ctx I κ ∗ Rch (F := F) c ∗ Bar0 (F := F) c ∗ (At0 (F := F) c (dq 4) ∗ At0 (F := F) c (dq 5)) ∗ Fwd0 (F := F) c ∗ bigSep Finset.univ fun e : Fin 8 => RestE (F := F) c e)
def Xk (c : Dev nD) : sProp 𝕄 := iprop(∃ κ, Opened I κ c)

omit [FloatOps F] in
theorem restE_of (c : Dev nD) (e : Fin 8) : iprop(TokE (F := F) c e ∗ (At0 (F := F) c (q6 e) ∗ At0 (F := F) c (q14 e) ∗ At0 (F := F) c (q22 e) ∗ At0 (F := F) c (q30 e))
    ∗ (cred (tallyAt (dcell c (q22 e)) () N64) ∗ cred (tallyAt (dcell c (q30 e)) () N64))) ⊢ RestE (F := F) c e := by
  unfold TokE RestE Out At0
  iintro ⟨⟨HW, H1, H2⟩, ⟨A1, A2, A3, A4⟩, C1, C2⟩
  isplitl [HW]; · iexact HW
  isplitl [H1]; · iexact H1
  isplitl [H2]; · iexact H2
  isplitl [A1]; · iexact A1
  isplitl [A2]; · iexact A2
  isplitl [C1 A3]
  · isplitl [C1]; · iexact C1
    iexact A3
  isplitl [C2]; · iexact C2
  iexact A4

theorem open_cells (c : Dev nD) : iprop(Kept I c ∗ Pipeline.ownSems0 osem0 c ∗ levAts L lv) ⊢ (|={Set.univ}=> Xk I c : sProp 𝕄) := by
  have hat (κ : GSem nD τ sig → ℕ) (k : Fin 38) : (bigSep Finset.univ fun p : Dev nD × Option (Fin 38) => (cellInv ER (moeRd I) (κ (gc p)) (gc p) : sProp 𝕄)) ⊢ cellInv ER (moeRd I) (κ (dcell c (osm k))) (dcell c (osm k)) :=
    bigSep_elim (Φ := fun p : Dev nD × Option (Fin 38) => (cellInv ER (moeRd I) (κ (gc p)) (gc p) : sProp 𝕄)) (Finset.mem_univ (c, some k))
  have hinv (κ : GSem nD τ sig → ℕ) : iprop((bigSep Finset.univ fun p : Dev nD × Option (Fin 38) => cellInv ER (moeRd I) (κ (gc p)) (gc p)) ∗ (bigSep Finset.univ fun k : Fin 38 => openTok ER (dcell c (osm k))))
      ⊢ (bigSep Finset.univ (fun k : Fin 38 => iprop(cellInv ER (moeRd I) (κ (dcell c (osm k))) (dcell c (osm k)) ∗ openTok ER (dcell c (osm k)))) : sProp 𝕄) :=
    bigSep_with_persistent (R := (bigSep Finset.univ fun p : Dev nD × Option (Fin 38) => (cellInv ER (moeRd I) (κ (gc p)) (gc p) : sProp 𝕄)))
      (Φ := fun k : Fin 38 => openTok ER (dcell c (osm k))) fun k _ => by
      iintro ⟨H, Ho⟩
      isplitl [H]
      · iapply (hat κ k); iexact H
      iexact Ho
  have hbar (d : Dev nD) : (bigSep Finset.univ fun d : Dev nD => (reached ER (bcell d) 0 : sProp 𝕄)) ⊢ reached ER (bcell d) 0 :=
    bigSep_elim (Φ := fun d : Dev nD => (reached ER (bcell d) 0 : sProp 𝕄)) (Finset.mem_univ d)
  have hunpair : (bigSep Finset.univ fun k : Fin 38 => iprop(atPos ER (dcell c (osm k)) 0 ∅ 0 ∗ reached ER (dcell c (osm k)) 0))
      ⊢ iprop((bigSep Finset.univ fun k : Fin 38 => At0 (F := F) c (osm k)) ∗ Rch (F := F) c) := by
    rw [bigSep_sep']; exact Entails.of_eq rfl
  have hE : iprop((bigSep Finset.univ fun e : Fin 8 => TokE (F := F) c e) ∗ (bigSep Finset.univ fun e : Fin 8 => iprop(At0 (F := F) c (q6 e) ∗ At0 (F := F) c (q14 e) ∗ At0 (F := F) c (q22 e) ∗ At0 (F := F) c (q30 e)))
      ∗ (bigSep Finset.univ fun e : Fin 8 => iprop(cred (tallyAt (dcell c (q22 e)) () N64) ∗ cred (tallyAt (dcell c (q30 e)) () N64))))
      ⊢ bigSep Finset.univ fun e : Fin 8 => RestE (F := F) c e := by
    rw [← bigSep_sep', ← bigSep_sep']
    exact bigSep_mono fun e _ => restE_of c e
  unfold Kept Start Xk Pipeline.ownSems0
  iintro ⟨⟨%κ, ⟨#HI, #HB⟩, Hat, Hop, ⟨HTE, HTF, HTB⟩, HC⟩, Hs, #HL⟩
  ihave Hio := (hinv κ) $$ [Hop]
  · isplitr; · iexact HI
    iexact Hop
  imod (Rounds.cells_open ER (moeRd I) Finset.univ (fun k : Fin 38 => dcell c (osm k)) (fun k => κ (dcell c (osm k))) (fun k _ => Set.mem_univ _)) $$ [Hio Hs] with Ho
  · isplitl [Hio]; · iexact Hio
    iexact Hs
  imodintro
  ihave Hz := hunpair $$ Ho; icases Hz with ⟨HA, #HR⟩
  ihave Hz := (Entails.of_eq (group (fun q => At0 (F := F) c q))) $$ HA
  icases Hz with ⟨HA45, HAE, H38, H39, H40, H41⟩
  unfold Creds
  icases HC with ⟨HC2, HCE, HC40, HC41⟩
  iexists κ
  unfold Opened
  isplitr
  · unfold Ctx
    isplitr; · iexact HI
    iexact HL
  isplitr; · iexact HR
  isplitl [HTB HC2 Hat]
  · unfold Bar0 TokB
    icases HTB with ⟨HT1, HT2⟩
    isplitl [HT2]; · iexact HT2
    isplitr; · iapply (hbar (prv c)); iexact HB
    isplitl [HT1]; · iexact HT1
    isplitr; · iapply (hbar (nxt c)); iexact HB
    isplitl [HC2]; · iexact HC2
    iexact Hat
  isplitl [HA45]; · iexact HA45
  isplitl [HTF H38 H39 H40 H41 HC40 HC41]
  · unfold Fwd0 TokF Out
    icases HTF with ⟨HF1, HF2⟩
    isplitl [HF1]; · iexact HF1
    isplitl [HF2]; · iexact HF2
    isplitl [H38]; · iexact H38
    isplitl [H39]; · iexact H39
    isplitl [H40 HC40]
    · isplitl [HC40]; · iexact HC40
      unfold At0; iexact H40
    isplitl [HC41]; · iexact HC41
    unfold At0; iexact H41
  iapply hE
  isplitl [HTE]; · iexact HTE
  isplitl [HAE]; · iexact HAE
  iexact HCE

/-! ## Closing them -/

omit [FloatOps F] in
theorem fin_at (c : Dev nD) (q : DmaSem sig) (h : 6 ≤ q.val) : Fin1 (F := F) c q ⊢ atPos ER (dcell c q) (nrounds (.dma q)) ∅ 0 := by
  rw [nrounds_y q h]; exact Entails.of_eq rfl

theorem close_cells (c : Dev nD) : iprop(Ctx I κ ∗ atPos ER (bcell c) 1 ∅ 0 ∗ bigSep Finset.univ fun k : Fin 38 => atPos ER (dcell c (osm k)) (nrounds (osem0 k)) ∅ 0)
    ⊢ (|={Set.univ}=> (Pipeline.ownSems0 osem0 c ∗ semVal (bcell c) 0) : sProp 𝕄) := by
  have hinv : iprop(Ctx I κ ∗ bigSep Finset.univ fun k : Fin 38 => atPos ER (dcell c (osm k)) (nrounds (osem0 k)) ∅ 0)
      ⊢ (bigSep Finset.univ (fun k : Fin 38 => iprop(cellInv ER (moeRd I) (κ (dcell c (osm k))) (dcell c (osm k)) ∗ atPos ER (dcell c (osm k)) (nrounds (osem0 k)) ∅ 0)) : sProp 𝕄) :=
    bigSep_with_persistent (R := Ctx I κ) (Φ := fun k : Fin 38 => atPos ER (dcell c (osm k)) (nrounds (osem0 k)) ∅ 0) fun k _ => by
      iintro ⟨H, Ho⟩
      isplitl [H]
      · iapply (ctx_inv I κ c (osm k) (Nat.le_add_right 4 k.val)); iexact H
      iexact Ho
  iintro ⟨#HC, Hb, Hk⟩
  ihave Hio := hinv $$ [Hk]
  · isplitr; · iexact HC
    iexact Hk
  imod (Rounds.cells_close ER (moeRd I) Finset.univ (fun k : Fin 38 => dcell c (osm k)) (fun k => κ (dcell c (osm k))) (fun k _ => Set.mem_univ _) (fun _ _ h => h)
    (fun k => nrounds (osem0 k)) (fun k _ r hr => duties_later I _ r hr)) $$ Hio with Hs
  imod (Rounds.cell_close ER (moeRd I) (g := bcell c) (Set.mem_univ (κ (bcell c))) (fun h => h) (fun r hr => duties_later I _ r hr)) $$ [Hb] with Hbv
  · isplitr; · iapply (ctx_bar I κ c); iexact HC
    iexact Hb
  imodintro
  isplitl [Hs]
  · unfold Pipeline.ownSems0; iexact Hs
  iexact Hbv

/-! ## The buffers -/

omit [FloatOps F] in
/-- The gathered buffer in the blocks that the protocol moves. -/
theorem y_blocks (c : Dev nD) (f : Vec F S2048x1024 .bf16) : stg c cc0_scratch0 f
    ⊢ (iprop(Blk (F := F) c 0 512 ∗ Blk (F := F) c 512 512 ∗ Blk (F := F) c 1024 512 ∗ Blk (F := F) c 1536 256 ∗ Blk (F := F) c 1792 256) : sProp 𝕄) := by
  have h : stg c cc0_scratch0 f ⊢ (yPts c (rows 0 2048) fullShare f : sProp 𝕄) := by rw [rows_univ]; exact Entails.of_eq rfl
  iintro H
  ihave H := h $$ H
  ihave Hz := (y_split c 0 512 1536 fullShare f) $$ H; icases Hz with ⟨H1, H⟩
  ihave Hz := (y_split c (0 + 512) 512 1024 fullShare f) $$ H; icases Hz with ⟨H2, H⟩
  ihave Hz := (y_split c (0 + 512 + 512) 512 512 fullShare f) $$ H; icases Hz with ⟨H3, H⟩
  ihave Hz := (y_split c (0 + 512 + 512 + 512) 256 256 fullShare f) $$ H; icases Hz with ⟨H4, H5⟩
  unfold Blk
  isplitl [H1]; · iexists f; iexact H1
  isplitl [H2]; · iexists f; iexact H2
  isplitl [H3]; · iexists f; iexact H3
  isplitl [H4]; · iexists f; iexact H4
  iexists f; iexact H5

theorem wslot_univ : (Finset.univ : Finset S2x1024x1024.Idx) = wslot 0 ∪ wslot 1 := by
  ext i; rw [Finset.mem_union, mem_wslot, mem_wslot]
  have h : (i 0).val < 2 := (i 0).isLt
  exact ⟨fun _ => by omega, fun _ => Finset.mem_univ _⟩
theorem wslot_disj : Disjoint (wslot 0) (wslot 1) := Finset.disjoint_left.mpr fun i hi hj => by rw [mem_wslot] at hi hj; omega

omit [FloatOps F] in
theorem k_slots (c : Dev nD) (f : Vec F S2x1024x1024 .f32) : stg c cc0_scratch3 f ⊢ (iprop(kPts c (wslot 0) fullShare f ∗ kPts c (wslot 1) fullShare f) : sProp 𝕄) := by
  have h : stg c cc0_scratch3 f ⊢ (kPts c (wslot 0 ∪ wslot 1) fullShare f : sProp 𝕄) := by rw [← wslot_univ]; exact Entails.of_eq rfl
  refine h.trans ?_
  unfold kPts
  exact (pointsTo_union wslot_disj).1
omit [FloatOps F] in
theorem k_join (c : Dev nD) (f g : Vec F S2x1024x1024 .f32) : iprop(kPts c (wslot 0) fullShare f ∗ kPts c (wslot 1) fullShare g) ⊢ (iprop(∃ h, stg c cc0_scratch3 h) : sProp 𝕄) := by
  have e (h : Vec F S2x1024x1024 .f32) : kPts c (wslot 0 ∪ wslot 1) fullShare h ⊢ (iprop(∃ h, stg c cc0_scratch3 h) : sProp 𝕄) := by
    rw [← wslot_univ]
    unfold kPts
    iintro H; iexists _; iexact H
  refine BI.Entails.trans ?_ (e ((wslot 1).piecewise g f))
  unfold kPts
  exact pointsTo_join wslot_disj

theorem wset_univ : (Finset.univ : Finset S8x1024x1024.Idx) = (Finset.univ : Finset (Fin 8)).biUnion fun e => wset e.val := by
  ext i; rw [Finset.mem_biUnion]
  exact ⟨fun _ => ⟨⟨(i 0).val, (i 0).isLt⟩, Finset.mem_univ _, mem_wset.mpr rfl⟩, fun _ => Finset.mem_univ _⟩
omit [FloatOps F] in
/-- The expert weights, expert by expert. -/
theorem w_sets (c : Dev nD) (f : Vec F S8x1024x1024 .f32) : (stg c main_arg3 f : sProp 𝕄) = bigSep Finset.univ fun e : Fin 8 => wPts c (wset e.val) fullShare f := by
  have e : (stg c main_arg3 f : sProp 𝕄) = wPts c ((Finset.univ : Finset (Fin 8)).biUnion fun e => wset e.val) fullShare f := by rw [← wset_univ]; rfl
  rw [e]
  unfold wPts
  exact pointsTo_biUnion _ _ fun a _ b _ hab => Finset.disjoint_left.mpr fun i hi hj => hab (Fin.ext (by rw [mem_wset] at hi hj; omega))

/-! ## The region -/

theorem per_of (c : Dev nD) (e : Fin 8) : iprop(wPts c (wset e.val) fullShare (I.w c) ∗ RestE (F := F) c e) ⊢ Per I c e := by
  unfold RestE Per Wt
  iintro ⟨Hw, Ht, H⟩
  isplitl [Hw Ht]
  · isplitl [Hw]; · iexact Hw
    iexact Ht
  iexact H

/-- The buffers at the region's entry. -/
def Bufs0 (c : Dev nD) : sProp 𝕄 :=
  iprop((stg c cc0_stg0_0 (I.x c) ∗ stg c cc0_stg1_0 (I.d c) ∗ stg c cc0_stg2_0 (I.u c) ∗ (∃ f, stg c cc0_stg3_0 f))
    ∗ ((∃ f, stg c cc0_scratch0 f) ∗ (∃ f, stg c cc0_scratch1 f) ∗ (∃ f, stg c cc0_scratch2 f) ∗ (∃ f, stg c cc0_scratch3 f)) ∗ stg c main_arg3 (I.w c))
/-- And at its exit. -/
def Bufs1 (c : Dev nD) : sProp 𝕄 :=
  iprop((stg c cc0_stg0_0 (I.x c) ∗ stg c cc0_stg1_0 (I.d c) ∗ stg c cc0_stg2_0 (I.u c) ∗ stg c cc0_stg3_0 (o3 I c))
    ∗ ((∃ f, stg c cc0_scratch0 f) ∗ (∃ f, stg c cc0_scratch1 f) ∗ (∃ f, stg c cc0_scratch2 f) ∗ (∃ f, stg c cc0_scratch3 f)) ∗ stg c main_arg3 (I.w c))

theorem init_of (c : Dev nD) : iprop(Opened I κ c ∗ Ow (F := F) c pAll ∗ Bufs0 I c) ⊢ Init I κ c := by
  have hp : iprop(stg c main_arg3 (I.w c) ∗ (bigSep Finset.univ fun e : Fin 8 => RestE (F := F) c e))
      ⊢ iprop(Per I c 0 ∗ Per I c 1 ∗ Per I c 2 ∗ Per I c 3 ∗ Per I c 4 ∗ Per I c 5 ∗ Per I c 6 ∗ Per I c 7) := by
    rw [w_sets, ← bigSep_sep', ← big8]
    exact bigSep_mono fun e _ => per_of I c e
  have r4 := rch_at (F := F) c (dq 4) (show 4 ≤ 4 by decide)
  have r5 := rch_at (F := F) c (dq 5) (show 4 ≤ 5 by decide)
  unfold Opened Bufs0 Init Mem0
  iintro ⟨⟨#HC, #HR, HB, ⟨HA4, HA5⟩, HF, HE⟩, HO, ⟨Hx, Hd, Hu, Ho⟩, ⟨⟨%f0, H0⟩, H1, H2, ⟨%f3, H3⟩⟩, Hw⟩
  ihave Hy := (y_blocks c f0) $$ H0
  ihave Hk := (k_slots c f3) $$ H3
  icases Hk with ⟨Hk0, Hk1⟩
  isplitr; · iexact HC
  isplitr; · iexact HR
  isplitl [HO]; · iexact HO
  isplitl [HB]; · iexact HB
  isplitl [Hx Hd Hu Ho H1 H2 Hy Hk0 Hk1 HA4 HA5]
  · isplitl [Hx]; · iexact Hx
    isplitl [Hd]; · iexact Hd
    isplitl [Hu]; · iexact Hu
    isplitl [Ho]; · iexact Ho
    isplitl [H1]; · iexact H1
    isplitl [H2]; · iexact H2
    unfold Slot At0
    isplitl [Hk0 HA4]
    · isplitl [Hk0]; · iexists f3; iexact Hk0
      isplitl [HA4]; · iexact HA4
      iapply r4; iexact HR
    isplitl [Hk1 HA5]
    · isplitl [Hk1]; · iexists f3; iexact Hk1
      isplitl [HA5]; · iexact HA5
      iapply r5; iexact HR
    iexact Hy
  isplitl [HF]; · iexact HF
  iapply hp
  isplitl [Hw]; · iexact Hw
  iexact HE

/-- Where the device stands at every transfer cell at the end. -/
abbrev AtEnd (c : Dev nD) (q : DmaSem sig) : sProp 𝕄 := atPos ER (dcell c q) (nrounds (.dma q)) ∅ 0

theorem last_to (c : Dev nD) : Last I c ⊢ iprop(Ow (F := F) c [] ∗ atPos ER (bcell c) 1 ∅ 0 ∗ (bigSep Finset.univ fun k : Fin 38 => AtEnd (F := F) c (osm k)) ∗ Bufs1 I c) := by
  have hE (e : Fin 8) : iprop(Fin1 (F := F) c (q6 e) ∗ Fin1 (F := F) c (q14 e) ∗ Fin1 (F := F) c (q22 e) ∗ Fin1 (F := F) c (q30 e))
      ⊢ iprop(AtEnd (F := F) c (q6 e) ∗ AtEnd (F := F) c (q14 e) ∗ AtEnd (F := F) c (q22 e) ∗ AtEnd (F := F) c (q30 e)) :=
    BIClass.sep_mono (fin_at c _ (by show 6 ≤ 6 + e.val; omega)) (BIClass.sep_mono (fin_at c _ (by show 6 ≤ 14 + e.val; omega))
      (BIClass.sep_mono (fin_at c _ (by show 6 ≤ 22 + e.val; omega)) (fin_at c _ (by show 6 ≤ 30 + e.val; omega))))
  have hE' : (bigSep Finset.univ fun e : Fin 8 => iprop(Fin1 (F := F) c (q6 e) ∗ Fin1 (F := F) c (q14 e) ∗ Fin1 (F := F) c (q22 e) ∗ Fin1 (F := F) c (q30 e)))
      ⊢ bigSep Finset.univ fun e : Fin 8 => iprop(AtEnd (F := F) c (q6 e) ∗ AtEnd (F := F) c (q14 e) ∗ AtEnd (F := F) c (q22 e) ∗ AtEnd (F := F) c (q30 e)) :=
    bigSep_mono fun e _ => hE e
  have hw : iprop(wPts c (wset 0) fullShare (I.w c) ∗ wPts c (wset 1) fullShare (I.w c) ∗ wPts c (wset 2) fullShare (I.w c) ∗ wPts c (wset 3) fullShare (I.w c) ∗ wPts c (wset 4) fullShare (I.w c) ∗ wPts c (wset 5) fullShare (I.w c) ∗ wPts c (wset 6) fullShare (I.w c) ∗ wPts c (wset 7) fullShare (I.w c))
      ⊢ (stg c main_arg3 (I.w c) : sProp 𝕄) := by
    rw [w_sets, big8]; exact Entails.of_eq rfl
  have hy : yPts c (rows 0 2048) fullShare (G I c) ⊢ (iprop(∃ f, stg c cc0_scratch0 f) : sProp 𝕄) := by
    rw [rows_univ]; unfold yPts; iintro H; iexists _; iexact H
  have h4 : atPos ER (dcell c (dq 4)) 4 ∅ 0 ⊢ AtEnd (F := F) c (dq 4) := Entails.of_eq rfl
  have h5 : atPos ER (dcell c (dq 5)) 4 ∅ 0 ⊢ AtEnd (F := F) c (dq 5) := Entails.of_eq rfl
  have f38 := fin_at (F := F) c (dq 38) (show 6 ≤ 38 by decide)
  have f39 := fin_at (F := F) c (dq 39) (show 6 ≤ 39 by decide)
  have f40 := fin_at (F := F) c (dq 40) (show 6 ≤ 40 by decide)
  have f41 := fin_at (F := F) c (dq 41) (show 6 ≤ 41 by decide)
  unfold Last Mem1 Slot Bufs1
  iintro ⟨HO, Hb, ⟨Hx, Hd, Hu, Ho, H1, H2, ⟨⟨%f0, Hk0⟩, A4, -⟩, ⟨⟨%f1, Hk1⟩, A5, -⟩, Hy, Hw⟩, A6, A7, A8, A9, A10, A11, A12, A13, A14, A15, A16, A17, A18, A19, A20, A21, A22, A23, A24, A25, A26, A27, A28, A29, A30, A31, A32, A33, A34, A35, A36, A37, A38, A39, A40, A41⟩
  isplitl [HO]; · iexact HO
  isplitl [Hb]; · iexact Hb
  isplitr [Hx Hd Hu Ho H1 H2 Hk0 Hk1 Hy Hw]
  · iapply (Entails.of_eq (group (fun q => AtEnd (F := F) c q)).symm)
    isplitl [A4 A5]
    · isplitl [A4]; · iapply h4; iexact A4
      iapply h5; iexact A5
    isplitr [A38 A39 A40 A41]
    · iapply hE'
      rw [big8]
      isplitl [A6 A14 A22 A30]
      · isplitl [A6]; · iexact A6
        isplitl [A14]; · iexact A14
        isplitl [A22]; · iexact A22
        iexact A30
      isplitl [A7 A15 A23 A31]
      · isplitl [A7]; · iexact A7
        isplitl [A15]; · iexact A15
        isplitl [A23]; · iexact A23
        iexact A31
      isplitl [A8 A16 A24 A32]
      · isplitl [A8]; · iexact A8
        isplitl [A16]; · iexact A16
        isplitl [A24]; · iexact A24
        iexact A32
      isplitl [A9 A17 A25 A33]
      · isplitl [A9]; · iexact A9
        isplitl [A17]; · iexact A17
        isplitl [A25]; · iexact A25
        iexact A33
      isplitl [A10 A18 A26 A34]
      · isplitl [A10]; · iexact A10
        isplitl [A18]; · iexact A18
        isplitl [A26]; · iexact A26
        iexact A34
      isplitl [A11 A19 A27 A35]
      · isplitl [A11]; · iexact A11
        isplitl [A19]; · iexact A19
        isplitl [A27]; · iexact A27
        iexact A35
      isplitl [A12 A20 A28 A36]
      · isplitl [A12]; · iexact A12
        isplitl [A20]; · iexact A20
        isplitl [A28]; · iexact A28
        iexact A36
      isplitl [A13]; · iexact A13
      isplitl [A21]; · iexact A21
      isplitl [A29]; · iexact A29
      iexact A37
    isplitl [A38]; · iapply f38; iexact A38
    isplitl [A39]; · iapply f39; iexact A39
    isplitl [A40]; · iapply f40; iexact A40
    iapply f41; iexact A41
  isplitl [Hx Hd Hu Ho]
  · isplitl [Hx]; · iexact Hx
    isplitl [Hd]; · iexact Hd
    isplitl [Hu]; · iexact Hu
    iexact Ho
  isplitr [Hw]
  · isplitl [Hy]; · iapply hy; iexact Hy
    isplitl [H1]; · iexists _; iexact H1
    isplitl [H2]; · iexists _; iexact H2
    iapply (k_join c f0 f1)
    isplitl [Hk0]; · iexact Hk0
    iexact Hk1
  iapply hw; iexact Hw

/-- The region's body with its cells closed behind it. -/
theorem region (c : Dev nD) {Q : PUnit → sProp 𝕄} {harg0 harg1 harg2 harg3 harg4 harg5 harg6 harg7 harg8} :
    iprop(Xk I c ∗ Ow (F := F) c pAll ∗ Bufs0 I c)
      ⊢ iprop(((Ow (F := F) c [] ∗ Pipeline.ownSems0 osem0 c ∗ semVal (bcell c) 0 ∗ Bufs1 I c) -∗ Q ⟨⟩)
          -∗ wpD c (cc0__moe_body xM harg0 dM harg1 uM harg2 wM harg3 oM harg4 yM harg5 bM harg6 gM harg7 kM harg8 cc0_scratch4 cc0_scratch5 cc0_scratch6 cc0_scratch7 cc0_scratch8 cc0_scratch9 cc0_scratch10) Q) := by
  have hctx (κ : GSem nD τ sig → ℕ) : Opened I κ c ⊢ iprop(Ctx I κ ∗ Opened I κ c) := by
    unfold Opened
    iintro ⟨#HC, H⟩
    isplitr; · iexact HC
    isplitr; · iexact HC
    iexact H
  unfold Xk
  iintro ⟨⟨%κ, HX⟩, HO, HB⟩ Hk
  ihave Hz := (hctx κ) $$ HX; icases Hz with ⟨#HC, HX⟩
  ihave HI := (init_of I κ c) $$ [HX HO HB]
  · isplitl [HX]; · iexact HX
    isplitl [HO] <;> iassumption
  iapply (wp_fupd frame (wpE (defs₀ (F := F)) 𝒱₀ (c : Thread nD τ) none) Set.univ _ Q)
  iapply (body I κ c) $$ HI
  iintro HL
  ihave Hz := (last_to I c) $$ HL; icases Hz with ⟨HO, Hb, Hat, HB⟩
  imod (close_cells I κ c) $$ [Hb Hat] with ⟨Hs, Hv⟩
  · isplitr; · iexact HC
    isplitl [Hb] <;> iassumption
  imodintro
  iapply Hk
  isplitl [HO]; · iexact HO
  isplitl [Hs]; · iexact Hs
  isplitl [Hv] <;> iassumption

end Cert.KernelIdeal.Moe

end
-- ==== Proof.KI.Seg.lean ====
/- The region as a segment of the program: its proof data, its body's obligation, and the record that enters it from the
   host stretches before it and leaves it with the result written. -/
module

public import proofs.«01_k».proof.Proof.KI.Open
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation)

variable {F : FTy → Type} [FloatOps F]
local notation "𝕄" => MT nD τ sig Unit (Elt F) ℕ UU ℕ
variable (m : (ℓ : Loc nD τ sig) → Buf (Elt F) ℓ)

/-- What the region reads: the tokens, the two selection matrices the host stretches computed, and the weights. -/
def insOf : Ins F := ⟨fun c => V15 m c main_arg0, fun c => V15 m c main_v56, fun c => V15 m c main_v86, fun c => V15 m c main_arg3⟩
/-- What the region leaves: its result written, everything else as it was. -/
def outsOf : Outs (F := F) := fun _ r c => Function.update (V15 m c) (Proc.devRef .tc main_v87) (o3 (insOf m) c) (Proc.devRef .tc r)

theorem V16_out (c : Dev nD) : V16 m (outsOf m) c main_v87 = o3 (insOf m) c := by
  show Function.update (V15 m c) (Proc.devRef .tc main_v87) (outsOf m 16 main_v87 c) (Proc.devRef .tc main_v87) = _
  rw [Function.update_self]; exact Function.update_self _ _ _

/-- The scoped buffers that stage no window. -/
def Scr (c : Dev nD) : sProp 𝕄 := iprop((∃ f, stg c cc0_scratch0 f) ∗ (∃ f, stg c cc0_scratch1 f) ∗ (∃ f, stg c cc0_scratch2 f) ∗ (∃ f, stg c cc0_scratch3 f))
/-- The invariant before the region's one point, and after it. -/
def PhiA (I : Ins F) (c : Dev nD) : sProp 𝕄 := iprop(Xk I c ∗ Scr (F := F) c ∗ stg c main_arg3 (I.w c) ∗ ∃ r, prngReg c r)
def PhiB (I : Ins F) (c : Dev nD) : sProp 𝕄 :=
  iprop((Pipeline.ownSems0 osem0 c ∗ semVal (bcell c) 0) ∗ Scr (F := F) c ∗ stg c main_arg3 (I.w c) ∗ ∃ r, prngReg c r)

/-- The region's proof data. -/
def dat0 (c : Dev nD) : Dat τ (Elt F) Unit ℕ UU ℕ cfg0 c where
  A w := match w with
    | 0 => V15 m c main_arg0
    | 1 => V15 m c main_v56
    | 2 => V15 m c main_v86
    | 3 => V15 m c main_v87
    | ⟨_ + 4, h⟩ => absurd h (Nat.not_lt.2 (Nat.le_add_left _ _))
  after w _ := match w with
    | 0 => (insOf m).x c
    | 1 => (insOf m).d c
    | 2 => (insOf m).u c
    | 3 => o3 (insOf m) c
    | ⟨_ + 4, h⟩ => absurd h (Nat.not_lt.2 (Nat.le_add_left _ _))
  Φ t := if t.val = 0 then PhiA (insOf m) c else PhiB (insOf m) c
  q _ := fullShare
  owed t := if t.val = 0 then O₀ c else 0
abbrev pdats (p : Fin 1) (c : Dev nD) : Dat τ (Elt F) Unit ℕ UU ℕ (cfgs p) c := dat0 m c

theorem phi_first (c : Dev nD) : (dat0 m c).Φ t0_0.castSucc = PhiA (insOf m) c := by
  show (if (t0_0.castSucc : Fin (cfg0.N + 1)).val = 0 then PhiA (insOf m) c else PhiB (insOf m) c) = _; exact if_pos rfl
theorem phi_zero (c : Dev nD) : (pdats m 0 c).Φ 0 = PhiA (insOf m) c := by
  show (if (0 : Fin (cfg0.N + 1)).val = 0 then PhiA (insOf m) c else PhiB (insOf m) c) = _; exact if_pos rfl
theorem phi_next (c : Dev nD) : (dat0 m c).Φ t0_0.succ = PhiB (insOf m) c := by
  show (if (t0_0.succ : Fin (cfg0.N + 1)).val = 0 then PhiA (insOf m) c else PhiB (insOf m) c) = _; exact if_neg (by decide)
theorem phi_last (c : Dev nD) : (pdats m 0 c).Φ (Fin.last _) = PhiB (insOf m) c := by
  show (if (Fin.last cfg0.N).val = 0 then PhiA (insOf m) c else PhiB (insOf m) c) = _
  rw [Fin.val_last, if_neg (by rw [show cfg0.N = 1 from N_0]; decide)]
theorem owed_zero (c : Dev nD) : (pdats m 0 c).owed 0 = O₀ c := by
  show (if (0 : Fin (cfg0.N + 1)).val = 0 then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_next (c : Dev nD) : (dat0 m c).owed t0_0.succ = 0 := by
  show (if (t0_0.succ : Fin (cfg0.N + 1)).val = 0 then O₀ c else 0) = 0; exact if_neg (by decide)
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem share_full (c : Dev nD) (w : Fin cfg0.W) : (dat0 m c).share w = fullShare := by unfold Dat.share; split <;> rfl

theorem owesAt_of (c : Dev nD) (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound
  rw [h0, show (dat0 m c).recorded t = Set.univ from rfl]
  iintro H; iexists W; isplitr; · ipureintro; exact fun _ _ => Or.inl trivial
  iexact H
theorem owesAt_to (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, H⟩; iexists W; iexact H

theorem before_x (c : Dev nD) (d) : (dat0 m c).before 0 t0_0 d = (insOf m).x c := by
  unfold Dat.before; rw [if_pos (by decide)]
  funext i
  unfold Dat.fetched Window.fill
  rw [dif_pos (((cfg0.win 0).moved_iff _ i).mpr fun a => (i a).isLt), Dat.blockOf_apply]
  show V15 m c main_arg0 _ = V15 m c main_arg0 i
  congr 1; funext a; apply Fin.ext
  show 0 * _ + 1 * (i a).val = (i a).val
  omega
theorem before_d (c : Dev nD) (d) : (dat0 m c).before 1 t0_0 d = (insOf m).d c := by
  unfold Dat.before; rw [if_pos (by decide)]
  funext i
  unfold Dat.fetched Window.fill
  rw [dif_pos (((cfg0.win 1).moved_iff _ i).mpr fun a => (i a).isLt), Dat.blockOf_apply]
  show V15 m c main_v56 _ = V15 m c main_v56 i
  congr 1; funext a; apply Fin.ext
  show 0 * _ + 1 * (i a).val = (i a).val
  omega
theorem before_u (c : Dev nD) (d) : (dat0 m c).before 2 t0_0 d = (insOf m).u c := by
  unfold Dat.before; rw [if_pos (by decide)]
  funext i
  unfold Dat.fetched Window.fill
  rw [dif_pos (((cfg0.win 2).moved_iff _ i).mpr fun a => (i a).isLt), Dat.blockOf_apply]
  show V15 m c main_v86 _ = V15 m c main_v86 i
  congr 1; funext a; apply Fin.ext
  show 0 * _ + 1 * (i a).val = (i a).val
  omega

omit [FloatOps F] in
/-- A whole staging buffer owned at a content is its points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stg c b f) := by
  unfold owns; simp only [Memref.view_whole, View.read_whole, View.set_whole]

/-- The obligation of the region's body at its one point. -/
theorem body_obl (c : Dev nD) : BodyObligation (dat0 m c) (defs₀ (F := F)) 𝒱₀ () Set.univ := fun t => by
  obtain rfl := fin_N0 t
  rw [bigSep_W0, bigSep_W0]
  simp only [owns_stg]
  rw [phi_first, phi_next]
  unfold PhiA PhiB Scr
  iintro ⟨⟨HX, Hs, Hw, Hp⟩, HO, ⟨%d0, %f0, %hf0, H0⟩, ⟨%d1, %f1, %hf1, H1⟩, ⟨%d2, %f2, %hf2, H2⟩, ⟨%d3, %f3, %hf3, H3⟩⟩
  rw [before_x] at hf0; rw [before_d] at hf1; rw [before_u] at hf2
  subst hf0; subst hf1; subst hf2
  ihave HO' := (owesAt_to m c _ (O₀ c) (owed_first m c)) $$ HO
  iapply (region (insOf m) c) $$ [HX HO' H0 H1 H2 H3 Hs Hw]
  · unfold Ow Bufs0
    isplitl [HX]; · iexact HX
    isplitl [HO']; · iexact HO'
    isplitl [H0 H1 H2 H3]
    · isplitl [H0]; · iexact H0
      isplitl [H1]; · iexact H1
      isplitl [H2]; · iexact H2
      iexists f3; iexact H3
    isplitl [Hs] <;> iassumption
  unfold Ow Bufs1
  iintro ⟨⟨%W, HO⟩, Hos, Hb, ⟨H0, H1, H2, H3⟩, Hs, Hw⟩
  isplitl [Hos Hb Hs Hw Hp]
  · isplitl [Hos Hb]; · isplitl [Hos] <;> iassumption
    isplitl [Hs]; · iexact Hs
    isplitl [Hw] <;> iassumption
  isplitl [HO]; · iapply (owesAt_of m c t0_0.succ 0 (owed_next m c) W); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

/-! ## The arrays at the region's exit -/

theorem arr_in (c : Dev nD) (w : Fin cfg0.W) (h : (cfg0.win w).isOut = false) (n : ℕ) : (dat0 m c).arrAt w n = (dat0 m c).A w := (dat0 m c).arrAt_in w h n
theorem arr_out (c : Dev nD) : (dat0 m c).arrAt 3 cfg0.N = o3 (insOf m) c :=
  (dat0 m c).arrAt_eq_of_after_last 3 t0_0 (by decide +kernel) _ fun j => by
    show o3 (insOf m) c j = o3 (insOf m) c _
    congr 1

/-! ## The record -/

/-- The buffers the region's body addresses itself: the weights. -/
abbrev Hs : Finset (DevRef τ sig) := {Proc.devRef .tc main_arg3}
/-- The buffers that no window stages. -/
abbrev Sr : Finset (DevRef τ sig) := Pipeline.ucRefs τ sig \ Pipeline.arrRefs (τ := τ) spec0
theorem hs_sub : Hs ⊆ Sr := by
  intro b hb
  obtain rfl := Finset.mem_singleton.mp hb
  exact Finset.mem_sdiff.mpr ⟨Finset.mem_filter.mpr ⟨StableHlo.devRef_mem_tcRefs main_arg3, by decide⟩, by decide⟩

theorem held_w (c : Dev nD) (V : Valuation τ sig (Elt F)) : (StableHlo.held (c.tc : Thread nD τ) Hs V : sProp 𝕄) = stg c main_arg3 (V (Proc.devRef .tc main_arg3)) := by
  unfold StableHlo.held; rw [bigSep_singleton]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem open_in (c : Dev nD) : iprop(Kept (insOf m) c ∗ Pipeline.ownSems0 osem0 c ∗ levAts L lv) ⊢ (|={Set.univ}=> Xk (insOf m) c : sProp 𝕄) := open_cells (insOf m) c

theorem phi_in (c : Dev nD) : iprop(Pipeline.scopedRest (Pipeline.pin (pcfgs (F := F)) adm 0).spec c ∗ (∃ r, prngReg c r) ∗ StableHlo.held (c.tc : Thread nD τ) Hs (V15 m c) ∗ Xk (insOf m) c)
    ⊢ (pdats m 0 c).Φ 0 := by
  rw [phi_zero, held_w]
  have hs : (Pipeline.scopedRest (Pipeline.pin (pcfgs (F := F)) adm 0).spec c : sProp 𝕄) = Scr (F := F) c := scopedRest0_eq c
  rw [hs]
  unfold PhiA
  iintro ⟨Hs, Hp, Hw, HX⟩
  isplitl [HX]; · iexact HX
  isplitl [Hs]; · iexact Hs
  isplitl [Hw]; · iexact Hw
  iexact Hp

theorem w_kept (c : Dev nD) : V16 m (outsOf m) c (Proc.devRef .tc main_arg3) = (insOf m).w c := V16_of m (outsOf m) c main_arg3 (by decide)

theorem phi_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) Hs (V16 m (outsOf m) c) ∗ Pipeline.ownSems0 osem0 c ∗ semVal (bcell c) 0) := by
  have h := phi_last m c
  have hs : (Pipeline.scopedRest (Pipeline.pin (pcfgs (F := F)) adm 0).spec c : sProp 𝕄) = Scr (F := F) c := scopedRest0_eq c
  rw [show (pdats m 0 c).Φ (Fin.last (Pipeline.pin (pcfgs (F := F)) adm 0).N) = PhiB (insOf m) c from h, held_w, hs, w_kept]
  unfold PhiB
  iintro ⟨⟨Hos, Hb⟩, Hs, Hw, Hp⟩
  isplitl [Hs]; · iexact Hs
  isplitl [Hp]; · iexact Hp
  isplitl [Hw]; · iexact Hw
  isplitl [Hos] <;> iassumption

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · obtain ⟨p, hp, rfl⟩ := OL_pos h
    exact ⟨by rw [L_tc]; exact Finset.mem_singleton_self _, lv_pAll p hp⟩
  · exact absurd h (Nat.lt_irrefl 0)

theorem stage_low : ∀ (w : Fin 4) (s : Fin (win0 w).nbuf), slv (.dma ((win0 w).sem s)) ≤ 0 := by decide

theorem arr_first (c : Dev nD) (w : Fin (Pipeline.pin (pcfgs (F := F)) adm 0).W) :
    (pdats m 0 c).arrAt w 0 = V15 m c (Proc.devRef .tc (Pipeline.arrRef (Pipeline.pin (pcfgs (F := F)) adm 0).spec w)) := by
  match w with
  | 0 => rfl
  | 1 => rfl
  | 2 => rfl
  | 3 => rfl
theorem arr_last (c : Dev nD) (w : Fin (Pipeline.pin (pcfgs (F := F)) adm 0).W) :
    (pdats m 0 c).arrAt w (Pipeline.pin (pcfgs (F := F)) adm 0).N = V16 m (outsOf m) c (Proc.devRef .tc (Pipeline.arrRef (Pipeline.pin (pcfgs (F := F)) adm 0).spec w)) := by
  match w with
  | 0 => exact (arr_in m c 0 rfl _).trans (V16_of m (outsOf m) c main_arg0 (by decide)).symm
  | 1 => exact (arr_in m c 1 rfl _).trans (V16_of m (outsOf m) c main_v56 (by decide)).symm
  | 2 => exact (arr_in m c 2 rfl _).trans (V16_of m (outsOf m) c main_v86 (by decide)).symm
  | 3 => exact (arr_out m c).trans (V16_out m c).symm

theorem rest_kept (c : Dev nD) (b : DevRef τ sig) (hb : b ∈ Sr \ Hs) : V16 m (outsOf m) c b = V15 m c b := by
  refine Function.update_of_ne (fun h => ?_) _ _
  subst h
  exact absurd (Finset.mem_sdiff.mp hb).1 (by decide)

set_option backward.isDefEq.respectTransparency.types false in
/-- The region's record: entered with every counter's credit and debt in hand, left owing nothing. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    Hs Sr hs_sub kitP rfl (fun c => (body_obl m c).loose)
    (fun _ => 0) O₀ (fun c => (owed_zero m c).trans (zero_add _).symm) (owed_last m) (fun _ => rfl) (fun c w => share_full m c w)
    (V15 m) (V16 m (outsOf m)) (rest_kept m)
    (Kept (insOf m)) (fun c => semVal (bcell c) 0) (Xk (insOf m)) (fun c => semVal (bcell c) 0) (open_in m) (phi_in m) (phi_out m)
    (fun c => by iintro H; imodintro; iexact H)
    (fun _ => 0)
    ⟨fun c w s => by rw [L_tc]; exact Finset.mem_singleton_self _, fun c w s => stage_low w s, fun c t g i h => cutD m c t g i h⟩
    (fun _ => iprop(emp))
    (arr_first m) (arr_last m)

end Cert.KernelIdeal.Moe

end
-- ==== Proof.KI.Run.lean ====
/- The launch and the run: from any memory with zero counters the program ends with its arguments as they were, the result
   the region writes, and every counter at zero. -/
module

public import proofs.«01_k».proof.Proof.KI.Seg

@[expose] public section

noncomputable section

namespace Cert.KernelIdeal.Moe

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation Seg)

variable {F : FTy → Type} [FloatOps F]
local notation "𝕄" => MT nD τ sig Unit (Elt F) ℕ UU ℕ
variable (m : (ℓ : Loc nD τ sig) → Buf (Elt F) ℓ) (ρ : Dev nD → PrngReg)

/-! ## What the host stretches carry along -/

def E0 (c : Dev nD) : sProp 𝕄 := iprop(Kept (insOf m) c ∗ (∃ r, prngReg c r) ∗ ∃ W, owes (c : Thread nD τ) (O₀ c) W)
def E1 (c : Dev nD) : sProp 𝕄 := iprop(semVal (bcell c) 0 ∗ ∃ W, owes (c : Thread nD τ) (0 : CellTallies nD τ sig Unit) W)
def EE : Fin 2 → Dev nD → sProp 𝕄 := fun i => if i = 0 then E0 m else E1

theorem arr_sub : Pipeline.arrRefs (τ := τ) spec0 ⊆ Pipeline.ucRefs τ sig := by decide

theorem enter (c : Dev nD) : iprop(StableHlo.held (c : Thread nD τ) (Pipeline.ucRefs τ sig) (V15 m c) ∗ EE m 0 c) ⊢ (reg0 m).pre c := by
  show _ ⊢ iprop(StableHlo.held (c.tc : Thread nD τ) (Pipeline.arrRefs (τ := τ) spec0) (V15 m c) ∗ (∃ r, prngReg c r)
    ∗ (StableHlo.held (c.tc : Thread nD τ) Sr (V15 m c) ∗ emp) ∗ Kept (insOf m) c ∗ ∃ Wd, owes (c : Thread nD τ) (0 + O₀ c) Wd)
  rw [StableHlo.held_sub_split (c.tc : Thread nD τ) arr_sub (V15 m c), zero_add, show EE m 0 c = E0 m c from rfl]
  unfold E0
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption

theorem leave (c : Dev nD) : (reg0 m).post c ⊢ iprop(StableHlo.held (c : Thread nD τ) (Pipeline.ucRefs τ sig) (V16 m (outsOf m) c) ∗ EE m 1 c) := by
  show iprop(StableHlo.held (c.tc : Thread nD τ) (Pipeline.arrRefs (τ := τ) spec0) (V16 m (outsOf m) c) ∗ (∃ r, prngReg c r)
    ∗ (StableHlo.held (c.tc : Thread nD τ) Sr (V16 m (outsOf m) c) ∗ emp) ∗ semVal (bcell c) 0 ∗ ∃ Wd, owes (c : Thread nD τ) (0 : CellTallies nD τ sig Unit) Wd) ⊢ _
  rw [StableHlo.held_sub_split (c.tc : Thread nD τ) arr_sub (V16 m (outsOf m) c), show EE m 1 c = E1 (F := F) c from rfl]
  unfold E1
  iintro ⟨Ha, -, ⟨Hr, -⟩, Hb, HO⟩
  isplitl [Ha Hr]; · isplitl [Ha] <;> iassumption
  isplitl [Hb] <;> iassumption

/-! ## The launch -/

def onDev (c₀ : Dev nD) (X : sProp 𝕄) (c : Dev nD) : sProp 𝕄 := if c = c₀ then X else BI.emp
omit [FloatOps F] in
theorem onDev_all (c₀ : Dev nD) (X : sProp 𝕄) : bigSep Finset.univ (onDev c₀ X) = X := by
  rw [bigSep_univ_at _ c₀, bigSep_congr (s := Finset.univ.erase c₀) (Ψ := fun _ => (BI.emp : sProp 𝕄))
    fun c hc => by unfold onDev; rw [if_neg (Finset.ne_of_mem_erase hc)], BI.bigSep_emp_const]
  unfold onDev; rw [if_pos rfl]
  exact BI.equiv_iff.mp sep_emp

def u₀ : UU := (initOf (Pipeline.cells cfgs cellOf_inj) (Pipeline.launchToks cfgs cellOf_inj), launchOf bCells dCells allToks)
def G₁ (c : Dev nD) : sProp 𝕄 := onDev 0 (BI.own (ER (launchOf bCells dCells allToks))) c

theorem fund : (ownU u₀ : sProp 𝕄) ⊢ |={Set.univ}=> iprop(BI.own (EP (initOf (Pipeline.cells cfgs cellOf_inj) (Pipeline.launchToks cfgs cellOf_inj))) ∗ bigSep Finset.univ (G₁ (F := F))) := by
  unfold u₀
  have hG : bigSep Finset.univ (G₁ (F := F)) = BI.own (ER (launchOf bCells dCells allToks)) := onDev_all 0 _
  rw [hG]
  iintro Hu
  ihave H := (ownU_pair _ _) $$ Hu
  icases H with ⟨HP, HX⟩
  imodintro
  isplitl [HP]; · iexact HP
  iexact HX

omit [FloatOps F] in
theorem sems_bar (c : Dev nD) : (unscopedSems0 c : sProp 𝕄) = semVal (bcell c) 0 := by
  unfold unscopedSems0
  rw [show (Finset.univ.filter fun sm : SemLoc sig => ¬ sm.isScoped .tc = true) = {.reg barrier0} from by decide, bigSep_singleton]

/-- What every device gets of the cells' records. -/
def Recs (I : Ins F) (κ : GSem nD τ sig → ℕ) : sProp 𝕄 :=
  iprop((bigSep Finset.univ fun p : Dev nD × Option (Fin 38) => cellInv ER (moeRd I) (κ (gc p)) (gc p)) ∗ bigSep Finset.univ fun d : Dev nD => reached ER (bcell d) 0)
/-- What device `c` gets of the rest. -/
def Own1 (c : Dev nD) : sProp 𝕄 :=
  iprop(atPos ER (bcell c) 0 ∅ 0 ∗ (bigSep Finset.univ fun k : Fin 38 => openTok ER (dcell c (osm k)))
    ∗ ((bigSep Finset.univ fun e : Fin 8 => TokE (F := F) c e) ∗ TokF (F := F) c ∗ TokB (F := F) c))
def Bundle (c : Dev nD) : sProp 𝕄 := iprop(Creds (F := F) c ∗ owes (c : Thread nD τ) (O₀ c) ∅ ∗ prngReg c (ρ c))

instance recs_persistent (I : Ins F) (κ : GSem nD τ sig → ℕ) : BI.Persistent (Recs I κ) := by unfold Recs; infer_instance

theorem e0_of (κ : GSem nD τ sig → ℕ) (c : Dev nD) : iprop(Recs (insOf m) κ ∗ (Own1 (F := F) c ∗ Bundle ρ c)) ⊢ E0 m c := by
  unfold Recs Own1 Bundle E0 Kept Start
  iintro ⟨HR, ⟨Hat, Hop, Ht⟩, Hc, HO, Hp⟩
  isplitl [HR Hat Hop Ht Hc]
  · iexists κ
    isplitl [HR]; · iexact HR
    isplitl [Hat]; · iexact Hat
    isplitl [Hop]; · iexact Hop
    isplitl [Ht] <;> iassumption
  isplitl [Hp]; · iexists (ρ c); iexact Hp
  iexists ∅; iexact HO

theorem start_all : iprop((bigSep Finset.univ fun c : Dev nD => iprop(unscopedSems0 c ∗ owes (c : Thread nD τ) (O₀ c) ∅ ∗ Pipeline.launchCred O₀ c ∗ prngReg c (ρ c) ∗ G₁ c)) ∗ levAts L lv)
      ⊢ (|={Set.univ}=> bigSep Finset.univ (E0 m) : sProp 𝕄) := by
  have h1 (c : Dev nD) : iprop(unscopedSems0 c ∗ owes (c : Thread nD τ) (O₀ c) ∅ ∗ Pipeline.launchCred O₀ c ∗ prngReg c (ρ c) ∗ G₁ c)
      ⊢ (iprop(Bundle ρ c ∗ (semVal (bcell c) 0 ∗ G₁ c)) : sProp 𝕄) := by
    rw [sems_bar]
    unfold Bundle
    iintro ⟨Hb, HO, Hc, Hp, HG⟩
    ihave Hc' := (creds_of (F := F) c) $$ Hc
    isplitl [Hc' HO Hp]
    · isplitl [Hc']; · iexact Hc'
      isplitl [HO] <;> iassumption
    isplitl [Hb] <;> iassumption
  have hG : bigSep Finset.univ (G₁ (F := F)) = BI.own (ER (launchOf bCells dCells allToks)) := onDev_all 0 _
  have h2 : (bigSep Finset.univ fun c : Dev nD => iprop(Bundle ρ c ∗ (semVal (bcell c) 0 ∗ G₁ c)) : sProp 𝕄)
      ⊢ iprop(bigSep Finset.univ (Bundle ρ) ∗ (bigSep Finset.univ fun c : Dev nD => (semVal (bcell c) 0 : sProp 𝕄)) ∗ BI.own (ER (launchOf bCells dCells allToks))) :=
    Entails.of_eq (by rw [bigSep_sep', bigSep_sep', hG])
  have hcore : (bigSep Finset.univ fun c : Dev nD => iprop(unscopedSems0 c ∗ owes (c : Thread nD τ) (O₀ c) ∅ ∗ Pipeline.launchCred O₀ c ∗ prngReg c (ρ c) ∗ G₁ c))
      ⊢ (bigSep Finset.univ fun c : Dev nD => iprop(Bundle ρ c ∗ (semVal (bcell c) 0 ∗ G₁ c)) : sProp 𝕄) := bigSep_mono fun c _ => h1 c
  have hv : bigSep Finset.univ (fun c : Dev nD => (semVal (bcell c) 0 : sProp 𝕄)) ⊢ bigSep bCells (fun g => (semVal g 0 : sProp 𝕄)) :=
    Entails.of_eq (bigSep_map (s := Finset.univ) bEmb (Φ := fun g : GSem nD τ sig => (semVal g 0 : sProp 𝕄))).symm
  have hat : bigSep bCells (fun g => (atPos ER g 0 ∅ 0 : sProp 𝕄)) ⊢ bigSep Finset.univ (fun c : Dev nD => (atPos ER (bcell c) 0 ∅ 0 : sProp 𝕄)) :=
    Entails.of_eq (bigSep_map (s := Finset.univ) bEmb (Φ := fun g : GSem nD τ sig => (atPos ER g 0 ∅ 0 : sProp 𝕄)))
  have hre : bigSep bCells (fun g => (reached ER g 0 : sProp 𝕄)) ⊢ bigSep Finset.univ (fun c : Dev nD => (reached ER (bcell c) 0 : sProp 𝕄)) :=
    Entails.of_eq (bigSep_map (s := Finset.univ) bEmb (Φ := fun g : GSem nD τ sig => (reached ER g 0 : sProp 𝕄)))
  have hop : bigSep dCells (fun g => (openTok ER g : sProp 𝕄))
      ⊢ bigSep Finset.univ (fun c : Dev nD => (bigSep Finset.univ fun k : Fin 38 => openTok ER (dcell c (osm k)) : sProp 𝕄)) :=
    Entails.of_eq (by rw [bigSep_map, bigSep_univ_prod]; rfl)
  have hinv (κ : GSem nD τ sig → ℕ) : bigSep (bCells ∪ dCells) (fun g => cellInv ER (moeRd (insOf m)) (κ g) g)
      ⊢ (bigSep Finset.univ fun p : Dev nD × Option (Fin 38) => cellInv ER (moeRd (insOf m)) (κ (gc p)) (gc p) : sProp 𝕄) :=
    Entails.of_eq (by rw [cells_all, bigSep_map]; rfl)
  iintro ⟨H, -⟩
  ihave H1 := hcore $$ H
  ihave H' := h2 $$ H1
  icases H' with ⟨HB, Hv, HG⟩
  imod (Rounds.fund_launch ER (moeRd (insOf m)) cells_disjoint (fun g _ h => h) allToks) $$ [Hv HG] with ⟨%κ, -, Hinv, Hr, Hat, Hop, Htok⟩
  · isplitl [Hv]
    · iapply hv $$ Hv
    · iexact HG
  imodintro
  have hall : iprop(Recs (insOf m) κ ∗ bigSep Finset.univ fun c : Dev nD => iprop(Own1 (F := F) c ∗ Bundle ρ c)) ⊢ bigSep Finset.univ (E0 m) :=
    bigSep_with_persistent (R := Recs (insOf m) κ) (Φ := fun c => iprop(Own1 (F := F) c ∗ Bundle ρ c)) fun c _ => e0_of m ρ κ c
  have hown : iprop((bigSep Finset.univ fun c : Dev nD => (atPos ER (bcell c) 0 ∅ 0 : sProp 𝕄))
      ∗ (bigSep Finset.univ fun c : Dev nD => (bigSep Finset.univ fun k : Fin 38 => openTok ER (dcell c (osm k)) : sProp 𝕄))
      ∗ (bigSep Finset.univ fun c : Dev nD => iprop((bigSep Finset.univ fun e : Fin 8 => TokE (F := F) c e) ∗ TokF (F := F) c ∗ TokB (F := F) c)))
      ⊢ (bigSep Finset.univ (Own1 (F := F)) : sProp 𝕄) := Entails.of_eq (by symm; unfold Own1; rw [bigSep_sep', bigSep_sep'])
  have hpair : iprop(bigSep Finset.univ (Own1 (F := F)) ∗ bigSep Finset.univ (Bundle ρ)) ⊢ (bigSep Finset.univ fun c : Dev nD => iprop(Own1 (F := F) c ∗ Bundle ρ c) : sProp 𝕄) :=
    Entails.of_eq (by rw [bigSep_sep'])
  iapply hall
  isplitl [Hinv Hr]
  · unfold Recs
    isplitl [Hinv]; · iapply (hinv κ) $$ Hinv
    iapply hre $$ Hr
  iapply hpair
  isplitr [HB]
  · iapply hown
    isplitl [Hat]; · iapply hat $$ Hat
    isplitl [Hop]; · iapply hop $$ Hop
    iapply (deal (F := F)) $$ Htok
  · iexact HB

/-! ## The run -/

theorem unscoped_bar : ∀ sm : SemLoc sig, sm.isScoped .tc = false → sm = .reg barrier0 := by decide

/-- What device `c` ends with. -/
def Fin0 (c : Dev nD) : sProp 𝕄 := iprop(StableHlo.held (c : Thread nD τ) (Pipeline.ucRefs τ sig) (V16 m (outsOf m) c) ∗ semVal (bcell c) 0)

/-- The arguments and the result of device `c` at the end, and its barrier's counter. -/
def EndsAt (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v87) = o3 (insOf m) c) ∧ s.sem (bcell c) = 0

theorem reads_off (c : Dev nD) (s' : Phys nD τ sig (Elt F)) : iprop(Fin0 m c ∗ SI s') ⊢ (|={Set.univ}=> iprop(⌜EndsAt m c s'.mem⌝ ∗ SI s') : sProp 𝕄) := by
  unfold Fin0 StableHlo.held
  iintro ⟨⟨Hh, Hb⟩, HSI⟩
  icombine HSI Hb gives %hb
  ihave Hr := (pointsTo_read_all (Pipeline.ucRefs τ sig) (fun b => ((c : Thread nD τ).1, b)) (V16 m (outsOf m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V16_main_arg0 m (outsOf m) c),
      (h (Proc.devRef .tc main_arg1) (Finset.mem_filter.mpr ⟨StableHlo.devRef_mem_tcRefs main_arg1, by decide⟩)).trans (V16_main_arg1 m (outsOf m) c),
      (h (Proc.devRef .tc main_arg2) (Finset.mem_filter.mpr ⟨StableHlo.devRef_mem_tcRefs main_arg2, by decide⟩)).trans (V16_main_arg2 m (outsOf m) c),
      (h (Proc.devRef .tc main_arg3) (Finset.mem_filter.mpr ⟨StableHlo.devRef_mem_tcRefs main_arg3, by decide⟩)).trans (V16_main_arg3 m (outsOf m) c),
      (h (Proc.devRef .tc main_v87) (Finset.mem_filter.mpr ⟨StableHlo.devRef_mem_tcRefs main_v87, by decide⟩)).trans (V16_out m c)⟩, by simpa using hb⟩
  · iexact HSI

set_option backward.isDefEq.respectTransparency.types false in
set_option maxRecDepth 1256 in
/-- The run: every fair execution from zero counters ends, with the arguments as launched, the result the region's, and
    every counter at zero. -/
theorem run_main : θ_run defs (onTc (τ := τ) (main (F := F))) ⟨m, fun _ => 0, ρ⟩
    (fun r => (∀ c : Dev nD, EndsAt m c r.2) ∧ r.2.sem = fun _ => 0) := by
  refine Pipeline.θ_run_regions_kit_dev_sems (pcfgs (F := F)) adm (pdats m) () cellOf_inj EP defs₀ 𝒱₀ L lv m ρ main
    (segs m 𝒱₀ L lv (EE m) () (pdats m) (reg0 m))
    (fun c Q => by
      rewrite [main_chain c, Seg.run_eq_chain,
        show (segs m 𝒱₀ L lv (EE m) () (pdats m) (reg0 m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G₁ u₀ fund
    (T₀ := fun c => iprop(StableHlo.held (c : Thread nD τ) (Pipeline.ucRefs τ sig) (V0 m c) ∗ EE m 0 c))
    (Tₙ := Fin0 m)
    (hch := fun c => ⟨.rfl, .rfl, .rfl, .rfl, .rfl, .rfl, .rfl, .rfl, .rfl, .rfl, .rfl, .rfl, .rfl, .rfl, .rfl, enter m c, (leave m c).trans ?_⟩)
    (hinit := ?_) (QY := EndsAt m) (hfin := reads_off m)
    (hQ := fun s h hs => ⟨h, sem_eq_zero hs fun c sm hsm => by obtain rfl := unscoped_bar sm hsm; exact (h c).2⟩)
  · rw [show EE m 1 c = E1 (F := F) c from rfl]
    unfold E1 Fin0
    iintro ⟨Hh, Hb, HO⟩
    isplitl [Hh Hb]; · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G₁ c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G₁ c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    have hE : iprop((bigSep Finset.univ fun c : Dev nD => StableHlo.held (c : Thread nD τ) (Pipeline.ucRefs τ sig) (V0 m c)) ∗ bigSep Finset.univ (E0 m))
        ⊢ (bigSep Finset.univ fun c : Dev nD => iprop(StableHlo.held (c : Thread nD τ) (Pipeline.ucRefs τ sig) (V0 m c) ∗ EE m 0 c) : sProp 𝕄) := Entails.of_eq (by rw [bigSep_sep']; rfl)
    iintro ⟨H, Hla⟩
    ihave H' := hsplit $$ H
    icases H' with ⟨Hh, Hr⟩
    imod (start_all m ρ) $$ [Hr Hla] with HE
    · isplitl [Hr]; · iexact Hr
      iexact Hla
    imodintro
    iapply hE
    isplitl [Hh]; · iexact Hh
    iexact HE

end Cert.KernelIdeal.Moe

end
-- ==== Proof.KI.Rank.lean ====
/-
  Counting the tokens that come before a token and go to the same expert: the count block by block, and words that hold
  such counts.
-/
module
public import Idealize.ShloMosaic.Lib.Pointwise
public import Idealize.ShloMosaic.Lib.WordArith
public import Idealize.ShloMosaic.Lib.IndicatorCount

@[expose] public section

noncomputable section

namespace Cert.MoeRank
open Idealize.ShloMosaic

/-- How many tokens before `t` go to the expert that `t` goes to. -/
def rk (E : Fin 2048 → ℕ) (t : Fin 2048) : ℕ := (Finset.univ.filter fun s : Fin 2048 => s < t ∧ E s = E t).card

variable {E : Fin 2048 → ℕ}

theorem rk_lt (t : Fin 2048) : rk E t < 2048 := by
  have h : (Finset.univ.filter fun s : Fin 2048 => s < t ∧ E s = E t) ⊂ Finset.univ :=
    Finset.ssubset_univ_iff.2 fun h => by
      have := Finset.mem_univ t
      rw [← h, Finset.mem_filter] at this
      exact lt_irrefl _ this.2.1
  simpa [rk] using Finset.card_lt_card h

theorem rk_lt_of_lt {s t : Fin 2048} (h : s < t) (he : E s = E t) : rk E s < rk E t := by
  refine Finset.card_lt_card (Finset.ssubset_iff_of_subset (fun u hu => ?_) |>.2 ⟨s, ?_, ?_⟩)
  · rw [Finset.mem_filter] at hu ⊢
    exact ⟨hu.1, hu.2.1.trans h, hu.2.2.trans he⟩
  · rw [Finset.mem_filter]; exact ⟨Finset.mem_univ _, h, he⟩
  · rw [Finset.mem_filter]; exact fun hs => lt_irrefl _ hs.2.1

/-- Two tokens of one expert with the same count are one token. -/
theorem rk_inj {s t : Fin 2048} (he : E s = E t) (h : rk E s = rk E t) : s = t := by
  rcases lt_trichotomy s t with h1 | h1 | h1
  · exact absurd h (rk_lt_of_lt h1 he).ne
  · exact h1
  · exact absurd h (rk_lt_of_lt h1 he.symm).ne'

/-- Two tokens that are kept and get one row are one token. -/
theorem row_inj {s t : Fin 2048} (hs : rk E s < 51) (ht : rk E t < 51) (h : 64 * E s + rk E s = 64 * E t + rk E t) : s = t :=
  have he : E s = E t := by omega
  rk_inj he (by omega)

/-- A row times a column. -/
def dotE {n : ℕ} (f g : Fin n → EReal) : EReal := ∑ r, f r * g r

/-- Token `i` of block `b`. -/
abbrev tk (b : Fin 64) (i : Fin 32) : Fin 2048 := ⟨b.val * 32 + i.val, by omega⟩

/-- The blocks and the places in them, as the tokens. -/
def tkEquiv : Fin 64 × Fin 32 ≃ Fin 2048 where
  toFun p := tk p.1 p.2
  invFun t := (⟨t.val / 32, by omega⟩, ⟨t.val % 32, by omega⟩)
  left_inv p := by
    rcases p with ⟨⟨b, hb⟩, ⟨i, hi⟩⟩
    exact Prod.ext (Fin.ext (by show (b * 32 + i) / 32 = b; omega)) (Fin.ext (by show (b * 32 + i) % 32 = i; omega))
  right_inv t := Fin.ext (by show t.val / 32 * 32 + t.val % 32 = t.val; omega)

/-- One where a token goes to expert `k`, zero elsewhere. -/
def oh (E : Fin 2048 → ℕ) (b : Fin 64) (i k : Fin 32) : ℕ := if E (tk b i) = k.val then 1 else 0
/-- One below the diagonal. -/
def tri {n : ℕ} (a b : Fin n) : ℕ := if b < a then 1 else 0

/-- The count by blocks: within the token's block, and over the blocks before it. -/
theorem rank_sum (hE : ∀ t, E t < 32) (b : Fin 64) (i : Fin 32) :
    (∑ k : Fin 32, ((∑ s : Fin 32, tri i s * oh E b s k) + ∑ b' : Fin 64, tri b b' * ∑ s : Fin 32, oh E b' s k) * oh E b i k)
      = rk E (tk b i) := by
  rw [Finset.sum_eq_single (⟨E (tk b i), hE _⟩ : Fin 32)]
  · have h1 : oh E b i ⟨E (tk b i), hE _⟩ = 1 := if_pos rfl
    rw [h1, mul_one, rk, Finset.card_filter, ← tkEquiv.sum_comp, Fintype.sum_prod_type]
    rw [← Finset.sum_erase_add _ _ (Finset.mem_univ b), ← Finset.sum_erase_add (a := b) Finset.univ (fun b' => ∑ s : Fin 32, if tkEquiv (b', s) < tk b i ∧ E (tkEquiv (b', s)) = E (tk b i) then 1 else 0) (Finset.mem_univ b)]
    have h2 : tri b b = 0 := if_neg (lt_irrefl _)
    rw [h2, zero_mul, add_zero, add_comm]
    refine congrArg₂ (· + ·) (Finset.sum_congr rfl fun b' hb => ?_) (Finset.sum_congr rfl fun s _ => ?_)
    · have hne : b'.val ≠ b.val := fun h => (Finset.mem_erase.1 hb).1 (Fin.ext h)
      rw [Finset.mul_sum]
      refine Finset.sum_congr rfl fun s _ => ?_
      unfold tri oh
      have : (tkEquiv (b', s) < tk b i) ↔ b' < b := by
        show b'.val * 32 + s.val < b.val * 32 + i.val ↔ b'.val < b.val
        omega
      have h3 : tkEquiv (b', s) = tk b' s := rfl
      simp only [this]; rw [h3]
      by_cases c1 : b' < b <;> by_cases c2 : E (tk b' s) = E (tk b i) <;> simp [c1, c2]
    · unfold tri oh
      have : (tkEquiv (b, s) < tk b i) ↔ s < i := by
        show b.val * 32 + s.val < b.val * 32 + i.val ↔ s.val < i.val
        omega
      have h3 : tkEquiv (b, s) = tk b s := rfl
      simp only [this]; rw [h3]
      by_cases c1 : s < i <;> by_cases c2 : E (tk b s) = E (tk b i) <;> simp [c1, c2]
  · intro k _ hk
    have : oh E b i k = 0 := if_neg fun h => hk (Fin.ext h.symm)
    rw [this, mul_zero]
  · exact fun h => absurd (Finset.mem_univ _) h

theorem cast_sum {ι : Type} (s : Finset ι) (f : ι → ℕ) : ((∑ i ∈ s, f i : ℕ) : EReal) = ∑ i ∈ s, (f i : EReal) :=
  map_sum (Nat.castAddMonoidHom EReal) f s

/-- The count by blocks, over the extended reals. -/
theorem rank_sum' (hE : ∀ t, E t < 32) (b : Fin 64) (i : Fin 32) :
    (∑ k : Fin 32, ((∑ s : Fin 32, (tri i s : EReal) * (oh E b s k : EReal))
      + ∑ b' : Fin 64, (tri b b' : EReal) * ∑ s : Fin 32, (oh E b' s k : EReal)) * (oh E b i k : EReal))
      = ((rk E (tk b i) : ℕ) : EReal) := by
  rw [← rank_sum hE b i, cast_sum]
  refine Finset.sum_congr rfl fun k _ => ?_
  rw [EReal.natCast_mul, Nat.cast_add, cast_sum, cast_sum]
  simp only [EReal.natCast_mul, cast_sum]

/-- A natural number read out of the extended reals. -/
theorem fptosi_nat (n : ℕ) (h : n < 2 ^ 31) : Ideal.fptosi 32 ((n : ℕ) : EReal) = BitVec.ofNat 32 n := by
  rw [show ((n : ℕ) : EReal) = (((n : ℕ) : ℝ) : EReal) from rfl, Ideal.fptosi, Ideal.toIntClamped_coe, if_pos (Nat.cast_nonneg n),
    Int.floor_natCast, min_eq_right (by norm_num; omega), max_eq_right (by norm_num)]
  exact BitVec.ofInt_natCast 32 n

/-- The comparison that makes a lower triangle. -/
theorem tri_word (n k : ℕ) (hn : n < 2 ^ 31) (hk : k < 2 ^ 31) :
    IntOp.cmpi .sge (IntOp.addi (BitVec.ofNat 32 n) 4294967295#32) (BitVec.ofNat 32 k) = BitVec.ofBool (decide (k < n)) := by
  unfold IntOp.cmpi IntOp.addi
  dsimp only
  refine congrArg BitVec.ofBool ?_
  rw [BitVec.sle_eq_decide, decide_eq_decide]
  have h1 : (BitVec.ofNat 32 k).toInt = k := WordArith.toInt_ofNat_small k hk
  have h2 : (BitVec.ofNat 32 n).toInt = n := WordArith.toInt_ofNat_small n hn
  have h3 : (4294967295#32).toInt = -1 := by decide
  rw [WordArith.toInt_add_of_bounds _ _ (by rw [h2, h3]; omega) (by rw [h2, h3]; omega), h1, h2, h3]
  omega

theorem cmp_slt_nat (n k : ℕ) (hn : n < 2 ^ 31) (hk : k < 2 ^ 31) :
    IntOp.cmpi .slt (BitVec.ofNat 32 n) (BitVec.ofNat 32 k) = BitVec.ofBool (decide (n < k)) := by
  show BitVec.ofBool (BitVec.slt (BitVec.ofNat 32 n) (BitVec.ofNat 32 k)) = _
  congr 1
  rw [BitVec.slt_eq_decide, decide_eq_decide, WordArith.toInt_ofNat_small k hk, WordArith.toInt_ofNat_small n hn]
  omega

theorem cmp_eq_word {w : ℕ} (a b : BitVec w) : IntOp.cmpi .eq a b = BitVec.ofBool (decide (a.toNat = b.toNat)) := by
  show BitVec.ofBool (a == b) = _
  congr 1
  rw [Bool.eq_iff_iff, beq_iff_eq, decide_eq_true_iff, BitVec.toNat_inj]

theorem select_ofBool {α : Type} (p : Prop) [Decidable p] (x y : α) :
    Scalar.select (BitVec.ofBool (decide p)) x y = if p then x else y := by
  by_cases h : p <;> simp [h, Scalar.select]

/-- A one-hot row, summed against a column, is the column's entry. -/
theorem sum_hot {n : ℕ} (K : Prop) [Decidable K] (A D : ℕ) (hA : D ≤ A) (hB : A < D + n) (g : Fin n → EReal) :
    (∑ r : Fin n, (if K ∧ A = D + r.val then (1 : EReal) else 0) * g r) = if K then g ⟨A - D, by omega⟩ else 0 := by
  by_cases hK : K
  · rw [if_pos hK, Finset.sum_eq_single (⟨A - D, by omega⟩ : Fin n)]
    · rw [if_pos ⟨hK, by show A = D + (A - D); omega⟩, one_mul]
    · intro r _ hr
      rw [if_neg (fun h => hr (Fin.ext (by show r.val = A - D; omega))), zero_mul]
    · exact fun h => absurd (Finset.mem_univ _) h
  · rw [if_neg hK]
    exact Finset.sum_eq_zero fun r _ => by rw [if_neg (fun h => hK h.1), zero_mul]

/-- A one-hot row whose one lies outside sums to zero. -/
theorem sum_cold {n : ℕ} (K : Prop) [Decidable K] (A D : ℕ) (hA : ¬ (D ≤ A ∧ A < D + n)) (g : Fin n → EReal) :
    (∑ r : Fin n, (if K ∧ A = D + r.val then (1 : EReal) else 0) * g r) = 0 :=
  Finset.sum_eq_zero fun r _ => by rw [if_neg (fun h => hA (by have := r.isLt; omega)), zero_mul]

end Cert.MoeRank
end
-- ==== Proof.KI.Host.lean ====
/-
  The two tables that the host part makes, read entry by entry over the extended reals: an entry is one exactly where
  a token is kept and the row is the one that its expert and its count name.
-/
module
public import proofs.«01_k».proof.Proof.Gen.KernelIdeal.Regions
public import proofs.«01_k».proof.Proof.KI.Rank
public import Idealize.ShloMosaic.Lib.StableHlo.ReadAt
public import Idealize.ShloMosaic.Lib.Pointwise

@[expose] public section

set_option maxRecDepth 16384
noncomputable section

namespace Cert.KernelIdeal.MoeVal
open Cert.KernelIdeal Cert.KernelIdeal.Gen Cert.MoeRank
open Idealize.ShloMosaic Idealize.ShloMosaic.TcCoe

local notation "W𝕍" => Valuation τ sig (Elt Ideal)

/-! ## One stretch of host operations at a time -/

theorem seg0_onehot (V : W𝕍) (c : Dev nD) (b : Fin 64) (t : Fin 32) (k : Fin 32) :
    StableHlo.after (hostOps0 c) V (Proc.devRef .tc main_v13) (ix3 b t k)
      = (FloatOps.uitofp (F := Ideal) FTy.f32 (IntOp.cmpi .eq (V (Proc.devRef .tc main_arg2) (ix2 (tk b t) 0)) (BitVec.ofNat 32 k.val)) : EReal) := by
  after_reads_at

theorem seg0_ones (V : W𝕍) (c : Dev nD) (a b : Fin 32) :
    StableHlo.after (hostOps0 c) V (Proc.devRef .tc main_v14) (ix2 a b) = (1 : EReal) := by
  after_reads_at

theorem seg0_route (V : W𝕍) (c : Dev nD) (t : Fin 2048) :
    StableHlo.after (hostOps0 c) V (Proc.devRef .tc main_v5) (ix1 t) = V (Proc.devRef .tc main_arg2) (ix2 t 0) := by
  after_reads_at

theorem seg0_dev (V : W𝕍) (c : Dev nD) :
    StableHlo.after (hostOps0 c) V (Proc.devRef .tc main_v4) ix0 = BitVec.ofNat 32 c.val := by
  after_reads_at
  revert c; decide

theorem seg1_tril (V : W𝕍) (t s : Fin 32) :
    StableHlo.after hostOps0_1 V (Proc.devRef .tc main_v15) (ix2 t s)
      = (Scalar.select (IntOp.cmpi .sge (IntOp.addi (BitVec.ofNat 32 t.val) 4294967295#32) (BitVec.ofNat 32 s.val))
          (V (Proc.devRef .tc main_v14) (ix2 t s)) 0 : EReal) := by
  after_reads_at

/-- The count within a block, as the program sums it from the triangle and the one-hot table. -/
def withinOf (l : Fin 32 → Fin 32 → EReal) (o : Fin 64 → Fin 32 → Fin 32 → EReal) (b : Fin 64) (t k : Fin 32) : EReal :=
  ∑ x : Fin 32, l t x * o b x k

theorem seg2_within (V : W𝕍) (b : Fin 64) (t k : Fin 32) :
    StableHlo.after hostOps0_2 V (Proc.devRef .tc main_v21) (ix3 b t k)
      = withinOf (fun a b => V (Proc.devRef .tc main_v15) (ix2 a b)) (fun b i k => V (Proc.devRef .tc main_v13) (ix3 b i k)) b t k := by
  after_reads_at
  rfl

theorem seg2_ones (V : W𝕍) (a b : Fin 64) :
    StableHlo.after hostOps0_2 V (Proc.devRef .tc main_v22) (ix2 a b) = (1 : EReal) := by
  after_reads_at

theorem seg3_tril (V : W𝕍) (t s : Fin 64) :
    StableHlo.after hostOps0_3 V (Proc.devRef .tc main_v23) (ix2 t s)
      = (Scalar.select (IntOp.cmpi .sge (IntOp.addi (BitVec.ofNat 32 t.val) 4294967295#32) (BitVec.ofNat 32 s.val))
          (V (Proc.devRef .tc main_v22) (ix2 t s)) 0 : EReal) := by
  after_reads_at

/-- The count of a token, as the program sums it from the counts within a block, the triangle of blocks and the one-hot table. -/
def cntOf (w : Fin 64 → Fin 32 → Fin 32 → EReal) (l : Fin 64 → Fin 64 → EReal) (o : Fin 64 → Fin 32 → Fin 32 → EReal)
    (b : Fin 64) (i : Fin 32) : EReal :=
  ∑ k : Fin 32, (w b i k + ∑ b' : Fin 64, l b b' * ∑ s : Fin 32, o b' s k) * o b i k

/-- The same, of the buffers' contents. -/
def cnt (V : W𝕍) : Fin 64 → Fin 32 → EReal :=
  cntOf (fun b i k => V (Proc.devRef .tc main_v21) (ix3 b i k)) (fun b b' => V (Proc.devRef .tc main_v23) (ix2 b b'))
    (fun b i k => V (Proc.devRef .tc main_v13) (ix3 b i k))

theorem seg4_rank (V : W𝕍) (t : Fin 2048) :
    StableHlo.after hostOps0_4 V (Proc.devRef .tc main_v37) (ix1 t)
      = FloatOps.fptosi (F := Ideal) 32 (φ := .f32) (cnt V ⟨t.val / 32, by omega⟩ ⟨t.val % 32, by omega⟩) := by
  after_reads_at
  rfl

theorem seg4_kept (V : W𝕍) (t : Fin 2048) :
    StableHlo.after hostOps0_4 V (Proc.devRef .tc main_v39) (ix1 t)
      = IntOp.cmpi .slt (FloatOps.fptosi (F := Ideal) 32 (φ := .f32) (cnt V ⟨t.val / 32, by omega⟩ ⟨t.val % 32, by omega⟩)) 51#32 := by
  after_reads_at
  rfl

theorem seg4_row (V : W𝕍) (t : Fin 2048) :
    StableHlo.after hostOps0_4 V (Proc.devRef .tc main_v42) (ix1 t)
      = IntOp.addi (IntOp.muli (V (Proc.devRef .tc main_v5) (ix1 t)) 64#32)
          (FloatOps.fptosi (F := Ideal) 32 (φ := .f32) (cnt V ⟨t.val / 32, by omega⟩ ⟨t.val % 32, by omega⟩)) := by
  after_reads_at
  rfl

theorem seg4_disp (V : W𝕍) (r : Fin 512) (t : Fin 2048) :
    StableHlo.after hostOps0_4 V (Proc.devRef .tc main_v54) (ix2 r t)
      = IntOp.andi (IntOp.cmpi .eq (IntOp.addi (IntOp.muli (V (Proc.devRef .tc main_v5) (ix1 t)) 64#32)
            (FloatOps.fptosi (F := Ideal) 32 (φ := .f32) (cnt V ⟨t.val / 32, by omega⟩ ⟨t.val % 32, by omega⟩)))
          (IntOp.addi (IntOp.muli (V (Proc.devRef .tc main_v4) ix0) 512#32) (BitVec.ofNat 32 r.val)))
        (IntOp.cmpi .slt (FloatOps.fptosi (F := Ideal) 32 (φ := .f32) (cnt V ⟨t.val / 32, by omega⟩ ⟨t.val % 32, by omega⟩)) 51#32) := by
  after_reads_at
  rfl

theorem seg4_one (V : W𝕍) : StableHlo.after hostOps0_4 V (Proc.devRef .tc main_cst_9) ix0 = (1 : EReal) := by
  after_reads_at
theorem seg4_zero (V : W𝕍) : StableHlo.after hostOps0_4 V (Proc.devRef .tc main_cst_10) ix0 = (0 : EReal) := by
  after_reads_at

theorem seg5_where (V : W𝕍) (r : Fin 512) (t : Fin 2048) :
    StableHlo.after hostOps0_5 V (Proc.devRef .tc main_v55) (ix2 r t)
      = (Scalar.select (V (Proc.devRef .tc main_v54) (ix2 r t)) (V (Proc.devRef .tc main_cst_9) ix0 : EReal) (V (Proc.devRef .tc main_cst_10) ix0 : EReal) : EReal) := by
  after_reads_at

theorem seg6_disp (V : W𝕍) (r : Fin 512) (t : Fin 2048) :
    StableHlo.after hostOps0_6 V (Proc.devRef .tc main_v56) (ix2 r t) = (V (Proc.devRef .tc main_v55) (ix2 r t) : EReal) := by
  after_reads_at

theorem seg6_prev (V : W𝕍) :
    StableHlo.after hostOps0_6 V (Proc.devRef .tc main_v57) ix0 = IntOp.subi (V (Proc.devRef .tc main_v4) ix0) 1#32 := by
  after_reads_at
theorem seg6_four (V : W𝕍) : StableHlo.after hostOps0_6 V (Proc.devRef .tc main_c_12) ix0 = 4#32 := by
  after_reads_at

theorem seg7_rem (V : W𝕍) (c : Dev nD) (h : V (Proc.devRef .tc main_v57) ix0 = IntOp.subi (BitVec.ofNat 32 c.val) 1#32)
    (h4 : V (Proc.devRef .tc main_c_12) ix0 = 4#32) :
    StableHlo.after hostOps0_7 V (Proc.devRef .tc main_v58) ix0 = BitVec.ofNat 32 ((c.val + 3) % 4) := by
  after_reads_at
  simp only [id_eq, h, h4]
  clear h h4
  revert c; decide

theorem seg8_next (V : W𝕍) :
    StableHlo.after hostOps0_8 V (Proc.devRef .tc main_v59) ix0 = IntOp.addi (V (Proc.devRef .tc main_v4) ix0) 1#32 := by
  after_reads_at
theorem seg8_four (V : W𝕍) : StableHlo.after hostOps0_8 V (Proc.devRef .tc main_c_14) ix0 = 4#32 := by
  after_reads_at

theorem seg9_rem (V : W𝕍) (c : Dev nD) (h : V (Proc.devRef .tc main_v59) ix0 = IntOp.addi (BitVec.ofNat 32 c.val) 1#32)
    (h4 : V (Proc.devRef .tc main_c_14) ix0 = 4#32) :
    StableHlo.after hostOps0_9 V (Proc.devRef .tc main_v60) ix0 = BitVec.ofNat 32 ((c.val + 1) % 4) := by
  after_reads_at
  simp only [id_eq, h, h4]
  clear h h4
  revert c; decide

theorem seg10_next (V : W𝕍) :
    StableHlo.after hostOps0_10 V (Proc.devRef .tc main_v61) ix0 = IntOp.addi (V (Proc.devRef .tc main_v4) ix0) 2#32 := by
  after_reads_at
theorem seg10_four (V : W𝕍) : StableHlo.after hostOps0_10 V (Proc.devRef .tc main_c_16) ix0 = 4#32 := by
  after_reads_at

theorem seg11_rem (V : W𝕍) (c : Dev nD) (h : V (Proc.devRef .tc main_v61) ix0 = IntOp.addi (BitVec.ofNat 32 c.val) 2#32)
    (h4 : V (Proc.devRef .tc main_c_16) ix0 = 4#32) :
    StableHlo.after hostOps0_11 V (Proc.devRef .tc main_v62) ix0 = BitVec.ofNat 32 ((c.val + 2) % 4) := by
  after_reads_at
  simp only [id_eq, h, h4]
  clear h h4
  revert c; decide

/-- The device whose rows the `k`-th quarter of the second table's columns names, as the program holds it. -/
def devWord (V : W𝕍) (k : ℕ) : BitVec 32 :=
  if k = 0 then V (Proc.devRef .tc main_v4) ix0 else if k = 1 then V (Proc.devRef .tc main_v58) ix0
    else if k = 2 then V (Proc.devRef .tc main_v60) ix0 else V (Proc.devRef .tc main_v62) ix0

theorem seg12_quarter0 (V : W𝕍) (i : Fin 1) :
    StableHlo.upto hostOps0_12 V 4 (Proc.devRef .tc main_v63) (ix1 i) = V (Proc.devRef .tc main_v4) ix0 := by
  after_reads_at
theorem seg12_quarter1 (V : W𝕍) (i : Fin 1) :
    StableHlo.upto hostOps0_12 V 4 (Proc.devRef .tc main_v64) (ix1 i) = V (Proc.devRef .tc main_v58) ix0 := by
  after_reads_at
theorem seg12_quarter2 (V : W𝕍) (i : Fin 1) :
    StableHlo.upto hostOps0_12 V 4 (Proc.devRef .tc main_v65) (ix1 i) = V (Proc.devRef .tc main_v60) ix0 := by
  after_reads_at
theorem seg12_quarter3 (V : W𝕍) (i : Fin 1) :
    StableHlo.upto hostOps0_12 V 4 (Proc.devRef .tc main_v66) (ix1 i) = V (Proc.devRef .tc main_v62) ix0 := by
  after_reads_at

set_option maxHeartbeats 1000000 in
theorem seg12_unperm (V : W𝕍) (t q : Fin 2048) :
    StableHlo.after hostOps0_12 V (Proc.devRef .tc main_v84) (ix2 t q)
      = IntOp.andi (IntOp.cmpi .eq (V (Proc.devRef .tc main_v42) (ix1 t))
          (IntOp.addi (IntOp.muli (devWord V (q.val / 512)) 512#32) (BitVec.ofNat 32 (q.val % 512))))
        (V (Proc.devRef .tc main_v39) (ix1 t)) := by
  after_reads_at
  refine congrArg₂ IntOp.andi (congrArg (IntOp.cmpi .eq _) (congrArg (IntOp.addi · _) (congrArg (IntOp.muli · _) ?_))) rfl
  have hq : q.val < 2048 := q.isLt
  unfold devWord
  by_cases h0 : q.val / 512 = 0
  · rw [dif_pos (by omega), if_pos h0]; exact seg12_quarter0 V _
  · rw [dif_neg (by omega), if_neg h0]
    by_cases h1 : q.val / 512 = 1
    · rw [dif_pos (by omega), if_pos h1]; exact seg12_quarter1 V _
    · rw [dif_neg (by omega), if_neg h1]
      by_cases h2 : q.val / 512 = 2
      · rw [dif_pos (by omega), if_pos h2]; exact seg12_quarter2 V _
      · rw [dif_neg (by omega), if_neg h2]; exact seg12_quarter3 V _

theorem seg12_one (V : W𝕍) : StableHlo.after hostOps0_12 V (Proc.devRef .tc main_cst_18) ix0 = (1 : EReal) := by
  after_reads_at
theorem seg12_zero (V : W𝕍) : StableHlo.after hostOps0_12 V (Proc.devRef .tc main_cst_19) ix0 = (0 : EReal) := by
  after_reads_at

theorem seg13_where (V : W𝕍) (t q : Fin 2048) :
    StableHlo.after hostOps0_13 V (Proc.devRef .tc main_v85) (ix2 t q)
      = (Scalar.select (V (Proc.devRef .tc main_v84) (ix2 t q)) (V (Proc.devRef .tc main_cst_18) ix0 : EReal) (V (Proc.devRef .tc main_cst_19) ix0 : EReal) : EReal) := by
  after_reads_at

theorem seg14_unperm (V : W𝕍) (t q : Fin 2048) :
    StableHlo.after hostOps0_14 V (Proc.devRef .tc main_v86) (ix2 t q) = (V (Proc.devRef .tc main_v85) (ix2 t q) : EReal) := by
  after_reads_at

end Cert.KernelIdeal.MoeVal
end
-- ==== Proof.KI.Table.lean ====
/-
  The two tables as the kernel's region finds them, in terms of the experts that the tokens name.
-/
module
public import proofs.«01_k».proof.Proof.KI.Host
public import proofs.«01_k».proof.Proof.KI.Vals

@[expose] public section

set_option maxRecDepth 16384
noncomputable section

namespace Cert.KernelIdeal.MoeVal
open Cert.KernelIdeal Cert.KernelIdeal.Gen Cert.MoeRank
open Idealize.ShloMosaic Idealize.ShloMosaic.TcCoe
open Cert.KernelIdeal.Moe (nxt prv dv)

variable (m : (ℓ : Loc nD τ sig) → Buf (Elt Ideal) ℓ) (c : Dev nD)

/-- The word that names token `t`'s expert. -/
def rw_ (t : Fin 2048) : BitVec 32 := V0 m c main_arg2 (ix2 t 0)
/-- Token `t`'s expert. -/
def ex (t : Fin 2048) : ℕ := (rw_ m c t).toNat

variable {m c}

theorem uitofp_ofBool (p : Prop) [Decidable p] :
    FloatOps.uitofp (F := Ideal) FTy.f32 (BitVec.ofBool (decide p)) = (((if p then 1 else 0 : ℕ) : ℕ) : EReal) := by
  show (((BitVec.ofBool (decide p)).toNat : ℝ) : EReal) = _
  by_cases h : p <;> simp [h]

theorem onehot_at (b : Fin 64) (t k : Fin 32) : V1 m c main_v13 (ix3 b t k) = ((oh (ex m c) b t k : ℕ) : EReal) := by
  refine (seg0_onehot (V0 m c) c b t k).trans ?_
  rw [cmp_eq_word]
  refine (uitofp_ofBool _).trans ?_
  unfold oh ex rw_
  rw [WordArith.toNat_ofNat_of_lt _ (by have := k.isLt; omega)]

theorem tril1_at (t s : Fin 32) : V2 m c main_v15 (ix2 t s) = ((tri t s : ℕ) : EReal) := by
  refine (seg1_tril (V1 m c) t s).trans ?_
  rw [tri_word _ _ (by have := t.isLt; omega) (by have := s.isLt; omega), select_ofBool]
  have h : V1 m c main_v14 (ix2 t s) = (1 : EReal) := seg0_ones (V0 m c) c t s
  unfold tri
  by_cases hs : s.val < t.val
  · rw [if_pos hs, if_pos (show s < t from hs)]; exact h.trans (Nat.cast_one (R := EReal)).symm
  · rw [if_neg hs, if_neg (show ¬ s < t from hs)]; exact (Nat.cast_zero (R := EReal)).symm

theorem tril3_at (t s : Fin 64) : V4 m c main_v23 (ix2 t s) = ((tri t s : ℕ) : EReal) := by
  refine (seg3_tril (V3 m c) t s).trans ?_
  rw [tri_word _ _ (by have := t.isLt; omega) (by have := s.isLt; omega), select_ofBool]
  have h : V3 m c main_v22 (ix2 t s) = (1 : EReal) := seg2_ones (V2 m c) t s
  unfold tri
  by_cases hs : s.val < t.val
  · rw [if_pos hs, if_pos (show s < t from hs)]; exact h.trans (Nat.cast_one (R := EReal)).symm
  · rw [if_neg hs, if_neg (show ¬ s < t from hs)]; exact (Nat.cast_zero (R := EReal)).symm

theorem onehot2_at (b : Fin 64) (t k : Fin 32) : V2 m c main_v13 (ix3 b t k) = ((oh (ex m c) b t k : ℕ) : EReal) :=
  (congrFun (V2_of m c main_v13 (by decide)) _).trans (onehot_at b t k)

theorem onehot4_at (b : Fin 64) (t k : Fin 32) : V4 m c main_v13 (ix3 b t k) = ((oh (ex m c) b t k : ℕ) : EReal) :=
  (congrFun ((V4_of m c main_v13 (by decide)).trans (V3_of m c main_v13 (by decide))) _).trans (onehot2_at b t k)

theorem within_at (b : Fin 64) (t k : Fin 32) :
    V4 m c main_v21 (ix3 b t k) = withinOf (fun t s => ((tri t s : ℕ) : EReal)) (fun b s k => ((oh (ex m c) b s k : ℕ) : EReal)) b t k := by
  refine (congrFun (V4_of m c main_v21 (by decide)) _).trans ((seg2_within (V2 m c) b t k).trans ?_)
  exact congrArg₂ (fun l o => withinOf l o b t k) (funext fun a => funext fun s => tril1_at a s)
    (funext fun b => funext fun s => funext fun k => onehot2_at b s k)

theorem cnt_at (hE : ∀ t, ex m c t < 32) (b : Fin 64) (i : Fin 32) :
    cnt (V4 m c) b i = ((rk (ex m c) (tk b i) : ℕ) : EReal) := by
  refine Eq.trans ?_ (rank_sum' hE b i)
  unfold cnt cntOf
  refine Finset.sum_congr rfl fun k _ => congrArg₂ (· * ·) (congrArg₂ (· + ·) (within_at b i k)
    (Finset.sum_congr rfl fun b' _ => congrArg₂ (· * ·) (tril3_at b b') (Finset.sum_congr rfl fun s _ => onehot4_at b' s k))) (onehot4_at b i k)

/-- The word that holds a token's count. -/
theorem cnt_word (hE : ∀ t, ex m c t < 32) (t : Fin 2048) :
    FloatOps.fptosi (F := Ideal) 32 (φ := .f32) (cnt (V4 m c) ⟨t.val / 32, by omega⟩ ⟨t.val % 32, by omega⟩)
      = BitVec.ofNat 32 (rk (ex m c) t) := by
  rw [cnt_at hE]
  have ht : tk ⟨t.val / 32, by omega⟩ ⟨t.val % 32, by omega⟩ = t := Fin.ext (by show t.val / 32 * 32 + t.val % 32 = t.val; omega)
  rw [ht]
  exact fptosi_nat _ (by have := rk_lt (E := ex m c) t; omega)

theorem route_at (t : Fin 2048) : V1 m c main_v5 (ix1 t) = BitVec.ofNat 32 (ex m c t) := by
  refine (seg0_route (V0 m c) c t).trans ?_
  unfold ex
  rw [BitVec.ofNat_toNat, BitVec.setWidth_eq]
  rfl

theorem route4_at (t : Fin 2048) : V4 m c main_v5 (ix1 t) = BitVec.ofNat 32 (ex m c t) :=
  (congrFun ((V4_of m c main_v5 (by decide)).trans ((V3_of m c main_v5 (by decide)).trans (V2_of m c main_v5 (by decide)))) _).trans (route_at t)

theorem dev1_at : V1 m c main_v4 ix0 = BitVec.ofNat 32 c.val := seg0_dev (V0 m c) c
theorem dev4_at : V4 m c main_v4 ix0 = BitVec.ofNat 32 c.val :=
  (congrFun ((V4_of m c main_v4 (by decide)).trans ((V3_of m c main_v4 (by decide)).trans (V2_of m c main_v4 (by decide)))) _).trans dev1_at
theorem dev6_at : V6 m c main_v4 ix0 = BitVec.ofNat 32 c.val :=
  (congrFun ((V6_of m c main_v4 (by decide)).trans (V5_of m c main_v4 (by decide))) _).trans dev4_at
theorem dev8_at : V8 m c main_v4 ix0 = BitVec.ofNat 32 c.val :=
  (congrFun ((V8_of m c main_v4 (by decide)).trans (V7_of m c main_v4 (by decide))) _).trans dev6_at
theorem dev10_at : V10 m c main_v4 ix0 = BitVec.ofNat 32 c.val :=
  (congrFun ((V10_of m c main_v4 (by decide)).trans (V9_of m c main_v4 (by decide))) _).trans dev8_at
theorem dev12_at : V12 m c main_v4 ix0 = BitVec.ofNat 32 c.val :=
  (congrFun ((V12_of m c main_v4 (by decide)).trans (V11_of m c main_v4 (by decide))) _).trans dev10_at

theorem row_word (a n : ℕ) : IntOp.addi (IntOp.muli (BitVec.ofNat 32 a) 64#32) (BitVec.ofNat 32 n) = BitVec.ofNat 32 (64 * a + n) := by
  unfold IntOp.addi IntOp.muli
  rw [← BitVec.ofNat_mul, ← BitVec.ofNat_add, Nat.mul_comm]
theorem col_word (a n : ℕ) : IntOp.addi (IntOp.muli (BitVec.ofNat 32 a) 512#32) (BitVec.ofNat 32 n) = BitVec.ofNat 32 (512 * a + n) := by
  unfold IntOp.addi IntOp.muli
  rw [← BitVec.ofNat_mul, ← BitVec.ofNat_add, Nat.mul_comm]

theorem select_at {p : Prop} [Decidable p] {w : BitVec 1} {x y : EReal} (hw : w = BitVec.ofBool (decide p)) (hx : x = 1) (hy : y = 0) :
    Scalar.select w x y = if p then (1 : EReal) else 0 := by
  subst hw hx hy; exact select_ofBool _ _ _

/-- The mark of a token and a row: the row is the token's, and the token is kept. -/
theorem mark (a n d r : ℕ) (ha : a < 32) (hn : n < 2048) (hd : d < 4) (hr : r < 512) :
    IntOp.andi (IntOp.cmpi .eq (BitVec.ofNat 32 (64 * a + n)) (BitVec.ofNat 32 (512 * d + r))) (IntOp.cmpi .slt (BitVec.ofNat 32 n) 51#32)
      = BitVec.ofBool (decide (n < 51 ∧ 64 * a + n = 512 * d + r)) := by
  rw [cmp_eq_word, cmp_slt_nat n 51 (by omega) (by omega), WordArith.andi_ofBool, WordArith.toNat_ofNat_of_lt _ (by omega),
    WordArith.toNat_ofNat_of_lt _ (by omega), Bool.and_comm]
  congr 1
  exact (Bool.decide_and _ _).symm

/-- The first table: one where the row is a kept token's row on this device. -/
theorem disp_at (hE : ∀ t, ex m c t < 32) (r : Fin 512) (t : Fin 2048) :
    V15 m c main_v56 (ix2 r t)
      = (if rk (ex m c) t < 51 ∧ 64 * ex m c t + rk (ex m c) t = 512 * c.val + r.val then (1 : EReal) else 0) := by
  have hw : V5 m c main_v54 (ix2 r t) = BitVec.ofBool (decide (rk (ex m c) t < 51 ∧ 64 * ex m c t + rk (ex m c) t = 512 * c.val + r.val)) := by
    refine (seg4_disp (V4 m c) r t).trans ?_
    rw [cnt_word hE]
    refine Eq.trans ?_ (mark _ _ c.val r.val (hE t) (rk_lt t) c.isLt r.isLt)
    rw [← row_word, ← col_word]
    exact congrArg₂ IntOp.andi (congrArg₂ (IntOp.cmpi .eq) (congrArg (IntOp.addi · _) (congrArg (IntOp.muli · _) (route4_at t)))
      (congrArg (IntOp.addi · _) (congrArg (IntOp.muli · _) dev4_at))) rfl
  have h1 : V5 m c main_cst_9 ix0 = (1 : EReal) := seg4_one (V4 m c)
  have h0 : V5 m c main_cst_10 ix0 = (0 : EReal) := seg4_zero (V4 m c)
  have h7 : V7 m c main_v56 (ix2 r t) = (if rk (ex m c) t < 51 ∧ 64 * ex m c t + rk (ex m c) t = 512 * c.val + r.val then (1 : EReal) else 0) := by
    refine (seg6_disp (V6 m c) r t).trans ((seg5_where (V5 m c) r t).trans ?_)
    exact select_at hw h1 h0
  exact (congrFun ((V15_of m c main_v56 (by decide)).trans ((V14_of m c main_v56 (by decide)).trans ((V13_of m c main_v56 (by decide)).trans
    ((V12_of m c main_v56 (by decide)).trans ((V11_of m c main_v56 (by decide)).trans ((V10_of m c main_v56 (by decide)).trans
    ((V9_of m c main_v56 (by decide)).trans (V8_of m c main_v56 (by decide))))))))) _).trans h7

theorem prev_at : V12 m c main_v58 ix0 = BitVec.ofNat 32 ((c.val + 3) % 4) := by
  have h : V8 m c main_v58 ix0 = BitVec.ofNat 32 ((c.val + 3) % 4) :=
    seg7_rem (V7 m c) c ((seg6_prev (V6 m c)).trans (congrArg (IntOp.subi · _) dev6_at)) (seg6_four (V6 m c))
  exact (congrFun ((V12_of m c main_v58 (by decide)).trans ((V11_of m c main_v58 (by decide)).trans ((V10_of m c main_v58 (by decide)).trans
    (V9_of m c main_v58 (by decide))))) _).trans h

theorem next_at : V12 m c main_v60 ix0 = BitVec.ofNat 32 ((c.val + 1) % 4) := by
  have h : V10 m c main_v60 ix0 = BitVec.ofNat 32 ((c.val + 1) % 4) :=
    seg9_rem (V9 m c) c ((seg8_next (V8 m c)).trans (congrArg (IntOp.addi · _) dev8_at)) (seg8_four (V8 m c))
  exact (congrFun ((V12_of m c main_v60 (by decide)).trans (V11_of m c main_v60 (by decide))) _).trans h

theorem opp_at : V12 m c main_v62 ix0 = BitVec.ofNat 32 ((c.val + 2) % 4) :=
  seg11_rem (V11 m c) c ((seg10_next (V10 m c)).trans (congrArg (IntOp.addi · _) dev10_at)) (seg10_four (V10 m c))

/-- The device of a quarter, as the program holds it. -/
theorem devWord_at (k : ℕ) : devWord (V12 m c) k = BitVec.ofNat 32 (dv c k).val := by
  unfold devWord dv
  split_ifs
  · exact dev12_at
  · exact prev_at
  · exact next_at
  · refine opp_at.trans (congrArg (BitVec.ofNat 32) ?_)
    show (c.val + 2) % 4 = ((c.val + 1) % 4 + 1) % 4
    omega

/-- The second table: one where the column is a kept token's row on the device of the column's quarter. -/
theorem unperm_at (hE : ∀ t, ex m c t < 32) (t q : Fin 2048) :
    V15 m c main_v86 (ix2 t q)
      = (if rk (ex m c) t < 51 ∧ 64 * ex m c t + rk (ex m c) t = 512 * (dv c (q.val / 512)).val + q.val % 512 then (1 : EReal) else 0) := by
  have hrow : V12 m c main_v42 (ix1 t) = BitVec.ofNat 32 (64 * ex m c t + rk (ex m c) t) := by
    have h5 : V5 m c main_v42 (ix1 t) = BitVec.ofNat 32 (64 * ex m c t + rk (ex m c) t) := by
      refine (seg4_row (V4 m c) t).trans ?_
      rw [cnt_word hE, ← row_word]
      exact congrArg (IntOp.addi · _) (congrArg (IntOp.muli · _) (route4_at t))
    exact (congrFun ((V12_of m c main_v42 (by decide)).trans ((V11_of m c main_v42 (by decide)).trans ((V10_of m c main_v42 (by decide)).trans
      ((V9_of m c main_v42 (by decide)).trans ((V8_of m c main_v42 (by decide)).trans ((V7_of m c main_v42 (by decide)).trans
      (V6_of m c main_v42 (by decide)))))))) _).trans h5
  have hkept : V12 m c main_v39 (ix1 t) = IntOp.cmpi .slt (BitVec.ofNat 32 (rk (ex m c) t)) 51#32 := by
    have h5 : V5 m c main_v39 (ix1 t) = IntOp.cmpi .slt (BitVec.ofNat 32 (rk (ex m c) t)) 51#32 := by
      refine (seg4_kept (V4 m c) t).trans ?_
      rw [cnt_word hE]
    exact (congrFun ((V12_of m c main_v39 (by decide)).trans ((V11_of m c main_v39 (by decide)).trans ((V10_of m c main_v39 (by decide)).trans
      ((V9_of m c main_v39 (by decide)).trans ((V8_of m c main_v39 (by decide)).trans ((V7_of m c main_v39 (by decide)).trans
      (V6_of m c main_v39 (by decide)))))))) _).trans h5
  have hw : V13 m c main_v84 (ix2 t q) = BitVec.ofBool (decide (rk (ex m c) t < 51 ∧ 64 * ex m c t + rk (ex m c) t = 512 * (dv c (q.val / 512)).val + q.val % 512)) := by
    refine (seg12_unperm (V12 m c) t q).trans ?_
    refine Eq.trans ?_ (mark _ _ _ _ (hE t) (rk_lt t) (dv c (q.val / 512)).isLt (Nat.mod_lt _ (by decide)))
    rw [devWord_at, col_word]
    exact congrArg₂ IntOp.andi (congrArg (IntOp.cmpi .eq · _) hrow) hkept
  have h1 : V13 m c main_cst_18 ix0 = (1 : EReal) := seg12_one (V12 m c)
  have h0 : V13 m c main_cst_19 ix0 = (0 : EReal) := seg12_zero (V12 m c)
  refine (seg14_unperm (V14 m c) t q).trans ((seg13_where (V13 m c) t q).trans ?_)
  exact select_at hw h1 h0

end Cert.KernelIdeal.MoeVal
end
-- ==== Proof.KI.Out.lean ====
/-
  What the region computes, entry by entry over the extended reals: a kept token's row times its expert's weights, and
  zero for a token that is not kept.
-/
module
public import proofs.«01_k».proof.Proof.KI.Table

@[expose] public section

set_option maxRecDepth 16384
noncomputable section

namespace Cert.KernelIdeal.MoeVal
open Cert.KernelIdeal Cert.KernelIdeal.Gen Cert.MoeRank
open Idealize.ShloMosaic Idealize.ShloMosaic.TcCoe
open Cert.KernelIdeal.Moe (nxt prv dv Ins xb xg xgRows wv Yc G yb ub o0 o1 o2 o3)

theorem moe_ix2 {a b : ℕ} (r : ℕ) (hr : r < a) (k : Fin b) : Moe.ix2 r hr k = ix2 (⟨r, hr⟩ : Fin a) k := by
  funext j; fin_cases j <;> rfl
theorem moe_pair {a b : ℕ} (r : Fin a) (k : Fin b) : Shape.pair (d := ![a, b]) r k = ix2 r k := by
  funext j; fin_cases j <;> rfl
theorem moe_ix3 {a b c : ℕ} (r : ℕ) (hr : r < a) (k : Fin b) (l : Fin c) : Moe.ix3 r hr k l = ix3 (⟨r, hr⟩ : Fin a) k l := by
  funext j; fin_cases j <;> rfl

theorem held_lt (c : Dev nD) (e : Fin 8) : 8 * c.val + e.val < 32 := by
  have hc : c.val < 4 := c.isLt
  omega
/-- The expert that device `c` holds in place `e`. -/
def held (c : Dev nD) (e : Fin 8) : Fin 32 := ⟨8 * c.val + e.val, held_lt c e⟩

variable (I : Ins Ideal)

theorem xg_at (c : Dev nD) (r : Fin 512) (j : Fin 1024) :
    xg I c (ix2 r j) = dotE (fun s : Fin 2048 => I.d c (ix2 r s)) (fun s => I.x c (ix2 s j)) := by
  unfold xg xb dotE
  pointwise [k0_pay2, k0_pay1]

theorem Y_at (c : Dev nD) (e : Fin 8) (p : Fin 64) (d : Fin 1024) :
    Yc I c e (ix2 p d) = dotE (fun j : Fin 1024 => xg I c (ix2 (⟨64 * e.val + p.val, by omega⟩ : Fin 512) j)) (fun j => I.w c (ix3 e j d)) := by
  unfold Yc dotE
  pointwise [k0_pay3]
  refine Finset.sum_congr rfl fun j _ => ?_
  refine congrArg₂ (fun a b : EReal => a * b) (congrArg (xg I c) (moe_ix2 _ _ _)) (congrArg (I.w c) (moe_ix3 _ _ _ _))

/-- One quarter's product. -/
def quarter (c : Dev nD) (t : Fin 2048) (d : Fin 1024) (k : Fin 4) : EReal :=
  dotE (fun r : Fin 512 => ub I c k (ix2 t r)) (fun r => yb I c k (ix2 r d))

theorem o3_at (c : Dev nD) (t : Fin 2048) (d : Fin 1024) :
    o3 I c (ix2 t d) = ((quarter I c t d 0 + quarter I c t d 1) + quarter I c t d 2) + quarter I c t d 3 := by
  unfold o3 o2 o1 o0 quarter dotE
  pointwise [k0_pay16, k0_pay15, k0_pay14, k0_pay13]

theorem Yc_congr (d : Fin 1024) {a a' : Dev nD} {e e' : Fin 8} {p p' : Fin 64} (ha : a = a') (he : e = e') (hp : p = p') :
    Yc I a e (ix2 p d) = Yc I a' e' (ix2 p' d) := by subst ha he hp; rfl

theorem yb_at (c : Dev nD) (k : Fin 4) (r : Fin 512) (d : Fin 1024) :
    yb I c k (ix2 r d) = Yc I (dv c k.val) ⟨r.val / 64, by omega⟩ (ix2 (⟨r.val % 64, Nat.mod_lt _ (by decide)⟩ : Fin 64) d) := by
  have hk := k.isLt
  have hr := r.isLt
  have h1 : (512 * k.val + r.val) / 512 = k.val := by omega
  have h2 : (512 * k.val + r.val) % 512 / 64 = r.val / 64 := by omega
  have h3 : (512 * k.val + r.val) % 64 = r.val % 64 := by omega
  exact (congrArg (Yc I _ _) (moe_ix2 _ _ _)).trans (Yc_congr I d (congrArg (dv c) h1) (Fin.ext h2) (Fin.ext h3))

theorem ub_at (c : Dev nD) (k : Fin 4) (t : Fin 2048) (r : Fin 512) :
    ub I c k (ix2 t r) = I.u c (ix2 t (⟨512 * k.val + r.val, by omega⟩ : Fin 2048)) :=
  congrArg (I.u c) (moe_pair _ _)

variable {E : Fin 2048 → ℕ} (hE : ∀ t, E t < 32)
  (hd : ∀ (c : Dev nD) (r : Fin 512) (t : Fin 2048), I.d c (ix2 r t) = (if rk E t < 51 ∧ 64 * E t + rk E t = 512 * c.val + r.val then (1 : EReal) else 0))
  (hu : ∀ (c : Dev nD) (t q : Fin 2048), I.u c (ix2 t q) = (if rk E t < 51 ∧ 64 * E t + rk E t = 512 * (dv c (q.val / 512)).val + q.val % 512 then (1 : EReal) else 0))
  {X : Fin 2048 → Fin 1024 → EReal} (hx : ∀ c t j, I.x c (ix2 t j) = X t j)
  {W : Fin 32 → Fin 1024 → Fin 1024 → EReal} (hw : ∀ (c : Dev nD) (e : Fin 8) j d, I.w c (ix3 e j d) = W (held c e) j d)

include hd hx in
/-- The gathered row of a kept token is the token. -/
theorem xg_token (c : Dev nD) (t : Fin 2048) (ht : rk E t < 51) (r : Fin 512) (hr : 64 * E t + rk E t = 512 * c.val + r.val) (j : Fin 1024) :
    xg I c (ix2 r j) = X t j := by
  rw [xg_at]
  unfold dotE
  rw [Finset.sum_eq_single t]
  · dsimp only
    rw [hd c r t, if_pos ⟨ht, hr⟩, one_mul]; exact hx c t j
  · intro s _ hs
    dsimp only
    rw [hd c r s, if_neg (fun h => hs (row_inj h.1 ht (h.2.trans hr.symm))), zero_mul]
  · exact fun h => absurd (Finset.mem_univ _) h

include hE hd hu hx hw in
/-- A quarter's product is the token's result where the quarter is that of the token's expert, and zero elsewhere. -/
theorem quarter_at (c : Dev nD) (t : Fin 2048) (d : Fin 1024) (k : Fin 4) :
    quarter I c t d k = if rk E t < 51 ∧ E t / 8 = (dv c k.val).val then dotE (X t) (fun j => W ⟨E t, hE t⟩ j d) else 0 := by
  have hu' : ∀ r : Fin 512, ub I c k (ix2 t r) = (if rk E t < 51 ∧ 64 * E t + rk E t = 512 * (dv c k.val).val + r.val then (1 : EReal) else 0) := fun r => by
    have hk := k.isLt
    have hr := r.isLt
    have h1 : (512 * k.val + r.val) / 512 = k.val := by omega
    have h2 : (512 * k.val + r.val) % 512 = r.val := by omega
    rw [ub_at, hu]
    simp only [h1, h2]
  unfold quarter
  rw [show (fun r : Fin 512 => (ub I c k (ix2 t r) : EReal)) = fun r => (if rk E t < 51 ∧ 64 * E t + rk E t = 512 * (dv c k.val).val + r.val then (1 : EReal) else 0) from funext hu']
  have hEt := hE t
  have hD : (dv c k.val).val < 4 := (dv c k.val).isLt
  by_cases hK : rk E t < 51
  · by_cases hq : E t / 8 = (dv c k.val).val
    · rw [if_pos ⟨hK, hq⟩]
      unfold dotE
      rw [sum_hot (rk E t < 51) (64 * E t + rk E t) (512 * (dv c k.val).val) (by omega) (by omega), if_pos hK]
      refine (yb_at I c k _ d).trans ((Y_at I _ _ _ d).trans ?_)
      unfold dotE
      refine Finset.sum_congr rfl fun j _ => congrArg₂ (fun a b : EReal => a * b) ?_ ?_
      · refine xg_token I hd hx _ t hK _ ?_ j
        show 64 * E t + rk E t = 512 * (dv c k.val).val + (64 * ((64 * E t + rk E t - 512 * (dv c k.val).val) / 64) + (64 * E t + rk E t - 512 * (dv c k.val).val) % 64)
        omega
      · refine (hw _ _ j d).trans (congrArg (fun e => W e j d) (Fin.ext ?_))
        show 8 * (dv c k.val).val + (64 * E t + rk E t - 512 * (dv c k.val).val) / 64 = E t
        omega
    · rw [if_neg (fun h => hq h.2)]
      exact sum_cold _ _ _ (by omega) _
  · rw [if_neg (fun h => hK h.1)]
    exact Finset.sum_eq_zero fun r _ => by dsimp only; rw [if_neg (fun h => hK h.1), zero_mul]

/-- Of the four quarters exactly one is that of a given device. -/
theorem one_quarter (c : Dev nD) (n : ℕ) (hn : n < 4) (v : EReal) :
    ((((if n = (dv c 0).val then v else 0) + (if n = (dv c 1).val then v else 0)) + (if n = (dv c 2).val then v else 0)) + (if n = (dv c 3).val then v else 0)) = v := by
  have hc : c.val < 4 := c.isLt
  have h0 : (dv c 0).val = c.val := rfl
  have h1 : (dv c 1).val = (c.val + 3) % 4 := rfl
  have h2 : (dv c 2).val = (c.val + 1) % 4 := rfl
  have h3 : (dv c 3).val = ((c.val + 1) % 4 + 1) % 4 := rfl
  rw [h0, h1, h2, h3]
  generalize c.val = a at hc
  interval_cases a <;> interval_cases n <;> simp

include hE hd hu hx hw in
/-- What the region leaves: a kept token's row times its expert's weights, zero for a token that is not kept. -/
theorem o3_value (c : Dev nD) (t : Fin 2048) (d : Fin 1024) :
    o3 I c (ix2 t d) = if rk E t < 51 then dotE (X t) (fun j => W ⟨E t, hE t⟩ j d) else 0 := by
  rw [o3_at]
  rw [quarter_at I hE hd hu hx hw, quarter_at I hE hd hu hx hw, quarter_at I hE hd hu hx hw, quarter_at I hE hd hu hx hw]
  by_cases hK : rk E t < 51
  · simp only [hK, true_and, if_true]
    exact one_quarter c (E t / 8) (by have := hE t; omega) _
  · simp only [hK, false_and, if_false, add_zero]

end Cert.KernelIdeal.MoeVal
end
-- ==== Proof.KI.Value.lean ====
/-
  The kernel's result from its arguments: the region's arguments are the program's own, and the two selection matrices
  are those of the tokens' experts.
-/
module
public import proofs.«01_k».proof.Proof.KI.Out
public import proofs.«01_k».proof.Proof.KI.Seg

@[expose] public section

set_option maxRecDepth 16384
noncomputable section

namespace Cert.KernelIdeal.MoeVal
open Cert.KernelIdeal Cert.KernelIdeal.Gen Cert.MoeRank
open Idealize.ShloMosaic Idealize.ShloMosaic.TcCoe
open Cert.KernelIdeal.Moe (nxt prv dv insOf o3)

variable (m : (ℓ : Loc nD τ sig) → Buf (Elt Ideal) ℓ)

theorem arg0_kept (c : Dev nD) : V15 m c main_arg0 = m ((c.tc : Thread nD τ).loc main_arg0) :=
  (V15_of m c main_arg0 (by decide)).trans <| (V14_of m c main_arg0 (by decide)).trans <| (V13_of m c main_arg0 (by decide)).trans <|
  (V12_of m c main_arg0 (by decide)).trans <| (V11_of m c main_arg0 (by decide)).trans <| (V10_of m c main_arg0 (by decide)).trans <|
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl

theorem arg3_kept (c : Dev nD) : V15 m c main_arg3 = m ((c.tc : Thread nD τ).loc main_arg3) :=
  (V15_of m c main_arg3 (by decide)).trans <| (V14_of m c main_arg3 (by decide)).trans <| (V13_of m c main_arg3 (by decide)).trans <|
  (V12_of m c main_arg3 (by decide)).trans <| (V11_of m c main_arg3 (by decide)).trans <| (V10_of m c main_arg3 (by decide)).trans <|
  (V9_of m c main_arg3 (by decide)).trans <| (V8_of m c main_arg3 (by decide)).trans <| (V7_of m c main_arg3 (by decide)).trans <|
  (V6_of m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl

/-- The kernel's result at an entry, when the devices hold one array of tokens, one of experts, and the blocks of one array
    of weights. -/
theorem kernel_value (X : FVec Ideal S2048x1024 .f32) (e : IVec S2048x1 32) (W : FVec Ideal ⟨3, ![32, 1024, 1024]⟩ .f32)
    (hx : ∀ c : Dev nD, m ((c.tc : Thread nD τ).loc main_arg0) = X)
    (he : ∀ c : Dev nD, m ((c.tc : Thread nD τ).loc main_arg2) = e)
    (hw : ∀ (c : Dev nD) (k : Fin 8) (j d : Fin 1024), m ((c.tc : Thread nD τ).loc main_arg3) (ix3 k j d)
      = W (ix3 (held c k) j d))
    (E : Fin 2048 → ℕ) (hE : ∀ t, (e (ix2 t 0)).toNat = E t) (hlt : ∀ t, E t < 32)
    (c : Dev nD) (t : Fin 2048) (d : Fin 1024) :
    o3 (insOf m) c (ix2 t d) = if rk E t < 51 then dotE (fun j : Fin 1024 => X (ix2 t j)) (fun j => W (ix3 (⟨E t, hlt t⟩ : Fin 32) j d)) else 0 := by
  have hex : ∀ c, ex m c = E := fun c => funext fun t => (congrArg BitVec.toNat (congrFun (he c) (ix2 t 0))).trans (hE t)
  refine o3_value (insOf m) (E := E) hlt (fun c r t => ?_) (fun c t q => ?_) (X := fun t j => X (ix2 t j)) (fun c t j => ?_)
    (W := fun k j d => W (ix3 k j d)) (fun c k j d => ?_) c t d
  · have h := disp_at (m := m) (c := c) (by rw [hex]; exact hlt) r t
    rw [hex] at h
    exact h
  · have h := unperm_at (m := m) (c := c) (by rw [hex]; exact hlt) t q
    rw [hex] at h
    exact h
  · exact congrFun ((arg0_kept m c).trans (hx c)) _
  · exact (congrFun (arg3_kept m c) _).trans (hw c k j d)

end Cert.KernelIdeal.MoeVal
end
-- ==== Proof.Ref.lean ====
/-
  What the reference computes, entry by entry over the extended reals: a token's row times its expert's weights if fewer
  than 51 earlier tokens went to that expert, zero otherwise.
-/
module
public import proofs.«01_k».proof.Proof.Gen.ReferenceIdeal.Run
public import proofs.«01_k».proof.Proof.KI.Rank
public import proofs.«01_k».proof.Pre_routes_name_experts_KernelIdeal
public import Idealize.ShloMosaic.Lib.ReduceAll

@[expose] public section

set_option maxRecDepth 16384
noncomputable section

namespace Cert.ReferenceIdeal.MoeVal
open Cert.ReferenceIdeal Cert.ReferenceIdeal.Gen Cert.MoeRank
open Idealize.ShloMosaic Idealize.ShloMosaic.WordArith Idealize.ShloMosaic.IndicatorCount

/-- The tokens' experts, as a row of words. -/
def experts (e : IVec S2048x1 32) : IVec S2048 32 := shapeCast _ e shapeCasts_S2048x1_S2048

/-- How many earlier tokens went to a token's expert. -/
def counts (e : IVec S2048x1 32) : IVec S2048 32 :=
  Host.reduce IntOp.addi (extui 32 (andi (cmpi .eq (broadcastInDim S2048x2048 ![0, 1] bcast_S2048x1_S2048x2048_0_1 (broadcastInDim S2048x1 ![0] bcast_S2048_S2048x1_0 (experts e))) (broadcastInDim S2048x2048 ![0, 1] bcast_S1x2048_S2048x2048_0_1 (broadcastInDim S1x2048 ![1] bcast_S2048_S1x2048_1 (experts e))))
    (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) natLt_1_32)
    (constantI S_ 32 0#32) reducesTo_S2048x2048_S2048_d1 h_S_

/-- Whether a token is computed by an expert. -/
def routed (e : IVec S2048x1 32) : IVec S2048x32 1 :=
  andi (cmpi .eq (broadcastInDim S2048x32 ![0, 1] bcast_S2048x1_S2048x32_0_1 (broadcastInDim S2048x1 ![0] bcast_S2048_S2048x1_0 (experts e))) (broadcastInDim S2048x32 ![0, 1] bcast_S1x32_S2048x32_0_1 (broadcastInDim S1x32 ![1] bcast_S32_S1x32_1 (iotaInDim S32 32 0))))
    (broadcastInDim S2048x32 ![0, 1] bcast_S2048x1_S2048x32_0_1 (broadcastInDim S2048x1 ![0] bcast_S2048_S2048x1_0 (cmpi .slt (counts e) (broadcastInDim S2048 ![] bcast_S_S2048 (constantI S_ 32 51#32)))))

/-- The reference's result. -/
def out (x : FVec Ideal S2048x1024 .f32) (e : IVec S2048x1 32) (w : FVec Ideal S32x1024x1024 .f32) : FVec Ideal S2048x1024 .f32 :=
  Host.reduceAdd (select (broadcastInDim S2048x32x1024 ![0, 1, 2] bcast_S2048x32x1_S2048x32x1024_0_1_2 (broadcastInDim S2048x32x1 ![0, 1] bcast_S2048x32_S2048x32x1_0_1 (routed e)))
    (Host.dotGeneral dot_S2048x1024_S32x1024x1024_S2048x32x1024_1_1_0_02_n_n none x w) (broadcastInDim S2048x32x1024 ![] bcast_S_S2048x32x1024 (id (constant S_ .f32 0x00000000#32))))
    (constant S_ .f32 0x00000000#32) reducesTo_S2048x32x1024_S2048x1024_d1 h_S_

theorem counts_read (e : IVec S2048x1 32) (t : Fin 2048) :
    counts e (ix1 t) = (Finset.univ : Finset (Fin 2048)).fold IntOp.addi (0#32) (fun s => (IntOp.andi (IntOp.cmpi .eq (e (ix2 t 0)) (e (ix2 s 0))) (IntOp.cmpi .slt (BitVec.ofNat 32 s.val) (BitVec.ofNat 32 t.val))).setWidth 32) := by
  pointwise [counts, experts]

theorem routed_read (e : IVec S2048x1 32) (t : Fin 2048) (k : Fin 32) :
    routed e (ix2 t k) = IntOp.andi (IntOp.cmpi .eq (e (ix2 t 0)) (BitVec.ofNat 32 k.val)) (IntOp.cmpi .slt (counts e (ix1 t)) 51#32) := by
  pointwise [routed, experts]

theorem out_read (x : FVec Ideal S2048x1024 .f32) (e : IVec S2048x1 32) (w : FVec Ideal S32x1024x1024 .f32) (t : Fin 2048) (d : Fin 1024) :
    out x e w (ix2 t d) = ∑ k : Fin 32, Scalar.select (routed e (ix2 t k)) (dotE (fun j : Fin 1024 => x (ix2 t j)) (fun j => w (ix3 k j d))) 0 := by
  unfold dotE
  pointwise [out]
  simp only [id_eq]
  pointwise []

variable {e : IVec S2048x1 32} {E : Fin 2048 → ℕ} (hE : ∀ t, (e (ix2 t 0)).toNat = E t)

include hE in
theorem counts_at (t : Fin 2048) : counts e (ix1 t) = BitVec.ofNat 32 (rk E t) := by
  rw [counts_read, fold_addi_setWidth_eq_card]
  refine congrArg (BitVec.ofNat 32) ?_
  unfold rk
  refine congrArg Finset.card (Finset.filter_congr fun s _ => ?_)
  rw [cmp_eq_word, cmp_slt_nat _ _ (by omega) (by omega), hE, hE, andi_ofBool, ofBool_eq_one_iff]
  rw [Bool.and_eq_true, decide_eq_true_iff, decide_eq_true_iff]
  exact ⟨fun h => ⟨h.2, h.1.symm⟩, fun h => ⟨h.2.symm, h.1⟩⟩

include hE in
theorem routed_at (t : Fin 2048) (k : Fin 32) : routed e (ix2 t k) = BitVec.ofBool (decide (E t = k.val ∧ rk E t < 51)) := by
  rw [routed_read, counts_at hE, cmp_eq_word, hE]
  have h1 : (BitVec.ofNat 32 k.val).toNat = k.val := by rw [BitVec.toNat_ofNat]; exact Nat.mod_eq_of_lt (by omega)
  have h2 : IntOp.cmpi .slt (BitVec.ofNat 32 (rk E t)) 51#32 = BitVec.ofBool (decide (rk E t < 51)) :=
    cmp_slt_nat _ 51 (by have := rk_lt (E := E) t; omega) (by omega)
  rw [h1, h2, andi_ofBool, Bool.decide_and]

include hE in
/-- The reference's result at an entry. -/
theorem out_value (hlt : ∀ t, E t < 32) (x : FVec Ideal S2048x1024 .f32) (w : FVec Ideal S32x1024x1024 .f32) (t : Fin 2048) (d : Fin 1024) :
    out x e w (ix2 t d) = if rk E t < 51 then dotE (fun j : Fin 1024 => x (ix2 t j)) (fun j => w (ix3 (⟨E t, hlt t⟩ : Fin 32) j d)) else 0 := by
  rw [out_read, Finset.sum_eq_single (⟨E t, hlt t⟩ : Fin 32)]
  · rw [routed_at hE, select_ofBool]
    by_cases h : rk E t < 51 <;> simp [h]
  · intro k _ hk
    rw [routed_at hE, select_ofBool, if_neg (fun h => hk (Fin.ext h.1.symm))]
  · exact fun h => absurd (Finset.mem_univ _) h

/-- The reference runs and ends with `out` of its arguments, its arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = out (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.MoeVal

namespace Cert.MoePre
open Idealize.ShloMosaic Idealize.ShloMosaic.WordArith Idealize.ShloMosaic.IndicatorCount

section
open Cert.Pre_routes_name_experts_KernelIdeal

/-- The precondition says that every token's word is one of the 32 experts. -/
theorem experts_lt [Facts] {x : FVec Ideal S2048x1024 .f32} {r : FVec Ideal S1024x32 .f32} {e : IVec S2048x1 32} {w : FVec Ideal S8x1024x1024 .f32}
    (h : fn x r e w = fun _ => 1#1) (t : Fin 2048) : (e (ix2 t 0)).toNat < 32 := by
  haveI : Subsingleton S_.Idx := ⟨fun a b => funext fun k => k.elim0⟩
  have h1 := Host.reduce_andi_all _ _ _ _ _ (congrFun h (fun k => k.elim0)) (ix2 t 0)
  have h2 : IntOp.andi (IntOp.cmpi .sge (e (ix2 t 0)) 0#32) (IntOp.cmpi .slt (e (ix2 t 0)) 32#32) = 1#1 := h1
  unfold IntOp.cmpi at h2
  dsimp only at h2
  rw [andi_ofBool, ofBool_eq_one_iff, Bool.and_eq_true] at h2
  exact toNat_lt_of_zero_sle_of_slt_ofNat _ 32 (by decide) h2.1 h2.2
end
end Cert.MoePre
end
-- ==== Proof.lean ====
/-
  The claims: the kernel program runs to its end from any memory, with the floats as bit patterns and as extended reals,
  and leaves its arguments as they were and every counter at zero; so does the reference. Over the extended reals, where
  every token is routed to one of the 32 experts, the kernel's result on every device is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Value
public import proofs.«01_k».proof.Proof.Ref
public import Idealize.ShloMosaic.Lib.LayoutAt

@[expose] public section

noncomputable section

namespace Cert.Proof

open Idealize.ShloMosaic Idealize.SL.Sem

/-- The kernel over bit patterns ends, with its arguments unchanged and its counters at zero. -/
theorem frame_kernel : Cert.quiescent_Kernel (hKernel := Cert.Kernel.Gen.facts) := fun m g _ =>
  (θ_run _ _ _).mono (fun _ h => ⟨fun c => by obtain ⟨⟨h0, h1, h2, h3, -⟩, -⟩ := h.1 c; exact ⟨h0, h1, h2, h3⟩, h.2⟩)
    (Cert.Kernel.Moe.run_main (F := Bits) m g)

/-- The kernel over extended reals ends, with its arguments unchanged and its counters at zero. -/
theorem frame_kernelIdeal : Cert.quiescent_KernelIdeal (hKernelIdeal := Cert.KernelIdeal.Gen.facts) := fun m g _ =>
  (θ_run _ _ _).mono (fun _ h => ⟨fun c => by obtain ⟨⟨h0, h1, h2, h3, -⟩, -⟩ := h.1 c; exact ⟨h0, h1, h2, h3⟩, h.2⟩)
    (Cert.KernelIdeal.Moe.run_main (F := Ideal) m g)

/-- The reference ends, with its arguments unchanged and its counters at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The precondition's side conditions, at the kernel's arguments. -/
theorem pre_kernel : Cert.Pre_routes_name_experts_KernelIdeal.Facts where
  bcast_S_S2048x1 := by decide
  reducesTo_S2048x1_S_d0_1 := by decide
  h_S_ := by decide

/-- The precondition's side conditions, at the reference's arguments. -/
theorem pre_reference : Cert.Pre_routes_name_experts_ReferenceIdeal.Facts where
  bcast_S_S2048x1 := by decide
  reducesTo_S2048x1_S_d0_1 := by decide
  h_S_ := by decide

/-- From one array of tokens, one of experts, and the weights in blocks, the kernel and the reference end with one result. -/
theorem same_result : Cert.algebraic_KernelIdeal_ReferenceIdeal_pre_routes_name_experts_KernelIdeal
    (hKernelIdeal := Cert.KernelIdeal.Gen.facts) (hReferenceIdeal := Cert.ReferenceIdeal.Gen.facts)
    (hPre_routes_name_experts_KernelIdeal := pre_kernel) := by
  intro m g m' g' hpre hagree
  refine ⟨Cert.ReferenceIdeal.MoeVal.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_,
    (θ_run _ _ _).mono (fun _ h => h 0) (Cert.ReferenceIdeal.MoeVal.run_out m' g')⟩
  refine (θ_run _ _ _).mono (fun r h c => ?_) (Cert.KernelIdeal.Moe.run_main (F := Ideal) m g)
  obtain ⟨⟨h0, h1, h2, h3, h4⟩, -⟩ := h.1 c
  refine ⟨h4.trans ?_, h0, h1, h2, h3⟩
  have hlt : ∀ t : Fin 2048, (m' (((0 : Dev Cert.ReferenceIdeal.nD).tc : Thread Cert.ReferenceIdeal.nD Cert.ReferenceIdeal.τ).loc Cert.ReferenceIdeal.main_arg2) (ix2 t 0)).toNat < 32 := fun t => by
    haveI := pre_kernel
    have h := Cert.MoePre.experts_lt (hpre 0) t
    rwa [(hagree 0).2.2.1] at h
  funext i
  obtain ⟨t, d, rfl⟩ : ∃ (t : Fin 2048) (d : Fin 1024), i = ix2 t d := ⟨i 0, i 1, by funext k; fin_cases k <;> rfl⟩
  refine (Cert.KernelIdeal.MoeVal.kernel_value m _ _
    (m' (((0 : Dev Cert.ReferenceIdeal.nD).tc : Thread Cert.ReferenceIdeal.nD Cert.ReferenceIdeal.τ).loc Cert.ReferenceIdeal.main_arg3))
    (fun c => (hagree c).1) (fun c => (hagree c).2.2.1) (fun c k j d => ?_) _ (fun _ => rfl) hlt c t d).trans
    (Cert.ReferenceIdeal.MoeVal.out_value (fun _ => rfl) hlt _ _ t d).symm
  rw [(hagree c).2.2.2]
  unfold Cert.KernelIdeal.MoeVal.held
  shard_ext

theorem claim : Cert.Claim :=
  ⟨Cert.Kernel.Gen.facts, Cert.KernelIdeal.Gen.facts, Cert.ReferenceIdeal.Gen.facts, pre_kernel, pre_reference,
    frame_kernel, frame_kernelIdeal, fun m g _ => frame_kernelIdeal m g trivial, frame_reference, fun m g _ => frame_reference m g trivial,
    trivial, same_result⟩

end Cert.Proof

end
